-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.2.2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.2.2.2.2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))).2.2.2.2.2.2.2.2 = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S1024 : Shape := ⟨1, ![1024]⟩
abbrev S1024x50 : Shape := ⟨2, ![1024, 50]⟩
abbrev S1024x49 : Shape := ⟨2, ![1024, 49]⟩
abbrev S8x3 : Shape := ⟨2, ![8, 3]⟩
abbrev S289x5 : Shape := ⟨2, ![289, 5]⟩
abbrev S200141x16 : Shape := ⟨2, ![200141, 16]⟩
abbrev S1376567x16 : Shape := ⟨2, ![1376567, 16]⟩
abbrev S9x2 : Shape := ⟨2, ![9, 2]⟩
abbrev S6x2 : Shape := ⟨2, ![6, 2]⟩
abbrev S7x2 : Shape := ⟨2, ![7, 2]⟩
abbrev S8x2 : Shape := ⟨2, ![8, 2]⟩
abbrev S101009x15 : Shape := ⟨2, ![101009, 15]⟩
abbrev S_ : Shape := ⟨0, ![]⟩

class Facts : Prop where
  bcast_S_S1024 : S_.BroadcastsInDim S1024 (![] : Fin 0 → Fin S1024.rank)
  bcast_S_S1024x50 : S_.BroadcastsInDim S1024x50 (![] : Fin 0 → Fin S1024x50.rank)
  bcast_S_S1024x49 : S_.BroadcastsInDim S1024x49 (![] : Fin 0 → Fin S1024x49.rank)

variable [Facts]

def fn_part2 {F : FTy → Type} [FloatOps F] (main_arg7 : IVec S1024x50 32) (main_arg12 : IVec S1024x49 32) (main_v4 : IVec S1024 1) (main_v9 : IVec S1024 1) (main_v14 : IVec S1024 1) (main_v19 : IVec S1024x50 1) (main_v24 : IVec S1024x50 1) (main_v29 : IVec S1024x50 1) (main_v31 : IVec S1024x50 1) (main_v33 : IVec S1024x50 1) : IVec S1024 1 × IVec S1024 1 × IVec S1024 1 × IVec S1024x50 1 × IVec S1024x50 1 × IVec S1024x50 1 × IVec S1024x50 1 × IVec S1024x50 1 × IVec S1024x49 1 :=
  let main_v34 : IVec S1024x50 1 := andi main_v31 main_v33
  let main_c_13 : IVec S_ 32 := constantI S_ 32 0#32
  let main_v35 : IVec S1024x50 32 := broadcastInDim S1024x50 ![] bcast_S_S1024x50 main_c_13
  let main_v36 : IVec S1024x50 1 := cmpi .sge main_arg7 main_v35
  let main_c_14 : IVec S_ 32 := constantI S_ 32 8#32
  let main_v37 : IVec S1024x50 32 := broadcastInDim S1024x50 ![] bcast_S_S1024x50 main_c_14
  let main_v38 : IVec S1024x50 1 := cmpi .slt main_arg7 main_v37
  let main_v39 : IVec S1024x50 1 := andi main_v36 main_v38
  let main_c_15 : IVec S_ 32 := constantI S_ 32 0#32
  let main_v40 : IVec S1024x49 32 := broadcastInDim S1024x49 ![] bcast_S_S1024x49 main_c_15
  let main_v41 : IVec S1024x49 1 := cmpi .sge main_arg12 main_v40
  let main_c_16 : IVec S_ 32 := constantI S_ 32 101009#32
  let main_v42 : IVec S1024x49 32 := broadcastInDim S1024x49 ![] bcast_S_S1024x49 main_c_16
  let main_v43 : IVec S1024x49 1 := cmpi .slt main_arg12 main_v42
  let main_v44 : IVec S1024x49 1 := andi main_v41 main_v43
  (main_v4, main_v9, main_v14, main_v19, main_v24, main_v29, main_v34, main_v39, main_v44)

def fn_part1 {F : FTy → Type} [FloatOps F] (main_arg3 : IVec S1024x50 32) (main_arg4 : IVec S1024x50 32) (main_arg5 : IVec S1024x50 32) (main_arg6 : IVec S1024x50 32) (main_arg7 : IVec S1024x50 32) (main_arg12 : IVec S1024x49 32) (main_v4 : IVec S1024 1) (main_v9 : IVec S1024 1) (main_v14 : IVec S1024 1) (main_v16 : IVec S1024x50 1) : IVec S1024 1 × IVec S1024 1 × IVec S1024 1 × IVec S1024x50 1 × IVec S1024x50 1 × IVec S1024x50 1 × IVec S1024x50 1 × IVec S1024x50 1 × IVec S1024x49 1 :=
  let main_c_6 : IVec S_ 32 := constantI S_ 32 1376567#32
  let main_v17 : IVec S1024x50 32 := broadcastInDim S1024x50 ![] bcast_S_S1024x50 main_c_6
  let main_v18 : IVec S1024x50 1 := cmpi .slt main_arg3 main_v17
  let main_v19 : IVec S1024x50 1 := andi main_v16 main_v18
  let main_c_7 : IVec S_ 32 := constantI S_ 32 0#32
  let main_v20 : IVec S1024x50 32 := broadcastInDim S1024x50 ![] bcast_S_S1024x50 main_c_7
  let main_v21 : IVec S1024x50 1 := cmpi .sge main_arg4 main_v20
  let main_c_8 : IVec S_ 32 := constantI S_ 32 9#32
  let main_v22 : IVec S1024x50 32 := broadcastInDim S1024x50 ![] bcast_S_S1024x50 main_c_8
  let main_v23 : IVec S1024x50 1 := cmpi .slt main_arg4 main_v22
  let main_v24 : IVec S1024x50 1 := andi main_v21 main_v23
  let main_c_9 : IVec S_ 32 := constantI S_ 32 0#32
  let main_v25 : IVec S1024x50 32 := broadcastInDim S1024x50 ![] bcast_S_S1024x50 main_c_9
  let main_v26 : IVec S1024x50 1 := cmpi .sge main_arg5 main_v25
  let main_c_10 : IVec S_ 32 := constantI S_ 32 6#32
  let main_v27 : IVec S1024x50 32 := broadcastInDim S1024x50 ![] bcast_S_S1024x50 main_c_10
  let main_v28 : IVec S1024x50 1 := cmpi .slt main_arg5 main_v27
  let main_v29 : IVec S1024x50 1 := andi main_v26 main_v28
  let main_c_11 : IVec S_ 32 := constantI S_ 32 0#32
  let main_v30 : IVec S1024x50 32 := broadcastInDim S1024x50 ![] bcast_S_S1024x50 main_c_11
  let main_v31 : IVec S1024x50 1 := cmpi .sge main_arg6 main_v30
  let main_c_12 : IVec S_ 32 := constantI S_ 32 7#32
  let main_v32 : IVec S1024x50 32 := broadcastInDim S1024x50 ![] bcast_S_S1024x50 main_c_12
  let main_v33 : IVec S1024x50 1 := cmpi .slt main_arg6 main_v32
  fn_part2 (F := F) main_arg7 main_arg12 main_v4 main_v9 main_v14 main_v19 main_v24 main_v29 main_v31 main_v33

def fn {F : FTy → Type} [FloatOps F] (main_arg0 : IVec S1024 32) (main_arg1 : IVec S1024 32) (main_arg2 : IVec S1024 32) (main_arg3 : IVec S1024x50 32) (main_arg4 : IVec S1024x50 32) (main_arg5 : IVec S1024x50 32) (main_arg6 : IVec S1024x50 32) (main_arg7 : IVec S1024x50 32) (main_arg8 : FVec F S1024x50 .f32) (main_arg9 : FVec F S1024x50 .f32) (main_arg10 : FVec F S1024x50 .f32) (main_arg11 : FVec F S1024x50 .f32) (main_arg12 : IVec S1024x49 32) (main_arg13 : FVec F S1024x49 .f32) (main_arg14 : FVec F S8x3 .f32) (main_arg15 : FVec F S289x5 .f32) (main_arg16 : FVec F S200141x16 .f32) (main_arg17 : FVec F S1376567x16 .f32) (main_arg18 : FVec F S9x2 .f32) (main_arg19 : FVec F S6x2 .f32) (main_arg20 : FVec F S7x2 .f32) (main_arg21 : FVec F S8x2 .f32) (main_arg22 : FVec F S101009x15 .f32) : IVec S1024 1 × IVec S1024 1 × IVec S1024 1 × IVec S1024x50 1 × IVec S1024x50 1 × IVec S1024x50 1 × IVec S1024x50 1 × IVec S1024x50 1 × IVec S1024x49 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 8#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 32 := constantI S_ 32 0#32
  let main_v5 : IVec S1024 32 := broadcastInDim S1024 ![] bcast_S_S1024 main_c_1
  let main_v6 : IVec S1024 1 := cmpi .sge main_arg1 main_v5
  let main_c_2 : IVec S_ 32 := constantI S_ 32 289#32
  let main_v7 : IVec S1024 32 := broadcastInDim S1024 ![] bcast_S_S1024 main_c_2
  let main_v8 : IVec S1024 1 := cmpi .slt main_arg1 main_v7
  let main_v9 : IVec S1024 1 := andi main_v6 main_v8
  let main_c_3 : IVec S_ 32 := constantI S_ 32 0#32
  let main_v10 : IVec S1024 32 := broadcastInDim S1024 ![] bcast_S_S1024 main_c_3
  let main_v11 : IVec S1024 1 := cmpi .sge main_arg2 main_v10
  let main_c_4 : IVec S_ 32 := constantI S_ 32 200141#32
  let main_v12 : IVec S1024 32 := broadcastInDim S1024 ![] bcast_S_S1024 main_c_4
  let main_v13 : IVec S1024 1 := cmpi .slt main_arg2 main_v12
  let main_v14 : IVec S1024 1 := andi main_v11 main_v13
  let main_c_5 : IVec S_ 32 := constantI S_ 32 0#32
  let main_v15 : IVec S1024x50 32 := broadcastInDim S1024x50 ![] bcast_S_S1024x50 main_c_5
  let main_v16 : IVec S1024x50 1 := cmpi .sge main_arg3 main_v15
  fn_part1 (F := F) main_arg3 main_arg4 main_arg5 main_arg6 main_arg7 main_arg12 main_v4 main_v9 main_v14 main_v16
-- ==== Kernel.lean ====
abbrev S1024 : Shape := ⟨1, ![1024]⟩
abbrev S1024x50 : Shape := ⟨2, ![1024, 50]⟩
abbrev S1024x49 : Shape := ⟨2, ![1024, 49]⟩
abbrev S8x3 : Shape := ⟨2, ![8, 3]⟩
abbrev S289x5 : Shape := ⟨2, ![289, 5]⟩
abbrev S200141x16 : Shape := ⟨2, ![200141, 16]⟩
abbrev S1376567x16 : Shape := ⟨2, ![1376567, 16]⟩
abbrev S9x2 : Shape := ⟨2, ![9, 2]⟩
abbrev S6x2 : Shape := ⟨2, ![6, 2]⟩
abbrev S7x2 : Shape := ⟨2, ![7, 2]⟩
abbrev S8x2 : Shape := ⟨2, ![8, 2]⟩
abbrev S101009x15 : Shape := ⟨2, ![101009, 15]⟩
abbrev S_ : Shape := ⟨0, ![]⟩
abbrev S8x1x3 : Shape := ⟨3, ![8, 1, 3]⟩
abbrev S8x289x3 : Shape := ⟨3, ![8, 289, 3]⟩
abbrev S1x289x5 : Shape := ⟨3, ![1, 289, 5]⟩
abbrev S8x289x5 : Shape := ⟨3, ![8, 289, 5]⟩
abbrev S8x289x8 : Shape := ⟨3, ![8, 289, 8]⟩
abbrev S2312x8 : Shape := ⟨2, ![2312, 8]⟩
abbrev S9x1x1x1x2 : Shape := ⟨5, ![9, 1, 1, 1, 2]⟩
abbrev S9x6x7x8x2 : Shape := ⟨5, ![9, 6, 7, 8, 2]⟩
abbrev S1x6x1x1x2 : Shape := ⟨5, ![1, 6, 1, 1, 2]⟩
abbrev S1x1x7x1x2 : Shape := ⟨5, ![1, 1, 7, 1, 2]⟩
abbrev S1x1x1x8x2 : Shape := ⟨5, ![1, 1, 1, 8, 2]⟩
abbrev S9x6x7x8x8 : Shape := ⟨5, ![9, 6, 7, 8, 8]⟩
abbrev S3024x8 : Shape := ⟨2, ![3024, 8]⟩
abbrev S2312x16 : Shape := ⟨2, ![2312, 16]⟩
abbrev S3024x16 : Shape := ⟨2, ![3024, 16]⟩
abbrev S101009x16 : Shape := ⟨2, ![101009, 16]⟩
abbrev S32x32 : Shape := ⟨2, ![32, 32]⟩
abbrev S51200 : Shape := ⟨1, ![51200]⟩
abbrev S32x1600 : Shape := ⟨2, ![32, 1600]⟩
abbrev S32x1664 : Shape := ⟨2, ![32, 1664]⟩
abbrev S32x13x128 : Shape := ⟨3, ![32, 13, 128]⟩
abbrev S50176 : Shape := ⟨1, ![50176]⟩
abbrev S32x1568 : Shape := ⟨2, ![32, 1568]⟩
abbrev S1024x50x1 : Shape := ⟨3, ![1024, 50, 1]⟩
abbrev S1024x50x4 : Shape := ⟨3, ![1024, 50, 4]⟩
abbrev S32x1600x4 : Shape := ⟨3, ![32, 1600, 4]⟩
abbrev S1024x24 : Shape := ⟨2, ![1024, 24]⟩
abbrev S51200x28 : Shape := ⟨2, ![51200, 28]⟩
abbrev S50176x16 : Shape := ⟨2, ![50176, 16]⟩
abbrev S13x128 : Shape := ⟨2, ![13, 128]⟩
abbrev S1664x16 : Shape := ⟨2, ![1664, 16]⟩
abbrev S32 : Shape := ⟨1, ![32]⟩
abbrev S32x16 : Shape := ⟨2, ![32, 16]⟩
abbrev S1568 : Shape := ⟨1, ![1568]⟩
abbrev S1x32 : Shape := ⟨2, ![1, 32]⟩
abbrev S1x13x128 : Shape := ⟨3, ![1, 13, 128]⟩
abbrev S128x16 : Shape := ⟨2, ![128, 16]⟩
abbrev S1x128 : Shape := ⟨2, ![1, 128]⟩
abbrev S128 : Shape := ⟨1, ![128]⟩
abbrev S1600x4 : Shape := ⟨2, ![1600, 4]⟩
abbrev S1x1600x4 : Shape := ⟨3, ![1, 1600, 4]⟩
abbrev S1x1568 : Shape := ⟨2, ![1, 1568]⟩
abbrev S32x8 : Shape := ⟨2, ![32, 8]⟩
abbrev S1600x16 : Shape := ⟨2, ![1600, 16]⟩
abbrev S1600x8 : Shape := ⟨2, ![1600, 8]⟩
abbrev S16 : Shape := ⟨1, ![16]⟩
abbrev S1x16 : Shape := ⟨2, ![1, 16]⟩
abbrev S1 : Shape := ⟨1, ![1]⟩
abbrev S1568x16 : Shape := ⟨2, ![1568, 16]⟩
abbrev S1024x50x28 : Shape := ⟨3, ![1024, 50, 28]⟩
abbrev S1024x49x16 : Shape := ⟨3, ![1024, 49, 16]⟩

abbrev nBuf : Table → Nat
  | .hbm => 102
  | .local .scVector .vmem => 11
  | _ => 0

abbrev bufTy : (tb : Table) → Fin (nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S1024x50, .i32⟩
  | .hbm, ⟨4, _⟩ => ⟨S1024x50, .i32⟩
  | .hbm, ⟨5, _⟩ => ⟨S1024x50, .i32⟩
  | .hbm, ⟨6, _⟩ => ⟨S1024x50, .i32⟩
  | .hbm, ⟨7, _⟩ => ⟨S1024x50, .i32⟩
  | .hbm, ⟨8, _⟩ => ⟨S1024x50, .f32⟩
  | .hbm, ⟨9, _⟩ => ⟨S1024x50, .f32⟩
  | .hbm, ⟨10, _⟩ => ⟨S1024x50, .f32⟩
  | .hbm, ⟨11, _⟩ => ⟨S1024x50, .f32⟩
  | .hbm, ⟨12, _⟩ => ⟨S1024x49, .i32⟩
  | .hbm, ⟨13, _⟩ => ⟨S1024x49, .f32⟩
  | .hbm, ⟨14, _⟩ => ⟨S8x3, .f32⟩
  | .hbm, ⟨15, _⟩ => ⟨S289x5, .f32⟩
  | .hbm, ⟨16, _⟩ => ⟨S200141x16, .f32⟩
  | .hbm, ⟨17, _⟩ => ⟨S1376567x16, .f32⟩
  | .hbm, ⟨18, _⟩ => ⟨S9x2, .f32⟩
  | .hbm, ⟨19, _⟩ => ⟨S6x2, .f32⟩
  | .hbm, ⟨20, _⟩ => ⟨S7x2, .f32⟩
  | .hbm, ⟨21, _⟩ => ⟨S8x2, .f32⟩
  | .hbm, ⟨22, _⟩ => ⟨S101009x15, .f32⟩
  | .hbm, ⟨23, _⟩ => ⟨S_, .f32⟩
  | .hbm, ⟨24, _⟩ => ⟨S_, .f32⟩
  | .hbm, ⟨25, _⟩ => ⟨S1376567x16, .f32⟩
  | .hbm, ⟨26, _⟩ => ⟨S1376567x16, .f32⟩
  | .hbm, ⟨27, _⟩ => ⟨S200141x16, .f32⟩
  | .hbm, ⟨28, _⟩ => ⟨S200141x16, .f32⟩
  | .hbm, ⟨29, _⟩ => ⟨S8x1x3, .f32⟩
  | .hbm, ⟨30, _⟩ => ⟨S8x289x3, .f32⟩
  | .hbm, ⟨31, _⟩ => ⟨S1x289x5, .f32⟩
  | .hbm, ⟨32, _⟩ => ⟨S8x289x5, .f32⟩
  | .hbm, ⟨33, _⟩ => ⟨S8x289x8, .f32⟩
  | .hbm, ⟨34, _⟩ => ⟨S2312x8, .f32⟩
  | .hbm, ⟨35, _⟩ => ⟨S9x1x1x1x2, .f32⟩
  | .hbm, ⟨36, _⟩ => ⟨S9x6x7x8x2, .f32⟩
  | .hbm, ⟨37, _⟩ => ⟨S1x6x1x1x2, .f32⟩
  | .hbm, ⟨38, _⟩ => ⟨S9x6x7x8x2, .f32⟩
  | .hbm, ⟨39, _⟩ => ⟨S1x1x7x1x2, .f32⟩
  | .hbm, ⟨40, _⟩ => ⟨S9x6x7x8x2, .f32⟩
  | .hbm, ⟨41, _⟩ => ⟨S1x1x1x8x2, .f32⟩
  | .hbm, ⟨42, _⟩ => ⟨S9x6x7x8x2, .f32⟩
  | .hbm, ⟨43, _⟩ => ⟨S9x6x7x8x8, .f32⟩
  | .hbm, ⟨44, _⟩ => ⟨S3024x8, .f32⟩
  | .hbm, ⟨45, _⟩ => ⟨S_, .i32⟩
  | .hbm, ⟨46, _⟩ => ⟨S_, .f32⟩
  | .hbm, ⟨47, _⟩ => ⟨S2312x16, .f32⟩
  | .hbm, ⟨48, _⟩ => ⟨S_, .i32⟩
  | .hbm, ⟨49, _⟩ => ⟨S_, .f32⟩
  | .hbm, ⟨50, _⟩ => ⟨S3024x16, .f32⟩
  | .hbm, ⟨51, _⟩ => ⟨S_, .i32⟩
  | .hbm, ⟨52, _⟩ => ⟨S_, .f32⟩
  | .hbm, ⟨53, _⟩ => ⟨S101009x16, .f32⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S32x32, .i32⟩
  | .hbm, ⟨59, _⟩ => ⟨S_, .i32⟩
  | .hbm, ⟨60, _⟩ => ⟨S1024x50, .i32⟩
  | .hbm, ⟨61, _⟩ => ⟨S1024x50, .i32⟩
  | .hbm, ⟨62, _⟩ => ⟨S1024x50, .i32⟩
  | .hbm, ⟨63, _⟩ => ⟨S_, .i32⟩
  | .hbm, ⟨64, _⟩ => ⟨S1024x50, .i32⟩
  | .hbm, ⟨65, _⟩ => ⟨S1024x50, .i32⟩
  | .hbm, ⟨66, _⟩ => ⟨S1024x50, .i32⟩
  | .hbm, ⟨67, _⟩ => ⟨S_, .i32⟩
  | .hbm, ⟨68, _⟩ => ⟨S1024x50, .i32⟩
  | .hbm, ⟨69, _⟩ => ⟨S1024x50, .i32⟩
  | .hbm, ⟨70, _⟩ => ⟨S1024x50, .i32⟩
  | .hbm, ⟨71, _⟩ => ⟨S32x32, .i32⟩
  | .hbm, ⟨72, _⟩ => ⟨S51200, .i32⟩
  | .hbm, ⟨73, _⟩ => ⟨S32x1600, .i32⟩
  | .hbm, ⟨74, _⟩ => ⟨S_, .i32⟩
  | .hbm, ⟨75, _⟩ => ⟨S_, .i32⟩
  | .hbm, ⟨76, _⟩ => ⟨S32x1664, .i32⟩
  | .hbm, ⟨77, _⟩ => ⟨S32x13x128, .i32⟩
  | .hbm, ⟨78, _⟩ => ⟨S51200, .i32⟩
  | .hbm, ⟨79, _⟩ => ⟨S32x1600, .i32⟩
  | .hbm, ⟨80, _⟩ => ⟨S_, .i32⟩
  | .hbm, ⟨81, _⟩ => ⟨S_, .i32⟩
  | .hbm, ⟨82, _⟩ => ⟨S32x1664, .i32⟩
  | .hbm, ⟨83, _⟩ => ⟨S32x13x128, .i32⟩
  | .hbm, ⟨84, _⟩ => ⟨S50176, .i32⟩
  | .hbm, ⟨85, _⟩ => ⟨S32x1568, .i32⟩
  | .hbm, ⟨86, _⟩ => ⟨S_, .i32⟩
  | .hbm, ⟨87, _⟩ => ⟨S_, .i32⟩
  | .hbm, ⟨88, _⟩ => ⟨S32x1664, .i32⟩
  | .hbm, ⟨89, _⟩ => ⟨S32x13x128, .i32⟩
  | .hbm, ⟨90, _⟩ => ⟨S1024x50x1, .f32⟩
  | .hbm, ⟨91, _⟩ => ⟨S1024x50x1, .f32⟩
  | .hbm, ⟨92, _⟩ => ⟨S1024x50x1, .f32⟩
  | .hbm, ⟨93, _⟩ => ⟨S1024x50x1, .f32⟩
  | .hbm, ⟨94, _⟩ => ⟨S1024x50x4, .f32⟩
  | .hbm, ⟨95, _⟩ => ⟨S32x1600x4, .f32⟩
  | .hbm, ⟨96, _⟩ => ⟨S32x1568, .f32⟩
  | .hbm, ⟨97, _⟩ => ⟨S1024x24, .f32⟩
  | .hbm, ⟨98, _⟩ => ⟨S51200x28, .f32⟩
  | .hbm, ⟨99, _⟩ => ⟨S50176x16, .f32⟩
  | .hbm, ⟨100, _⟩ => ⟨S1024x50x28, .f32⟩
  | .hbm, ⟨101, _⟩ => ⟨S1024x49x16, .f32⟩
  | .local .scVector .vmem, ⟨0, _⟩ => ⟨S13x128, .i32⟩
  | .local .scVector .vmem, ⟨1, _⟩ => ⟨S13x128, .i32⟩
  | .local .scVector .vmem, ⟨2, _⟩ => ⟨S13x128, .i32⟩
  | .local .scVector .vmem, ⟨3, _⟩ => ⟨S1664x16, .f32⟩
  | .local .scVector .vmem, ⟨4, _⟩ => ⟨S1664x16, .f32⟩
  | .local .scVector .vmem, ⟨5, _⟩ => ⟨S1664x16, .f32⟩
  | .local .scVector .vmem, ⟨6, _⟩ => ⟨S32, .i32⟩
  | .local .scVector .vmem, ⟨7, _⟩ => ⟨S32, .i32⟩
  | .local .scVector .vmem, ⟨8, _⟩ => ⟨S32x16, .f32⟩
  | .local .scVector .vmem, ⟨9, _⟩ => ⟨S32x16, .f32⟩
  | .local .scVector .vmem, ⟨10, _⟩ => ⟨S1568, .f32⟩
  | _, _ => ⟨S1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_call0_v0 : Ref sig .tc := ⟨.hbm, 46, rfl⟩
abbrev main_v21 : Ref sig .tc := ⟨.hbm, 47, rfl⟩
abbrev main_c_0 : Ref sig .tc := ⟨.hbm, 48, rfl⟩
abbrev main_call1_v0 : Ref sig .tc := ⟨.hbm, 49, rfl⟩
abbrev main_v22 : Ref sig .tc := ⟨.hbm, 50, rfl⟩
abbrev main_c_1 : Ref sig .tc := ⟨.hbm, 51, rfl⟩
abbrev main_call2_v0 : Ref sig .tc := ⟨.hbm, 52, rfl⟩
abbrev main_v23 : Ref sig .tc := ⟨.hbm, 53, rfl⟩
abbrev main_c_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_6 : Ref sig .tc := ⟨.hbm, 74, rfl⟩
abbrev main_call3_v0 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_7 : Ref sig .tc := ⟨.hbm, 80, rfl⟩
abbrev main_call4_v0 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_call5_v0 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57_0 : Ref sig .tc := ⟨.hbm, 97, rfl⟩
abbrev main_v57_1 : Ref sig .tc := ⟨.hbm, 98, rfl⟩
abbrev main_v57_2 : Ref sig .tc := ⟨.hbm, 99, rfl⟩
abbrev main_v58 : Ref sig .tc := ⟨.hbm, 100, rfl⟩
abbrev main_v59 : Ref sig .tc := ⟨.hbm, 101, rfl⟩
abbrev main_v27_scv : Ref sig .scVector := ⟨.hbm, 58, rfl⟩
abbrev main_v37_scv : Ref sig .scVector := ⟨.hbm, 71, rfl⟩
abbrev main_v41_scv : Ref sig .scVector := ⟨.hbm, 77, rfl⟩
abbrev main_v45_scv : Ref sig .scVector := ⟨.hbm, 83, rfl⟩
abbrev main_v55_scv : Ref sig .scVector := ⟨.hbm, 95, rfl⟩
abbrev main_v49_scv : Ref sig .scVector := ⟨.hbm, 89, rfl⟩
abbrev main_v56_scv : Ref sig .scVector := ⟨.hbm, 96, rfl⟩
abbrev main_v21_scv : Ref sig .scVector := ⟨.hbm, 47, rfl⟩
abbrev main_v4_scv : Ref sig .scVector := ⟨.hbm, 28, rfl⟩
abbrev main_v2_scv : Ref sig .scVector := ⟨.hbm, 26, rfl⟩
abbrev main_v22_scv : Ref sig .scVector := ⟨.hbm, 50, rfl⟩
abbrev main_v23_scv : Ref sig .scVector := ⟨.hbm, 53, rfl⟩
abbrev main_v57_0_scv : Ref sig .scVector := ⟨.hbm, 97, rfl⟩
abbrev main_v57_1_scv : Ref sig .scVector := ⟨.hbm, 98, rfl⟩
abbrev main_v57_2_scv : Ref sig .scVector := ⟨.hbm, 99, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_459_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_459_r2 : BitVec 32 := 0#32
  let c0_i32_460_r2 : BitVec 32 := 0#32
  ![v1.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v160 : BitVec 32 := Scalar.muli v1 c1600_i32
  let c24_i32_r5 : BitVec 32 := 24#32
  ![v160.toNat, 24]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_459_r5 : BitVec 32 := 0#32
  let c0_i32_460_r5 : BitVec 32 := 0#32
  ![v1.toNat, 0, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_459_r6 : BitVec 32 := 0#32
  ![v1.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v162 : BitVec 32 := Scalar.muli v1 c32_i32
  let c0_i32_461_r7 : BitVec 32 := 0#32
  ![v162.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_218 : BitVec 32 := 32#32
  let v164 : BitVec 32 := Scalar.muli v1 c32_i32_218
  let c8_i32_459_r8 : BitVec 32 := 8#32
  ![v164.toNat, 8]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32_297 : BitVec 32 := 1600#32
  let v217 : BitVec 32 := Scalar.muli v1 c1600_i32_297
  let c0_i32_461_r9 : BitVec 32 := 0#32
  ![v217.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32_376 : BitVec 32 := 1600#32
  let v270 : BitVec 32 := Scalar.muli v1 c1600_i32_376
  let c16_i32_r10 : BitVec 32 := 16#32
  ![v270.toNat, 16]
@[reducible] def k0_t1_loop : Scf.Loop 32 :=
  let c0_i32_456 : BitVec 32 := 0#32
  let c98_i32 : BitVec 32 := 98#32
  let v326 : BitVec 32 := Scalar.addi c0_i32_456 c98_i32
  let c1_i32_457 : BitVec 32 := 1#32
  ⟨c0_i32_456, v326, c1_i32_457⟩
def k0_off10 (k0_t1 : Fin k0_t1_loop.trips) : Fin 1 → Nat :=
  let c0_i32_456 : BitVec 32 := 0#32
  let c1_i32_457 : BitVec 32 := 1#32
  let arg33 : BitVec 32 := Scf.iv c0_i32_456 c1_i32_457 k0_t1
  let c16_i32 : BitVec 32 := 16#32
  let v328 : BitVec 32 := Scalar.muli arg33 c16_i32
  let v329 : Index := Scalar.indexCast v328
  ![v329.toNat]
def k0_off11 (k0_t1 : Fin k0_t1_loop.trips) (c0_i32_459 : BitVec 32) : Fin 2 → Nat :=
  let c0_i32_456 : BitVec 32 := 0#32
  let c1_i32_457 : BitVec 32 := 1#32
  let arg33 : BitVec 32 := Scf.iv c0_i32_456 c1_i32_457 k0_t1
  let c16_i32 : BitVec 32 := 16#32
  let v328 : BitVec 32 := Scalar.muli arg33 c16_i32
  let v332 : BitVec 32 := Scalar.addi v328 c0_i32_459
  let v333 : Index := Scalar.indexCast v332
  let c0 : Index := 0#32
  ![v333.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32 : BitVec 32 := 1568#32
  let v327 : BitVec 32 := Scalar.muli v1 c1568_i32
  let c0_i32_461_r11 : BitVec 32 := 0#32
  ![v327.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S1024x50 : Shape := ⟨2, ![1024, 50]⟩
abbrev S1024x49 : Shape := ⟨2, ![1024, 49]⟩
abbrev S8x3 : Shape := ⟨2, ![8, 3]⟩
abbrev S289x5 : Shape := ⟨2, ![289, 5]⟩
abbrev S200141x16 : Shape := ⟨2, ![200141, 16]⟩
abbrev S1376567x16 : Shape := ⟨2, ![1376567, 16]⟩
abbrev S9x2 : Shape := ⟨2, ![9, 2]⟩
abbrev S6x2 : Shape := ⟨2, ![6, 2]⟩
abbrev S7x2 : Shape := ⟨2, ![7, 2]⟩
abbrev S8x2 : Shape := ⟨2, ![8, 2]⟩
abbrev S101009x15 : Shape := ⟨2, ![101009, 15]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S1024x1x3 : Shape := ⟨3, ![1024, 1, 3]⟩
abbrev S1024x1x5 : Shape := ⟨3, ![1024, 1, 5]⟩
abbrev S1024x1x16 : Shape := ⟨3, ![1024, 1, 16]⟩
abbrev S1024x1x24 : Shape := ⟨3, ![1024, 1, 24]⟩
abbrev S1024x24 : Shape := ⟨2, ![1024, 24]⟩
abbrev S1024x50x1 : Shape := ⟨3, ![1024, 50, 1]⟩
abbrev S1024x50x16 : Shape := ⟨3, ![1024, 50, 16]⟩
abbrev S1024x50x2 : Shape := ⟨3, ![1024, 50, 2]⟩
abbrev S1024x50x28 : Shape := ⟨3, ![1024, 50, 28]⟩
abbrev S1024x49x1 : Shape := ⟨3, ![1024, 49, 1]⟩
abbrev S1024x49x15 : Shape := ⟨3, ![1024, 49, 15]⟩
abbrev S1024x49x16 : Shape := ⟨3, ![1024, 49, 16]⟩

abbrev nBuf : Space → Nat
  | .hbm => 242
  | .vmem => 0
  | .smem => 0
  | _ => 0

abbrev hbmTy0_0 (i : Nat) : BufTy := match i % 128 with
  | 0 => ⟨S1024, .i32⟩
  | 1 => ⟨S1024, .i32⟩
  | 2 => ⟨S1024, .i32⟩
  | 3 => ⟨S1024x50, .i32⟩
  | 4 => ⟨S1024x50, .i32⟩
  | 5 => ⟨S1024x50, .i32⟩
  | 6 => ⟨S1024x50, .i32⟩
  | 7 => ⟨S1024x50, .i32⟩
  | 8 => ⟨S1024x50, .f32⟩
  | 9 => ⟨S1024x50, .f32⟩
  | 10 => ⟨S1024x50, .f32⟩
  | 11 => ⟨S1024x50, .f32⟩
  | 12 => ⟨S1024x49, .i32⟩
  | 13 => ⟨S1024x49, .f32⟩
  | 14 => ⟨S8x3, .f32⟩
  | 15 => ⟨S289x5, .f32⟩
  | 16 => ⟨S200141x16, .f32⟩
  | 17 => ⟨S1376567x16, .f32⟩
  | 18 => ⟨S9x2, .f32⟩
  | 19 => ⟨S6x2, .f32⟩
  | 20 => ⟨S7x2, .f32⟩
  | 21 => ⟨S8x2, .f32⟩
  | 22 => ⟨S101009x15, .f32⟩
  | 23 => ⟨S1024x1, .i32⟩
  | 24 => ⟨S_, .i32⟩
  | 25 => ⟨S1024x1, .i32⟩
  | 26 => ⟨S1024x1, .i1⟩
  | 27 => ⟨S_, .i32⟩
  | 28 => ⟨S1024x1, .i32⟩
  | 29 => ⟨S1024x1, .i32⟩
  | 30 => ⟨S1024x1, .i32⟩
  | 31 => ⟨S1024x1x1, .i32⟩
  | 32 => ⟨S1, .i32⟩
  | 33 => ⟨S_, .i32⟩
  | 34 => ⟨S1024x1x1, .i32⟩
  | 35 => ⟨S1024x1x1, .i1⟩
  | 36 => ⟨S1x1x1, .i32⟩
  | 37 => ⟨S1024x1x1, .i32⟩
  | 38 => ⟨S1024x1x1, .i1⟩
  | 39 => ⟨S1024x1x1, .i1⟩
  | 40 => ⟨S_, .i1⟩
  | 41 => ⟨S1024x1, .i1⟩
  | 42 => ⟨S1024x1x3, .f32⟩
  | 43 => ⟨S1024x1x3, .i1⟩
  | 44 => ⟨S_, .f32⟩
  | 45 => ⟨S1024x1x3, .f32⟩
  | 46 => ⟨S1024x1x3, .f32⟩
  | 47 => ⟨S1024x1, .i32⟩
  | 48 => ⟨S_, .i32⟩
  | 49 => ⟨S1024x1, .i32⟩
  | 50 => ⟨S1024x1, .i1⟩
  | 51 => ⟨S_, .i32⟩
  | 52 => ⟨S1024x1, .i32⟩
  | 53 => ⟨S1024x1, .i32⟩
  | 54 => ⟨S1024x1, .i32⟩
  | 55 => ⟨S1024x1x1, .i32⟩
  | 56 => ⟨S1, .i32⟩
  | 57 => ⟨S_, .i32⟩
  | 58 => ⟨S1024x1x1, .i32⟩
  | 59 => ⟨S1024x1x1, .i1⟩
  | 60 => ⟨S1x1x1, .i32⟩
  | 61 => ⟨S1024x1x1, .i32⟩
  | 62 => ⟨S1024x1x1, .i1⟩
  | 63 => ⟨S1024x1x1, .i1⟩
  | 64 => ⟨S_, .i1⟩
  | 65 => ⟨S1024x1, .i1⟩
  | 66 => ⟨S1024x1x5, .f32⟩
  | 67 => ⟨S1024x1x5, .i1⟩
  | 68 => ⟨S_, .f32⟩
  | 69 => ⟨S1024x1x5, .f32⟩
  | 70 => ⟨S1024x1x5, .f32⟩
  | 71 => ⟨S1024x1, .i32⟩
  | 72 => ⟨S_, .i32⟩
  | 73 => ⟨S1024x1, .i32⟩
  | 74 => ⟨S1024x1, .i1⟩
  | 75 => ⟨S_, .i32⟩
  | 76 => ⟨S1024x1, .i32⟩
  | 77 => ⟨S1024x1, .i32⟩
  | 78 => ⟨S1024x1, .i32⟩
  | 79 => ⟨S1024x1x1, .i32⟩
  | 80 => ⟨S1, .i32⟩
  | 81 => ⟨S_, .i32⟩
  | 82 => ⟨S1024x1x1, .i32⟩
  | 83 => ⟨S1024x1x1, .i1⟩
  | 84 => ⟨S1x1x1, .i32⟩
  | 85 => ⟨S1024x1x1, .i32⟩
  | 86 => ⟨S1024x1x1, .i1⟩
  | 87 => ⟨S1024x1x1, .i1⟩
  | 88 => ⟨S_, .i1⟩
  | 89 => ⟨S1024x1, .i1⟩
  | 90 => ⟨S1024x1x16, .f32⟩
  | 91 => ⟨S1024x1x16, .i1⟩
  | 92 => ⟨S_, .f32⟩
  | 93 => ⟨S1024x1x16, .f32⟩
  | 94 => ⟨S1024x1x16, .f32⟩
  | 95 => ⟨S1024x1x24, .f32⟩
  | 96 => ⟨S1024x24, .f32⟩
  | 97 => ⟨S_, .i32⟩
  | 98 => ⟨S1024x50, .i32⟩
  | 99 => ⟨S1024x50, .i1⟩
  | 100 => ⟨S_, .i32⟩
  | 101 => ⟨S1024x50, .i32⟩
  | 102 => ⟨S1024x50, .i32⟩
  | 103 => ⟨S1024x50, .i32⟩
  | 104 => ⟨S1024x50x1, .i32⟩
  | 105 => ⟨S1, .i32⟩
  | 106 => ⟨S_, .i32⟩
  | 107 => ⟨S1024x50x1, .i32⟩
  | 108 => ⟨S1024x50x1, .i1⟩
  | 109 => ⟨S1x1x1, .i32⟩
  | 110 => ⟨S1024x50x1, .i32⟩
  | 111 => ⟨S1024x50x1, .i1⟩
  | 112 => ⟨S1024x50x1, .i1⟩
  | 113 => ⟨S_, .i1⟩
  | 114 => ⟨S1024x50, .i1⟩
  | 115 => ⟨S1024x50x16, .f32⟩
  | 116 => ⟨S1024x50x16, .i1⟩
  | 117 => ⟨S_, .f32⟩
  | 118 => ⟨S1024x50x16, .f32⟩
  | 119 => ⟨S1024x50x16, .f32⟩
  | 120 => ⟨S_, .i32⟩
  | 121 => ⟨S1024x50, .i32⟩
  | 122 => ⟨S1024x50, .i1⟩
  | 123 => ⟨S_, .i32⟩
  | 124 => ⟨S1024x50, .i32⟩
  | 125 => ⟨S1024x50, .i32⟩
  | 126 => ⟨S1024x50, .i32⟩
  | 127 => ⟨S1024x50x1, .i32⟩
  | _ => ⟨S1024, .i32⟩

abbrev hbmTy0_1 (i : Nat) : BufTy := match i % 128 with
  | 0 => ⟨S1, .i32⟩
  | 1 => ⟨S_, .i32⟩
  | 2 => ⟨S1024x50x1, .i32⟩
  | 3 => ⟨S1024x50x1, .i1⟩
  | 4 => ⟨S1x1x1, .i32⟩
  | 5 => ⟨S1024x50x1, .i32⟩
  | 6 => ⟨S1024x50x1, .i1⟩
  | 7 => ⟨S1024x50x1, .i1⟩
  | 8 => ⟨S_, .i1⟩
  | 9 => ⟨S1024x50, .i1⟩
  | 10 => ⟨S1024x50x2, .f32⟩
  | 11 => ⟨S1024x50x2, .i1⟩
  | 12 => ⟨S_, .f32⟩
  | 13 => ⟨S1024x50x2, .f32⟩
  | 14 => ⟨S1024x50x2, .f32⟩
  | 15 => ⟨S_, .i32⟩
  | 16 => ⟨S1024x50, .i32⟩
  | 17 => ⟨S1024x50, .i1⟩
  | 18 => ⟨S_, .i32⟩
  | 19 => ⟨S1024x50, .i32⟩
  | 20 => ⟨S1024x50, .i32⟩
  | 21 => ⟨S1024x50, .i32⟩
  | 22 => ⟨S1024x50x1, .i32⟩
  | 23 => ⟨S1, .i32⟩
  | 24 => ⟨S_, .i32⟩
  | 25 => ⟨S1024x50x1, .i32⟩
  | 26 => ⟨S1024x50x1, .i1⟩
  | 27 => ⟨S1x1x1, .i32⟩
  | 28 => ⟨S1024x50x1, .i32⟩
  | 29 => ⟨S1024x50x1, .i1⟩
  | 30 => ⟨S1024x50x1, .i1⟩
  | 31 => ⟨S_, .i1⟩
  | 32 => ⟨S1024x50, .i1⟩
  | 33 => ⟨S1024x50x2, .f32⟩
  | 34 => ⟨S1024x50x2, .i1⟩
  | 35 => ⟨S_, .f32⟩
  | 36 => ⟨S1024x50x2, .f32⟩
  | 37 => ⟨S1024x50x2, .f32⟩
  | 38 => ⟨S_, .i32⟩
  | 39 => ⟨S1024x50, .i32⟩
  | 40 => ⟨S1024x50, .i1⟩
  | 41 => ⟨S_, .i32⟩
  | 42 => ⟨S1024x50, .i32⟩
  | 43 => ⟨S1024x50, .i32⟩
  | 44 => ⟨S1024x50, .i32⟩
  | 45 => ⟨S1024x50x1, .i32⟩
  | 46 => ⟨S1, .i32⟩
  | 47 => ⟨S_, .i32⟩
  | 48 => ⟨S1024x50x1, .i32⟩
  | 49 => ⟨S1024x50x1, .i1⟩
  | 50 => ⟨S1x1x1, .i32⟩
  | 51 => ⟨S1024x50x1, .i32⟩
  | 52 => ⟨S1024x50x1, .i1⟩
  | 53 => ⟨S1024x50x1, .i1⟩
  | 54 => ⟨S_, .i1⟩
  | 55 => ⟨S1024x50, .i1⟩
  | 56 => ⟨S1024x50x2, .f32⟩
  | 57 => ⟨S1024x50x2, .i1⟩
  | 58 => ⟨S_, .f32⟩
  | 59 => ⟨S1024x50x2, .f32⟩
  | 60 => ⟨S1024x50x2, .f32⟩
  | 61 => ⟨S_, .i32⟩
  | 62 => ⟨S1024x50, .i32⟩
  | 63 => ⟨S1024x50, .i1⟩
  | 64 => ⟨S_, .i32⟩
  | 65 => ⟨S1024x50, .i32⟩
  | 66 => ⟨S1024x50, .i32⟩
  | 67 => ⟨S1024x50, .i32⟩
  | 68 => ⟨S1024x50x1, .i32⟩
  | 69 => ⟨S1, .i32⟩
  | 70 => ⟨S_, .i32⟩
  | 71 => ⟨S1024x50x1, .i32⟩
  | 72 => ⟨S1024x50x1, .i1⟩
  | 73 => ⟨S1x1x1, .i32⟩
  | 74 => ⟨S1024x50x1, .i32⟩
  | 75 => ⟨S1024x50x1, .i1⟩
  | 76 => ⟨S1024x50x1, .i1⟩
  | 77 => ⟨S_, .i1⟩
  | 78 => ⟨S1024x50, .i1⟩
  | 79 => ⟨S1024x50x2, .f32⟩
  | 80 => ⟨S1024x50x2, .i1⟩
  | 81 => ⟨S_, .f32⟩
  | 82 => ⟨S1024x50x2, .f32⟩
  | 83 => ⟨S1024x50x2, .f32⟩
  | 84 => ⟨S1024x50x1, .f32⟩
  | 85 => ⟨S1024x50x1, .f32⟩
  | 86 => ⟨S1024x50x1, .f32⟩
  | 87 => ⟨S1024x50x1, .f32⟩
  | 88 => ⟨S1024x50x28, .f32⟩
  | 89 => ⟨S_, .i32⟩
  | 90 => ⟨S1024x49, .i32⟩
  | 91 => ⟨S1024x49, .i1⟩
  | 92 => ⟨S_, .i32⟩
  | 93 => ⟨S1024x49, .i32⟩
  | 94 => ⟨S1024x49, .i32⟩
  | 95 => ⟨S1024x49, .i32⟩
  | 96 => ⟨S1024x49x1, .i32⟩
  | 97 => ⟨S1, .i32⟩
  | 98 => ⟨S_, .i32⟩
  | 99 => ⟨S1024x49x1, .i32⟩
  | 100 => ⟨S1024x49x1, .i1⟩
  | 101 => ⟨S1x1x1, .i32⟩
  | 102 => ⟨S1024x49x1, .i32⟩
  | 103 => ⟨S1024x49x1, .i1⟩
  | 104 => ⟨S1024x49x1, .i1⟩
  | 105 => ⟨S_, .i1⟩
  | 106 => ⟨S1024x49, .i1⟩
  | 107 => ⟨S1024x49x15, .f32⟩
  | 108 => ⟨S1024x49x15, .i1⟩
  | 109 => ⟨S_, .f32⟩
  | 110 => ⟨S1024x49x15, .f32⟩
  | 111 => ⟨S1024x49x15, .f32⟩
  | 112 => ⟨S1024x49x1, .f32⟩
  | 113 => ⟨S1024x49x16, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v1 : Ref sig .tc := ⟨.hbm, 46, rfl⟩
abbrev main_v2 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v3 : Ref sig .tc := ⟨.hbm, 70, rfl⟩
abbrev main_v4 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v5 : Ref sig .tc := ⟨.hbm, 94, rfl⟩
abbrev main_v6 : Ref sig .tc := ⟨.hbm, 95, rfl⟩
abbrev main_v7 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v8 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v9 : Ref sig .tc := ⟨.hbm, 142, rfl⟩
abbrev main_call5_c : Ref sig .tc := ⟨.hbm, 143, rfl⟩
abbrev main_call5_v0 : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_c_1 : Ref sig .tc := ⟨.hbm, 151, rfl⟩
abbrev main_call5_c_2 : Ref sig .tc := ⟨.hbm, 152, rfl⟩
abbrev main_call5_v6 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_c_3 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_call5_cst : Ref sig .tc := ⟨.hbm, 163, rfl⟩
abbrev main_call5_v15 : Ref sig .tc := ⟨.hbm, 164, rfl⟩
abbrev main_v10 : Ref sig .tc := ⟨.hbm, 165, rfl⟩
abbrev main_call6_c : Ref sig .tc := ⟨.hbm, 166, rfl⟩
abbrev main_call6_v0 : Ref sig .tc := ⟨.hbm, 167, rfl⟩
abbrev main_call6_v1 : Ref sig .tc := ⟨.hbm, 168, rfl⟩
abbrev main_call6_c_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_c_1 : Ref sig .tc := ⟨.hbm, 174, rfl⟩
abbrev main_call6_c_2 : Ref sig .tc := ⟨.hbm, 175, rfl⟩
abbrev main_call6_v6 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_3 : Ref sig .tc := ⟨.hbm, 182, rfl⟩
abbrev main_call6_v12 : Ref sig .tc := ⟨.hbm, 183, rfl⟩
abbrev main_call6_v13 : Ref sig .tc := ⟨.hbm, 184, rfl⟩
abbrev main_call6_v14 : Ref sig .tc := ⟨.hbm, 185, rfl⟩
abbrev main_call6_cst : Ref sig .tc := ⟨.hbm, 186, rfl⟩
abbrev main_call6_v15 : Ref sig .tc := ⟨.hbm, 187, rfl⟩
abbrev main_v11 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v12 : Ref sig .tc := ⟨.hbm, 211, rfl⟩
abbrev main_v13 : Ref sig .tc := ⟨.hbm, 212, rfl⟩
abbrev main_v14 : Ref sig .tc := ⟨.hbm, 213, rfl⟩
abbrev main_v15 : Ref sig .tc := ⟨.hbm, 214, rfl⟩
abbrev main_v16 : Ref sig .tc := ⟨.hbm, 215, rfl⟩
abbrev main_v17 : Ref sig .tc := ⟨.hbm, 216, rfl⟩
abbrev main_call8_c : Ref sig .tc := ⟨.hbm, 217, rfl⟩
abbrev main_call8_v0 : Ref sig .tc := ⟨.hbm, 218, rfl⟩
abbrev main_call8_v1 : Ref sig .tc := ⟨.hbm, 219, rfl⟩
abbrev main_call8_c_0 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_call8_v5 : Ref sig .tc := ⟨.hbm, 224, rfl⟩
abbrev main_call8_c_1 : Ref sig .tc := ⟨.hbm, 225, rfl⟩
abbrev main_call8_c_2 : Ref sig .tc := ⟨.hbm, 226, rfl⟩
abbrev main_call8_v6 : Ref sig .tc := ⟨.hbm, 227, rfl⟩
abbrev main_call8_v7 : Ref sig .tc := ⟨.hbm, 228, rfl⟩
abbrev main_call8_v8 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_c_3 : Ref sig .tc := ⟨.hbm, 233, rfl⟩
abbrev main_call8_v12 : Ref sig .tc := ⟨.hbm, 234, rfl⟩
abbrev main_call8_v13 : Ref sig .tc := ⟨.hbm, 235, rfl⟩
abbrev main_call8_v14 : Ref sig .tc := ⟨.hbm, 236, rfl⟩
abbrev main_call8_cst : Ref sig .tc := ⟨.hbm, 237, rfl⟩
abbrev main_call8_v15 : Ref sig .tc := ⟨.hbm, 238, rfl⟩
abbrev main_v18 : Ref sig .tc := ⟨.hbm, 239, rfl⟩
abbrev main_v19 : Ref sig .tc := ⟨.hbm, 240, rfl⟩
abbrev main_v20 : Ref sig .tc := ⟨.hbm, 241, rfl⟩

abbrev nD : Nat := 1
abbrev τ : Topo := Topo.v7x

variable {F : FTy → Type} [FloatOps F]
-- ==== Proof.GatherBatch.lean ====
/- Several indirect gathers in flight on one DMA semaphore.

A tile starts `m` indirect gathers one after the other on the same semaphore, each writing its own block of `o` rows,
and waits for all of them before it touches any of their sources, lists or destinations. Every row of every gather is
one transfer of a batch of `m * o` transfers (`Transfers.Batch`): issuing a gather uses the issue rights of its `o` rows,
a wait consumes a gather's worth of units, and the last wait hands every row back. -/
module

public import Idealize.ShloMosaic.Lib.SparseCore.Stream
public import Idealize.ShloMosaic.Lib.Batch
public import Idealize.ShloMosaic.Lib.Tactic

@[expose] public section

noncomputable section

namespace Cert.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a m : Nat} {α : Type} {Q : α → sProp (MT nD τ sig Ix (Elt F) Name U Lvl)}

local notation "𝕄" => MT nD τ sig Ix (Elt F) Name U Lvl

/-- The gathers of one semaphore: what each reads, where its list is and where its rows go, with the contents the lists
    and the table hold and the shares they are held at. -/
structure Dat (F : FTy → Type) (c : Thread nD τ) (sp : Space) (s₀ s si : Shape) (e : EltTy) (a m : Nat) where
  hg : s₀.Gathers a s
  src : Memref sig c.2.kind sp s₀ e
  dst : Fin m → Memref sig c.2.kind .vmem s e
  offs : Fin m → Memref sig c.2.kind .vmem si .i32
  hn : si.numel = s.size hg.axis'
  sem : DmaSem sig
  hp : c.2.kind = .scVector
  hsrc : src.view.WordExact
  he : e.bits = 32
  hsp : sp = .hbm ∨ sp = .shared
  hr : s₀.StreamRows a
  fs : Buf (Elt F) (src.view.loc c)
  fd : (k : Fin m) → Buf (Elt F) ((dst k).view.loc c)
  fo : (k : Fin m) → Buf (Elt F) ((offs k).view.loc c)
  q : Fin m → PosShare TreeShare
  qo : PosShare TreeShare
  hs : 0 < s.numel
  hin : ∀ k x, ((offs k).view.read (Elt F) (fo k) x).toNat < s₀.size hg.axis

namespace Dat

variable {c} (G : Dat (sig := sig) F c sp s₀ s si e a m)

/-- The number of rows of one gather is positive. -/
theorem ho : 0 < s.size G.hg.axis' := Shape.size_pos_of_numel_pos G.hs _

/-- The rows the list of gather `k` names. -/
def row (k : Fin m) : Fin (s.size G.hg.axis') → Fin (s₀.size G.hg.axis) :=
  rows ((G.offs k).view.read (Elt F) (G.fo k)) G.hn (G.hin k)

/-- What gather `k` leaves in its destination. -/
def payload (k : Fin m) : s.Idx → Elt F e :=
  gatherPayload G.hg (G.src.view.read (Elt F) G.fs) (G.row k)

/-- The stream of gather `k`. -/
def stream (k : Fin m) : Stream nD τ sig (Elt F) :=
  Stream.issued c (G.offs k).view G.hn G.sem
    (fun j w => (rowOf (s₀.size G.hg.axis) w).map (gatherRow c G.src (G.dst k) G.hg G.sem G.hsrc G.he G.hsp G.hr j)) 0

/-- The list's element that names row `j`. -/
def entry (j : Fin (s.size G.hg.axis')) : si.Idx := si.rowMajor.symm (j.cast G.hn.symm)

/-- Row `j` of gather `k` as it is handed back: the destination's row written, the list's entry and a piece of the
    table's share. -/
def rowDone (k : Fin m) (j : Fin (s.size G.hg.axis')) : sProp 𝕄 :=
  iprop((((G.dst k).view.loc c ↦[((G.dst k).view.slice (s.rowRect G.hg.axis' j)).set]{fullShare}
            (((G.dst k).view.slice (s.rowRect G.hg.axis' j)).write (Elt F) (G.fd k) (fun i => G.src.view.read (Elt F) G.fs (G.hg.rowIdx (G.row k j) i)) Finset.univ))
        ∗ ((G.offs k).view.loc c ↦[{(G.offs k).view.emb (G.entry j)}]{G.qo} (G.fo k))) ∗ (G.src.view.loc c ↦[G.src.view.set]{pieceOf (G.q k) _ G.ho j} G.fs))

/-- Gather `k` handed back: its destination written with its payload, its table share and its list. -/
def done (k : Fin m) : sProp 𝕄 :=
  iprop(((G.dst k).view.loc c ↦[(G.dst k).view.set]{fullShare} ((G.dst k).view.write (Elt F) (G.fd k) (G.payload k) Finset.univ))
    ∗ (G.src.view.loc c ↦[G.src.view.set]{G.q k} G.fs) ∗ ((G.offs k).view.loc c ↦[(G.offs k).view.set]{G.qo} (G.fo k)))

/-- What gather `k` is issued from. -/
def todo (k : Fin m) : sProp 𝕄 :=
  iprop((G.src.view.loc c ↦[G.src.view.set]{G.q k} G.fs) ∗ ((G.dst k).view.loc c ↦[(G.dst k).view.set]{fullShare} (G.fd k))
    ∗ ((G.offs k).view.loc c ↦[(G.offs k).view.set]{G.qo} (G.fo k)))

/-- The deliveries of the batch, row by row. -/
def deliv (t : Fin (m * s.size G.hg.axis')) : sProp 𝕄 := G.rowDone (Ix := Ix) (Name := Name) (U := U) (Lvl := Lvl) t.divNat t.modNat

theorem entry_bijective : Function.Bijective G.entry :=
  (si.rowMajor.symm.bijective.comp (finCongr G.hn.symm).bijective)

/-- The rows of a gather, handed back, are the gather handed back. -/
theorem rows_done (k : Fin m) :
    bigSep Finset.univ (fun j => (G.rowDone k j : sProp 𝕄)) ⊢ G.done k := by
  unfold rowDone done
  have hW : ∀ j i, (fun i => G.src.view.read (Elt F) G.fs (G.hg.rowIdx (G.row k j) i)) i = G.payload k ((s.rowRect G.hg.axis' j).emb i) := fun j i => by
    unfold payload gatherPayload; rw [Shape.Gathers.idx_rowRect_emb]
  have h1 := pointsTo_rows_write (Ix := Ix) (Name := Name) (U := U) (Lvl := Lvl) c (G.dst k).view G.hg.axis' (G.fd k) _ (G.payload k) hW
  have h2 := Entails.of_eq (pointsTo_entries (Ix := Ix) (Name := Name) (U := U) (Lvl := Lvl) c (G.offs k).view G.entry G.entry_bijective G.qo (G.fo k)).symm
  have h3 := Entails.of_eq (pointsTo_piecesOf (Ix := Ix) (Name := Name) (U := U) (Lvl := Lvl) (G.src.view.set) G.fs G.ho (G.q k)).symm
  rw [BI.bigSep_sep', BI.bigSep_sep']
  refine (sep_mono (sep_mono h1 h2) h3).trans ?_
  iintro ⟨⟨H1, H2⟩, H3⟩
  isplitl [H1]; · iexact H1
  isplitl [H3] <;> iassumption

/-- Position `j` of block `k` in the flat numbering of the batch. -/
def flat {m o : ℕ} (k : Fin m) (j : Fin o) : Fin (m * o) :=
  finProdFinEquiv (k, j)

theorem flat_val {m o : ℕ} (k : Fin m) (j : Fin o) : (flat k j).val = j.val + o * k.val := rfl

theorem deliv_flat (k : Fin m) (j : Fin (s.size G.hg.axis')) : (G.deliv (flat k j) : sProp 𝕄) = G.rowDone k j := by
  have h := finProdFinEquiv.symm_apply_apply (k, j)
  have h1 : (flat k j).divNat = k := congrArg Prod.fst h
  have h2 : (flat k j).modNat = j := congrArg Prod.snd h
  unfold deliv; rw [h1, h2]

/-- A family over the flat numbering is the family over blocks and positions. -/
theorem bigSep_flat {m o : ℕ} (Φ : Fin (m * o) → sProp 𝕄) :
    bigSep Finset.univ Φ = bigSep Finset.univ fun k : Fin m => bigSep Finset.univ fun j : Fin o => Φ (flat k j) := by
  rw [BI.bigSep_univ_equiv finProdFinEquiv, BI.bigSep_univ_prod]
  rfl

/-- The pending rows from block `k` on are block `k`'s and the rows from block `k + 1` on. -/
theorem pending_block {m o : ℕ} (k : Fin m) (Φ : Fin (m * o) → sProp 𝕄) :
    bigSep (Transfers.pending (k.val * o)) Φ
      = iprop(bigSep Finset.univ (fun j : Fin o => Φ (flat k j)) ∗ bigSep (Transfers.pending ((k.val + 1) * o)) Φ) := by
  classical
  have hinj : Function.Injective (flat k : Fin o → Fin (m * o)) := fun j j' h => by
    have := finProdFinEquiv.injective h
    exact congrArg Prod.snd this
  have hset : (Transfers.pending (n := m * o) (k.val * o)) = Finset.univ.map ⟨flat k, hinj⟩ ∪ Transfers.pending ((k.val + 1) * o) := by
    ext t
    simp only [Transfers.pending, Finset.mem_filter, Finset.mem_univ, true_and, Finset.mem_union, Finset.mem_map, Function.Embedding.coeFn_mk]
    constructor
    · intro h
      by_cases h2 : (k.val + 1) * o ≤ t.val
      · exact .inr h2
      · left
        rw [Nat.succ_mul] at h2
        refine ⟨⟨t.val - k.val * o, by omega⟩, Fin.ext ?_⟩
        rw [flat_val, Nat.mul_comm o]
        change t.val - k.val * o + k.val * o = t.val
        omega
    · rintro (⟨j, rfl⟩ | h)
      · rw [flat_val, Nat.mul_comm o]; omega
      · rw [Nat.succ_mul] at h; omega
  have hdisj : Disjoint (Finset.univ.map ⟨flat k, hinj⟩) (Transfers.pending (n := m * o) ((k.val + 1) * o)) := by
    refine Finset.disjoint_left.mpr fun t ht ht' => ?_
    obtain ⟨j, -, rfl⟩ := Finset.mem_map.mp ht
    simp only [Transfers.pending, Finset.mem_filter, Finset.mem_univ, true_and, Function.Embedding.coeFn_mk] at ht'
    rw [flat_val, Nat.mul_comm o, Nat.succ_mul] at ht'
    have := j.isLt
    omega
  rw [hset, BI.bigSep_union hdisj, BI.bigSep_map]
  rfl

instance rowDone_storable (k : Fin m) (j : Fin (s.size G.hg.axis')) : Storable (upEmb : UEmb _ 𝕄) (G.rowDone k j : sProp 𝕄) := by
  unfold rowDone; infer_instance

instance deliv_storable (t : Fin (m * s.size G.hg.axis')) : Storable (upEmb : UEmb _ 𝕄) (G.deliv t : sProp 𝕄) := by
  unfold deliv; infer_instance

/-- What the tile holds between two of the issues: the batch with the rows of the first `k` gathers issued, and what the
    others are issued from. -/
def Issued (ι : Ix) (N : ℕ) (k : ℕ) : sProp 𝕄 :=
  iprop(Transfers.Batch EC c (.dma G.sem) ι N (G.deliv (Ix := Ix) (Name := Name) (U := U) (Lvl := Lvl)) (k * s.size G.hg.axis') 0
    ∗ bigSep (Transfers.pending k) (G.todo (Ix := Ix) (Name := Name) (U := U) (Lvl := Lvl)))

/-- What the tile holds between two of the waits: the batch with all rows issued and `k` gathers' units consumed. -/
def Waited (ι : Ix) (N : ℕ) (k : ℕ) : sProp 𝕄 :=
  Transfers.Batch EC c (.dma G.sem) ι N (G.deliv (Ix := Ix) (Name := Name) (U := U) (Lvl := Lvl)) (m * s.size G.hg.axis') (k * (s.size G.hg.axis' * N))

/-- With the semaphore at zero and everything the gathers are issued from, the batch begins. -/
theorem alloc [Infinite Name] [EC.LandsIn (upEmb : UEmb _ 𝕄)] (ι : Ix) (N : ℕ) {E : Set Name} :
    iprop(semVal (c, SemLoc.dma G.sem) 0 ∗ bigSep Finset.univ (G.todo (Ix := Ix) (Name := Name) (U := U) (Lvl := Lvl))) ⊢ (|={E}=> G.Issued EC ι N 0 : sProp 𝕄) := by
  iintro ⟨Hv, Ht⟩
  imod (Transfers.batch_alloc' EC c ι N (G.deliv (Ix := Ix) (Name := Name) (U := U) (Lvl := Lvl))) $$ Hv with HB
  imodintro
  unfold Issued
  rw [Nat.zero_mul, Transfers.pending_zero]
  isplitl [HB] <;> iassumption

/-- Every gather issued, the waits begin. -/
theorem issued_all (ι : Ix) (N : ℕ) : G.Issued EC ι N m ⊢ (G.Waited EC ι N 0 : sProp 𝕄) := by
  unfold Issued Waited
  rw [Nat.zero_mul]
  iintro ⟨H, -⟩
  iexact H

/-- Issuing gather `k`. -/
theorem wp_issue [Infinite Name] [EC.LandsIn (upEmb : UEmb _ 𝕄)] (ι : Ix) (N : ℕ) (k : Fin m)
    {kont : PUnit → Prog (TpuEff nD τ sig (Elt F) Λ c.2) α}
    (hN : ∀ k j, ((G.dst k).slice (s.rowRect G.hg.axis' j) (s.stride_rowRect G.hg.axis' j)).view.dmaCredit = N) :
    (G.Issued EC ι N k.val : sProp 𝕄)
      ⊢ iprop((G.Issued EC ι N (k.val + 1) -∗ wp frame (wpE defs 𝒱 c bd) Set.univ (kont ⟨⟩) Q)
          -∗ wp frame (wpE defs 𝒱 c bd) Set.univ
              (enqueueIndirectGather G.hp G.src (G.dst k) G.hg (G.offs k) G.hn G.sem G.hsrc G.he G.hsp G.hr >>= kont) Q) := by
  rw [enqueueIndirectGather_bind]
  have ho := G.ho
  let S : Stream nD τ sig (Elt F) := G.stream k
  let rd : Fin (s.size G.hg.axis') → RowDma τ sig (Elt F) c.2 G.sem := fun j => gatherRow c G.src (G.dst k) G.hg G.sem G.hsrc G.he G.hsp G.hr j (G.row k j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j : Fin (s.size G.hg.axis'), S.row j (S.word (G.fo k) j) = some (rd j) := fun j =>
    congrArg (Option.map (gatherRow c G.src (G.dst k) G.hg G.sem G.hsrc G.he G.hsp G.hr j)) (rowOf_of_lt (G.hin k (G.entry j)))
  have hsum : ∑ j, (rd j).dst.view.dmaCredit = s.size G.hg.axis' * N := by
    rw [Finset.sum_congr rfl (fun j _ => (hN k j : (rd j).dst.view.dmaCredit = N)), Finset.sum_const, Finset.card_univ, Fintype.card_fin, smul_eq_mul]
  unfold Issued Transfers.Batch
  rw [Transfers.bigSep_pending_step _ k.val k.isLt]
  iintro ⟨⟨%γ, %γ₀, %κ, #Hinv, HI, H0, Hcred⟩, Ht, Htodo⟩ Hk
  ihave HI' := (Entails.of_eq (pending_block k (fun t => (count EC (γ t) 0 : sProp 𝕄)))) $$ HI
  icases HI' with ⟨Hγ, HI⟩
  unfold todo
  icases Ht with ⟨Hs, Hd, Ho⟩
  ihave Hd' := (Entails.of_eq (pointsTo_rows c (G.dst k).view G.hg.axis' fullShare (G.fd k))) $$ Hd
  ihave Ho' := (Entails.of_eq (pointsTo_entries c (G.offs k).view G.entry G.entry_bijective G.qo (G.fo k))) $$ Ho
  ihave Hs' := (Entails.of_eq (pointsTo_piecesOf (G.src.view.set) G.fs ho (G.q k))) $$ Hs
  have hrow : ∀ j : Fin (s.size G.hg.axis'), iprop(inv κ (Transfers.batchBody EC (c, SemLoc.dma G.sem) N (G.deliv (Ix := Ix) (Name := Name) (U := U) (Lvl := Lvl)) γ γ₀)
        ∗ (((((G.dst k).view.loc c ↦[((G.dst k).view.slice (s.rowRect G.hg.axis' j)).set]{fullShare} (G.fd k))
            ∗ ((G.offs k).view.loc c ↦[{(G.offs k).view.emb (G.entry j)}]{G.qo} (G.fo k)))
        ∗ (G.src.view.loc c ↦[G.src.view.set]{pieceOf (G.q k) _ ho j} G.fs)) ∗ count EC (γ (flat k j)) 0))
      ⊢ iprop(((G.offs k).view.loc c ↦[{(G.offs k).view.emb (G.entry j)}]{G.qo} (G.fo k))
          ∗ (((G.offs k).view.loc c ↦[{(G.offs k).view.emb (G.entry j)}]{G.qo} (G.fo k)) -∗ rowRes c (rd j))) := fun j => by
    iintro ⟨#Hinv, ⟨⟨Hr, He⟩, Hsq⟩, Hγj⟩
    isplitl [He]; · iexact He
    iintro He
    unfold rowRes
    iexists pieceOf (G.q k) _ ho j, G.fs, iprop(((G.dst k).view.loc c ↦[((G.dst k).view.slice (s.rowRect G.hg.axis' j)).set]{fullShare}
      (((G.dst k).view.slice (s.rowRect G.hg.axis' j)).write (Elt F) (G.fd k) (fun i => G.src.view.read (Elt F) G.fs (G.hg.rowIdx (G.row k j) i)) Finset.univ))
        ∗ ((G.offs k).view.loc c ↦[{(G.offs k).view.emb (G.entry j)}]{G.qo} (G.fo k)))
    isplitl [Hsq]; · iexact Hsq
    isplitl [Hr He]
    · iapply writeUpdate_frame
      isplitl [Hr]
      · iapply (pointsTo_writeUpdate c (v := (G.dst k).view.slice (s.rowRect G.hg.axis' j)) subset_rfl) $$ Hr
      · iexact He
    · rw [show (rd j).dst.view.amount (.dma G.sem) = N from hN k j]
      iapply (Transfers.batch_creditUpdate EC (flat k j) (Entails.of_eq (G.deliv_flat k j).symm))
      isplitr; · iexact Hinv
      iexact Hγj
  iapply (wp_enqueueIndirectDma 𝒱 c bd Set.univ (qo := G.qo) (fo := G.fo k) (rd := rd) ι _ hA hrd hsum) $$ [Hd' Ho' Hs' Hγ]
  · unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  isplitr [Htodo]
  · iexists γ, γ₀, κ
    isplitr; · iexact Hinv
    isplitl [HI]; · iexact HI
    isplitl [H0]; · iexact H0
    rw [show (k.val + 1) * s.size G.hg.axis' * N - 0 = (k.val * s.size G.hg.axis' * N - 0) + s.size G.hg.axis' * N by
      rw [Nat.succ_mul, Nat.add_mul]; omega, ← tallyAt_add]
    icombine Hcred Hcred' as H
    iexact H
  · iexact Htodo

/-- A wait for gather `k`'s units while more are left: nothing comes back yet. -/
theorem wp_wait [EC.LandsIn (upEmb : UEmb _ 𝕄)] {s' : Shape} {e' : EltTy} {κ' : Kind} {sp' sp'' : Space} {t : Shape} {e'' : EltTy} (ι : Ix) (N : ℕ) (k : Fin m)
    {srcw : Memref sig c.2.kind sp' s' e'} {dstw : Memref sig κ' sp'' t e''} {hsrc : srcw.view.WordExact} {hdst : dstw.view.WordExact}
    {kont : PUnit → Prog (TpuEff nD τ sig (Elt F) Λ c.2) α} (hJ : dstw.view.dmaCredit = s.size G.hg.axis' * N)
    {O : CellTallies nD τ sig Ix} {W : Waits sig Ix} :
    iprop(G.Waited EC ι N k.val ∗ owes c O W ∗ MayWait c (.dma G.sem) ι O)
      ⊢ iprop((iprop(G.Waited EC ι N (k.val + 1) ∗ owes c O (insert (SemLoc.dma G.sem, ι) W)) -∗ wp frame (wpE defs 𝒱 c bd) Set.univ (kont ⟨⟩) Q)
          -∗ wp frame (wpE defs 𝒱 c bd) Set.univ (.op (.waitDma2 G.sem srcw dstw hsrc hdst) kont) Q) := by
  unfold Waited
  rw [Nat.succ_mul]
  refine Transfers.wp_waitBatchMulO EC 𝒱 c bd ι _ hJ ?_
  have h : (k.val + 1) * (s.size G.hg.axis' * N) ≤ m * (s.size G.hg.axis' * N) := Nat.mul_le_mul_right _ k.isLt
  rw [Nat.succ_mul] at h
  calc _ ≤ _ := h
    _ = _ := by rw [← Nat.mul_assoc, Nat.mul_comm]

/-- Every unit consumed, every gather is handed back, and the semaphore at zero. -/
theorem collect [EC.LandsIn (upEmb : UEmb _ 𝕄)] (ι : Ix) (N : ℕ) (hN : 0 < N) :
    (G.Waited EC ι N m : sProp 𝕄) ⊢ (|={Set.univ}=> iprop(bigSep Finset.univ (G.done (Ix := Ix) (Name := Name) (U := U) (Lvl := Lvl)) ∗ semVal (c, SemLoc.dma G.sem) 0)) := by
  unfold Waited
  rw [show m * (s.size G.hg.axis' * N) = N * (m * s.size G.hg.axis') by rw [← Nat.mul_assoc, Nat.mul_comm]]
  have hd : bigSep Finset.univ (G.deliv (Ix := Ix) (Name := Name) (U := U) (Lvl := Lvl)) ⊢ bigSep Finset.univ (G.done (Ix := Ix) (Name := Name) (U := U) (Lvl := Lvl)) :=
    (Entails.of_eq (bigSep_flat _)).trans (BI.bigSep_mono (fun k _ => ((Entails.of_eq (BI.bigSep_congr fun j _ => G.deliv_flat k j)).trans (G.rows_done k))))
  iintro H
  imod (Transfers.batch_collect' EC c hN) $$ H with ⟨HD, Hv⟩
  imodintro
  isplitl [HD]
  · iapply hd $$ HD
  · iexact Hv

end Dat

end Cert.GatherBatch
-- ==== Proof.Setup.lean ====
/- The launch as the proofs see it: the program, the ghost state, the operand arrays of the call with names, the three
result arrays as functions of the operands, and what the call hands to each tile and takes back from it. -/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart and none is a processor's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters
local notation "𝕄" => MT nD τ sig (HIx 1) (Elt F) ℕ UU ℕ
abbrev EH : Emb UH (MT nD τ sig (HIx 1) (Elt F) ℕ UU ℕ) := embL

/-! ## The operands and the results -/

/-- The contents of the twelve arrays the call reads: the two row lists of the first result, the three chunked row
    lists of the others, the continuous columns, the delays, and the five tables. -/
structure Ops (F : FTy → Type) where
  wtidx : S32x32.Idx → Elt F .i32
  didx : S32x32.Idx → Elt F .i32
  seg : S32x13x128.Idx → Elt F .i32
  tiny : S32x13x128.Idx → Elt F .i32
  cont : S32x1600x4.Idx → Elt F .f32
  cross : S32x13x128.Idx → Elt F .i32
  delay : S32x1568.Idx → Elt F .f32
  wt : S2312x16.Idx → Elt F .f32
  drv : S200141x16.Idx → Elt F .f32
  wseg : S1376567x16.Idx → Elt F .f32
  tt : S3024x16.Idx → Elt F .f32
  wcr : S101009x16.Idx → Elt F .f32

/-- Every word of every row list names a row of its table. -/
structure InRange (x : Ops F) : Prop where
  wtidx : ∀ j, (x.wtidx j : BitVec 32).toNat < 2312
  didx : ∀ j, (x.didx j : BitVec 32).toNat < 200141
  seg : ∀ j, (x.seg j : BitVec 32).toNat < 1376567
  tiny : ∀ j, (x.tiny j : BitVec 32).toNat < 3024
  cross : ∀ j, (x.cross j : BitVec 32).toNat < 101009

/-- A row number below `n + 1` and a column number below `k + 1`, as natural numbers wrapped into range. -/
abbrev at2 {n k : ℕ} (r c : ℕ) : (⟨2, ![n + 1, k + 1]⟩ : Shape).Idx := ix2 (Fin.ofNat (n + 1) r) (Fin.ofNat (k + 1) c)
abbrev at3 {n k l : ℕ} (r c t : ℕ) : (⟨3, ![n + 1, k + 1, l + 1]⟩ : Shape).Idx :=
  ix3 (Fin.ofNat (n + 1) r) (Fin.ofNat (k + 1) c) (Fin.ofNat (l + 1) t)

namespace Ops

variable (x : Ops F)

/-- Row `p` of the chunked lists of worker `w`. -/
def segId (w p : ℕ) : ℕ := (x.seg (at3 w (p / 128) (p % 128)) : BitVec 32).toNat
def tinyId (w p : ℕ) : ℕ := (x.tiny (at3 w (p / 128) (p % 128)) : BitVec 32).toNat
def crossId (w p : ℕ) : ℕ := (x.cross (at3 w (p / 128) (p % 128)) : BitVec 32).toNat
def wtId (w p : ℕ) : ℕ := (x.wtidx (at2 w p) : BitVec 32).toNat
def drvId (w p : ℕ) : ℕ := (x.didx (at2 w p) : BitVec 32).toNat

/-- The first result: eight columns of the week-time table and sixteen of the driver table. -/
def ext (j : S1024x24.Idx) : Elt F .f32 :=
  if (j 1).val < 8 then x.wt (at2 (x.wtId ((j 0).val / 32) ((j 0).val % 32)) (j 1).val)
  else x.drv (at2 (x.drvId ((j 0).val / 32) ((j 0).val % 32)) ((j 1).val - 8))

/-- The second: sixteen columns of the segment table, eight of the small features' table, four continuous ones. -/
def sgo (j : S51200x28.Idx) : Elt F .f32 :=
  if (j 1).val < 16 then x.wseg (at2 (x.segId ((j 0).val / 1600) ((j 0).val % 1600)) (j 1).val)
  else if (j 1).val < 24 then x.tt (at2 (x.tinyId ((j 0).val / 1600) ((j 0).val % 1600)) ((j 1).val - 16))
  else x.cont (at3 ((j 0).val / 1600) ((j 0).val % 1600) ((j 1).val - 24))

/-- The third: sixteen columns of the crossing table, the last one replaced by the delay. -/
def lnk (j : S50176x16.Idx) : Elt F .f32 :=
  if (j 1).val < 15 then x.wcr (at2 (x.crossId ((j 0).val / 1568) ((j 0).val % 1568)) (j 1).val)
  else x.delay (at2 ((j 0).val / 1568) ((j 0).val % 1568))

end Ops

/-! ## The buffers -/

abbrev wtidxLoc (d : Dev nD) : Loc nD τ sig := (SparseCore.T d).loc main_v27
abbrev didxLoc (d : Dev nD) : Loc nD τ sig := (SparseCore.T d).loc main_v37
abbrev segLoc (d : Dev nD) : Loc nD τ sig := (SparseCore.T d).loc main_v41
abbrev tinyLoc (d : Dev nD) : Loc nD τ sig := (SparseCore.T d).loc main_v45
abbrev contLoc (d : Dev nD) : Loc nD τ sig := (SparseCore.T d).loc main_v55
abbrev crossLoc (d : Dev nD) : Loc nD τ sig := (SparseCore.T d).loc main_v49
abbrev delayLoc (d : Dev nD) : Loc nD τ sig := (SparseCore.T d).loc main_v56
abbrev wtLoc (d : Dev nD) : Loc nD τ sig := (SparseCore.T d).loc main_v21
abbrev drvLoc (d : Dev nD) : Loc nD τ sig := (SparseCore.T d).loc main_v4
abbrev wsegLoc (d : Dev nD) : Loc nD τ sig := (SparseCore.T d).loc main_v2
abbrev ttLoc (d : Dev nD) : Loc nD τ sig := (SparseCore.T d).loc main_v22
abbrev wcrLoc (d : Dev nD) : Loc nD τ sig := (SparseCore.T d).loc main_v23
abbrev extLoc (d : Dev nD) : Loc nD τ sig := (SparseCore.T d).loc main_v57_0
abbrev sgoLoc (d : Dev nD) : Loc nD τ sig := (SparseCore.T d).loc main_v57_1
abbrev lnkLoc (d : Dev nD) : Loc nD τ sig := (SparseCore.T d).loc main_v57_2

abbrev a2 : Memref sig .scVector .hbm S32x32 .i32 := Memref.whole main_v27_scv
abbrev a3 : Memref sig .scVector .hbm S32x32 .i32 := Memref.whole main_v37_scv
abbrev a4 : Memref sig .scVector .hbm S32x13x128 .i32 := Memref.whole main_v41_scv
abbrev a5 : Memref sig .scVector .hbm S32x13x128 .i32 := Memref.whole main_v45_scv
abbrev a6 : Memref sig .scVector .hbm S32x1600x4 .f32 := Memref.whole main_v55_scv
abbrev a7 : Memref sig .scVector .hbm S32x13x128 .i32 := Memref.whole main_v49_scv
abbrev a8 : Memref sig .scVector .hbm S32x1568 .f32 := Memref.whole main_v56_scv
abbrev a9 : Memref sig .scVector .hbm S2312x16 .f32 := Memref.whole main_v21_scv
abbrev a10 : Memref sig .scVector .hbm S200141x16 .f32 := Memref.whole main_v4_scv
abbrev a11 : Memref sig .scVector .hbm S1376567x16 .f32 := Memref.whole main_v2_scv
abbrev a12 : Memref sig .scVector .hbm S3024x16 .f32 := Memref.whole main_v22_scv
abbrev a13 : Memref sig .scVector .hbm S101009x16 .f32 := Memref.whole main_v23_scv
abbrev a14 : Memref sig .scVector .hbm S1024x24 .f32 := Memref.whole main_v57_0_scv
abbrev a15 : Memref sig .scVector .hbm S51200x28 .f32 := Memref.whole main_v57_1_scv
abbrev a16 : Memref sig .scVector .hbm S50176x16 .f32 := Memref.whole main_v57_2_scv
abbrev b0 : Memref sig .scVector .vmem S13x128 .i32 := Memref.whole cc0_scratch0
abbrev b1 : Memref sig .scVector .vmem S13x128 .i32 := Memref.whole cc0_scratch1
abbrev b2 : Memref sig .scVector .vmem S13x128 .i32 := Memref.whole cc0_scratch2
abbrev b3 : Memref sig .scVector .vmem S1664x16 .f32 := Memref.whole cc0_scratch3
abbrev b4 : Memref sig .scVector .vmem S1664x16 .f32 := Memref.whole cc0_scratch4
abbrev b5 : Memref sig .scVector .vmem S1664x16 .f32 := Memref.whole cc0_scratch5
abbrev b6 : Memref sig .scVector .vmem S32 .i32 := Memref.whole cc0_scratch6
abbrev b7 : Memref sig .scVector .vmem S32 .i32 := Memref.whole cc0_scratch7
abbrev b8 : Memref sig .scVector .vmem S32x16 .f32 := Memref.whole cc0_scratch8
abbrev b9 : Memref sig .scVector .vmem S32x16 .f32 := Memref.whole cc0_scratch9
abbrev b10 : Memref sig .scVector .vmem S1568 .f32 := Memref.whole cc0_scratch10

/-! ## A tile and its blocks of the results -/

abbrev cV (L : grid0.Coords) : Fin τ.nSC := (L 0).castLE hcore0
abbrev jV (L : grid0.Coords) : Fin τ.nSub := (L 1).castLE hsub0
/-- The tile as a thread. -/
abbrev th (d : Dev nD) (L : grid0.Coords) : Thread nD τ := V d (cV L) (jV L)
/-- The tile's number among the thirty-two. -/
abbrev wk (L : grid0.Coords) : ℕ := 2 * (L 1).val + (L 0).val

/-- The tile of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The tile's blocks: two of the first result, three of the second, one of the third. -/
abbrev extA (L : grid0.Coords) : Rect S1024x24 := Rect.unit (s := S1024x24) (k0_off6 L) S32x8.size (k0_off6_inb L)
abbrev extB (L : grid0.Coords) : Rect S1024x24 := Rect.unit (s := S1024x24) (k0_off7 L) S32x16.size (k0_off7_inb L)
abbrev sgoA (L : grid0.Coords) : Rect S51200x28 := Rect.unit (s := S51200x28) (k0_off8 L) S1600x16.size (k0_off8_inb L)
abbrev sgoB (L : grid0.Coords) : Rect S51200x28 := Rect.unit (s := S51200x28) (k0_off9 L) S1600x8.size (k0_off9_inb L)
abbrev sgoC (L : grid0.Coords) : Rect S51200x28 := Rect.unit (s := S51200x28) (k0_off3 L) S1600x4.size (k0_off3_inb L)
abbrev lnkA (L : grid0.Coords) : Rect S50176x16 := Rect.unit (s := S50176x16) (k0_off12 L) S1568x16.size (k0_off12_inb L)

/-- The tile's share of each array it reads. -/
abbrev tq (L : grid0.Coords) : PosShare TreeShare :=
  pieceOf (pieceOf fullShare 2 (by decide) (L 0)) 16 (by decide) (L 1)

/-! ## What the call hands to a tile and takes back -/

/-- The arrays a tile reads, at a share. -/
def reads (X : Dev nD → Ops F) (d : Dev nD) (q : PosShare TreeShare) : sProp 𝕄 :=
  iprop((wtidxLoc d ↦{q} (X d).wtidx) ∗ (didxLoc d ↦{q} (X d).didx) ∗ (segLoc d ↦{q} (X d).seg) ∗ (tinyLoc d ↦{q} (X d).tiny)
    ∗ (contLoc d ↦{q} (X d).cont) ∗ (crossLoc d ↦{q} (X d).cross) ∗ (delayLoc d ↦{q} (X d).delay) ∗ (wtLoc d ↦{q} (X d).wt)
    ∗ (drvLoc d ↦{q} (X d).drv) ∗ (wsegLoc d ↦{q} (X d).wseg) ∗ (ttLoc d ↦{q} (X d).tt) ∗ (wcrLoc d ↦{q} (X d).wcr))

/-- A tile's blocks of the three results, at contents. -/
def outs (d : Dev nD) (L : grid0.Coords) (e : S1024x24.Idx → Elt F .f32) (s : S51200x28.Idx → Elt F .f32)
    (l : S50176x16.Idx → Elt F .f32) : sProp 𝕄 :=
  iprop((extLoc d ↦[(extA L).set]{fullShare} e) ∗ (extLoc d ↦[(extB L).set]{fullShare} e)
    ∗ (sgoLoc d ↦[(sgoA L).set]{fullShare} s) ∗ (sgoLoc d ↦[(sgoB L).set]{fullShare} s) ∗ (sgoLoc d ↦[(sgoC L).set]{fullShare} s)
    ∗ (lnkLoc d ↦[(lnkA L).set]{fullShare} l))

variable (m : (ℓ : Loc nD τ sig) → Buf (Elt F) ℓ) (X : Dev nD → Ops F)

/-- What a tile is given. -/
def handed (d : Dev nD) (L : grid0.Coords) : sProp 𝕄 :=
  iprop(reads X d (tq L) ∗ outs d L (m (extLoc d)) (m (sgoLoc d)) (m (lnkLoc d)))

/-- What it brings back. -/
def returned (d : Dev nD) (L : grid0.Coords) : sProp 𝕄 :=
  iprop(reads X d (tq L) ∗ outs d L (X d).ext (X d).sgo (X d).lnk)

instance handed_storable (d : Dev nD) (L : grid0.Coords) : BI.Storable (upEmb : UEmb _ 𝕄) (handed m X d L) := by
  unfold handed reads outs; infer_instance
instance returned_storable (d : Dev nD) (L : grid0.Coords) : BI.Storable (upEmb : UEmb _ 𝕄) (returned X d L) := by
  unfold returned reads outs; infer_instance

/-- Each SparseCore is handed its sixteen tiles' parts at once. -/
def P : (K (F := F)).Pay (nD := nD) (Val := Elt F) (Name := ℕ) (U := UU) where
  st := fun q d c => match q with | 0 => bigSep Finset.univ fun i : Fin (grid0.bound 1) => handed m X d (coordsV c i)
  dn := fun q d c => match q with | 0 => bigSep Finset.univ fun i : Fin (grid0.bound 1) => returned X d (coordsV c i)
  go := fun q d c i => match q with | 0 => handed m X d (coordsV c i)
  td := fun q d c i => match q with | 0 => returned X d (coordsV c i)
  x := fun _ _ => iprop(emp)

instance P_storable : (P m X).IsStorable where
  st q d c := match q with
    | 0 => (inferInstance : BI.Storable (upEmb : UEmb _ 𝕄) (bigSep Finset.univ fun i : Fin (grid0.bound 1) => handed m X d (coordsV c i)))
  dn q d c := match q with
    | 0 => (inferInstance : BI.Storable (upEmb : UEmb _ 𝕄) (bigSep Finset.univ fun i : Fin (grid0.bound 1) => returned X d (coordsV c i)))
  go q d c i := match q with
    | 0 => (inferInstance : BI.Storable (upEmb : UEmb _ 𝕄) (handed m X d (coordsV c i)))
  td q d c i := match q with
    | 0 => (inferInstance : BI.Storable (upEmb : UEmb _ 𝕄) (returned X d (coordsV c i)))

/-- A SparseCore's part is its tiles' parts. -/
theorem vecSplit : (K (F := F)).VecSplit' (P m X) 0 := by
  intro d c
  show bigSep Finset.univ (fun i : Fin (grid0.bound 1) => handed m X d (coordsV c i)) ⊢ |={Set.univ}=> iprop(
      (bigSep Finset.univ fun i : Fin (grid0.bound 1) => handed m X d (coordsV c i))
      ∗ ((bigSep Finset.univ fun i : Fin (grid0.bound 1) => returned X d (coordsV c i))
          -∗ bigSep Finset.univ fun i : Fin (grid0.bound 1) => returned X d (coordsV c i)))
  iintro H
  imodintro
  isplitl [H]; · iexact H
  iintro H
  iexact H

/-! ## A tile's own buffers and semaphores -/

/-- A part of a family is set aside from the rest. -/
theorem bigSep_family {I : Type} [DecidableEq I] {n : ℕ} (f : Fin n ↪ I) (S : Finset I) (h : ∀ k, f k ∈ S) (Φ : I → sProp 𝕄) :
    bigSep S Φ = iprop(bigSep Finset.univ (fun k => Φ (f k)) ∗ bigSep (S \ Finset.univ.map f) Φ) := by
  rw [SparseCore.bigSep_sdiff_split' (t := Finset.univ.map f) (s := S) (fun i hi => by
    obtain ⟨k, -, rfl⟩ := Finset.mem_map.mp hi; exact h k), BI.bigSep_map]

theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  simp only [bigSep_univ_succ, BI.bigSep_univ_of_subsingleton (0 : Fin 1)]
  rfl

theorem bigSep_seventeen (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  simp only [bigSep_univ_succ, BI.bigSep_univ_of_subsingleton (0 : Fin 1)]
  rfl

/-- The scratch buffers. -/
def sref : Fin 11 → Ref sig .scVector :=
  ![cc0_scratch0, cc0_scratch1, cc0_scratch2, cc0_scratch3, cc0_scratch4, cc0_scratch5, cc0_scratch6, cc0_scratch7, cc0_scratch8,
    cc0_scratch9, cc0_scratch10]
/-- The DMA semaphores. -/
def sdma : Fin 17 → DmaSem sig :=
  ![cc0_scratch11.sem, cc0_scratch12.sem, cc0_scratch13.sem, cc0_scratch14.sem, cc0_scratch15.sem, cc0_scoped0.sem, cc0_scoped1.sem,
    cc0_scoped2.sem, cc0_scoped3.sem, cc0_scoped4.sem, cc0_scoped5.sem, cc0_scoped6.sem, cc0_scoped7.sem, cc0_scoped8.sem, cc0_scoped9.sem,
    cc0_scoped10.sem, cc0_scoped11.sem]

theorem sref_inj : Function.Injective sref := by decide
theorem sdma_inj : Function.Injective sdma := by decide

def srefs (L : grid0.Coords) : Fin 11 ↪ DevRef τ sig :=
  ⟨fun k => (Proc.scVector (cV L) (jV L)).devRef (sref k), fun _ _ h => sref_inj (Proc.devRef_injective _ h)⟩
def sdmas (d : Dev nD) (L : grid0.Coords) : Fin 17 ↪ GSem nD τ sig :=
  ⟨fun k => (th d L, .dma (sdma k)), fun _ _ h => sdma_inj (by injection h with _ h; injection h)⟩

/-- The scratch buffers no one names. -/
def restBufs (d : Dev nD) (L : grid0.Coords) : sProp 𝕄 :=
  bigSep (ownRefs (τ := τ) (.scVector (cV L) (jV L)) \ Finset.univ.map (srefs L)) fun b => iprop(∃ f, ((d, b) : Loc nD τ sig) ↦{fullShare} f)
def restSems (d : Dev nD) (L : grid0.Coords) : sProp 𝕄 :=
  bigSep (ownCells (th d L) \ Finset.univ.map (sdmas d L)) fun g => semVal g 0

/-- A tile's own buffers: the eleven scratch buffers, at some contents, and the rest. -/
theorem ownBufs_V (d : Dev nD) (L : grid0.Coords) :
    (ownBufs (th d L) : sProp 𝕄)
      = iprop(((∃ f, (b0.view.loc (th d L)) ↦{fullShare} f) ∗ (∃ f, (b1.view.loc (th d L)) ↦{fullShare} f)
          ∗ (∃ f, (b2.view.loc (th d L)) ↦{fullShare} f) ∗ (∃ f, (b3.view.loc (th d L)) ↦{fullShare} f)
          ∗ (∃ f, (b4.view.loc (th d L)) ↦{fullShare} f) ∗ (∃ f, (b5.view.loc (th d L)) ↦{fullShare} f)
          ∗ (∃ f, (b6.view.loc (th d L)) ↦{fullShare} f) ∗ (∃ f, (b7.view.loc (th d L)) ↦{fullShare} f)
          ∗ (∃ f, (b8.view.loc (th d L)) ↦{fullShare} f) ∗ (∃ f, (b9.view.loc (th d L)) ↦{fullShare} f)
          ∗ (∃ f, (b10.view.loc (th d L)) ↦{fullShare} f)) ∗ restBufs d L) := by
  unfold SparseCore.Cfg.ownBufs restBufs
  refine (bigSep_family (srefs L) _ (fun k => SparseCore.Cfg.mem_ownRefs_of_owner (p := Proc.scVector (cV L) (jV L)) ?_) _).trans ?_
  · fin_cases k <;> rfl
  · exact congrArg (fun p => iprop(p ∗ restBufs d L)) (bigSep_eleven _)

/-- A tile's own semaphores: the seventeen of the body, at zero, and the rest. -/
theorem ownSems0_V (d : Dev nD) (L : grid0.Coords) :
    (ownSems0 (th d L) : sProp 𝕄)
      = iprop((semVal (th d L, .dma cc0_scratch11.sem) 0 ∗ semVal (th d L, .dma cc0_scratch12.sem) 0 ∗ semVal (th d L, .dma cc0_scratch13.sem) 0
          ∗ semVal (th d L, .dma cc0_scratch14.sem) 0 ∗ semVal (th d L, .dma cc0_scratch15.sem) 0 ∗ semVal (th d L, .dma cc0_scoped0.sem) 0
          ∗ semVal (th d L, .dma cc0_scoped1.sem) 0 ∗ semVal (th d L, .dma cc0_scoped2.sem) 0 ∗ semVal (th d L, .dma cc0_scoped3.sem) 0
          ∗ semVal (th d L, .dma cc0_scoped4.sem) 0 ∗ semVal (th d L, .dma cc0_scoped5.sem) 0 ∗ semVal (th d L, .dma cc0_scoped6.sem) 0
          ∗ semVal (th d L, .dma cc0_scoped7.sem) 0 ∗ semVal (th d L, .dma cc0_scoped8.sem) 0 ∗ semVal (th d L, .dma cc0_scoped9.sem) 0
          ∗ semVal (th d L, .dma cc0_scoped10.sem) 0 ∗ semVal (th d L, .dma cc0_scoped11.sem) 0) ∗ restSems d L) := by
  unfold SparseCore.Cfg.ownSems0 restSems
  refine (bigSep_family (sdmas d L) _ (fun k => mem_ownCells.mpr ⟨rfl, ?_⟩) _).trans ?_
  · show (SemLoc.dma (sdma k) : SemLoc sig).isScoped .scVector = true
    revert k; decide
  · exact congrArg (fun p => iprop(p ∗ restSems d L)) (bigSep_seventeen _)

end Cert.Proof.Tile

end
-- ==== Proof.Host.lean ====
/- The host program around the call: its operations before and after as lists. -/
module

public import proofs.«01_k».proof.Proof.Setup
public import Idealize.ShloMosaic.Lib.StableHlo.RunRead

@[expose] public section

noncomputable section

namespace Cert.Proof.Host

open Cert.KernelIdeal Cert.KernelIdeal.Gen
open Idealize.ShloMosaic Idealize.ShloMosaic.StableHlo Idealize.SL.Sem

variable {F : FTy → Type} [FloatOps F]

/-- The operations before the call that make its tables and row lists. -/
abbrev opsTab : List (HloOp τ sig (Elt F)) :=
  [nullary main_cst (constant S_ .f32 0x3F800000#32),
    unary main_cst main_v0 (id : (⟨S_, .f32⟩ : BufTy).Contents (Elt F) → (⟨S_, .f32⟩ : BufTy).Contents (Elt F)),
    unary main_v0 main_v1 (broadcastInDim S1376567x16 ![] bcast_S_S1376567x16 : (⟨S_, .f32⟩ : BufTy).Contents (Elt F) → (⟨S1376567x16, .f32⟩ : BufTy).Contents (Elt F)),
    binary main_arg17 main_v1 main_v2 (mulf : (⟨S1376567x16, .f32⟩ : BufTy).Contents (Elt F) → (⟨S1376567x16, .f32⟩ : BufTy).Contents (Elt F) → (⟨S1376567x16, .f32⟩ : BufTy).Contents (Elt F)),
    unary main_v0 main_v3 (broadcastInDim S200141x16 ![] bcast_S_S200141x16 : (⟨S_, .f32⟩ : BufTy).Contents (Elt F) → (⟨S200141x16, .f32⟩ : BufTy).Contents (Elt F)),
    binary main_arg16 main_v3 main_v4 (mulf : (⟨S200141x16, .f32⟩ : BufTy).Contents (Elt F) → (⟨S200141x16, .f32⟩ : BufTy).Contents (Elt F) → (⟨S200141x16, .f32⟩ : BufTy).Contents (Elt F)),
    unary main_arg14 main_v5 (broadcastInDim S8x1x3 ![0, 2] bcast_S8x3_S8x1x3_0_2 : (⟨S8x3, .f32⟩ : BufTy).Contents (Elt F) → (⟨S8x1x3, .f32⟩ : BufTy).Contents (Elt F)),
    unary main_v5 main_v6 (broadcastInDim S8x289x3 ![0, 1, 2] bcast_S8x1x3_S8x289x3_0_1_2 : (⟨S8x1x3, .f32⟩ : BufTy).Contents (Elt F) → (⟨S8x289x3, .f32⟩ : BufTy).Contents (Elt F)),
    unary main_arg15 main_v7 (broadcastInDim S1x289x5 ![1, 2] bcast_S289x5_S1x289x5_1_2 : (⟨S289x5, .f32⟩ : BufTy).Contents (Elt F) → (⟨S1x289x5, .f32⟩ : BufTy).Contents (Elt F)),
    unary main_v7 main_v8 (broadcastInDim S8x289x5 ![0, 1, 2] bcast_S1x289x5_S8x289x5_0_1_2 : (⟨S1x289x5, .f32⟩ : BufTy).Contents (Elt F) → (⟨S8x289x5, .f32⟩ : BufTy).Contents (Elt F)),
    binary main_v6 main_v8 main_v9 ((fun a b => concatenate S8x289x8 2 [⟨S8x289x3, a⟩, ⟨S8x289x5, b⟩] concatenates_S8x289x3_S8x289x5_S8x289x8_d2) : (⟨S8x289x3, .f32⟩ : BufTy).Contents (Elt F) → (⟨S8x289x5, .f32⟩ : BufTy).Contents (Elt F) → (⟨S8x289x8, .f32⟩ : BufTy).Contents (Elt F)),
    reshape main_v9 main_v10 (rfl : (.f32 : EltTy) = .f32) shapeCasts_S8x289x8_S2312x8,
    unary main_arg18 main_v11 (broadcastInDim S9x1x1x1x2 ![0, 4] bcast_S9x2_S9x1x1x1x2_0_4 : (⟨S9x2, .f32⟩ : BufTy).Contents (Elt F) → (⟨S9x1x1x1x2, .f32⟩ : BufTy).Contents (Elt F)),
    unary main_v11 main_v12 (broadcastInDim S9x6x7x8x2 ![0, 1, 2, 3, 4] bcast_S9x1x1x1x2_S9x6x7x8x2_0_1_2_3_4 : (⟨S9x1x1x1x2, .f32⟩ : BufTy).Contents (Elt F) → (⟨S9x6x7x8x2, .f32⟩ : BufTy).Contents (Elt F)),
    unary main_arg19 main_v13 (broadcastInDim S1x6x1x1x2 ![1, 4] bcast_S6x2_S1x6x1x1x2_1_4 : (⟨S6x2, .f32⟩ : BufTy).Contents (Elt F) → (⟨S1x6x1x1x2, .f32⟩ : BufTy).Contents (Elt F)),
    unary main_v13 main_v14 (broadcastInDim S9x6x7x8x2 ![0, 1, 2, 3, 4] bcast_S1x6x1x1x2_S9x6x7x8x2_0_1_2_3_4 : (⟨S1x6x1x1x2, .f32⟩ : BufTy).Contents (Elt F) → (⟨S9x6x7x8x2, .f32⟩ : BufTy).Contents (Elt F)),
    unary main_arg20 main_v15 (broadcastInDim S1x1x7x1x2 ![2, 4] bcast_S7x2_S1x1x7x1x2_2_4 : (⟨S7x2, .f32⟩ : BufTy).Contents (Elt F) → (⟨S1x1x7x1x2, .f32⟩ : BufTy).Contents (Elt F)),
    unary main_v15 main_v16 (broadcastInDim S9x6x7x8x2 ![0, 1, 2, 3, 4] bcast_S1x1x7x1x2_S9x6x7x8x2_0_1_2_3_4 : (⟨S1x1x7x1x2, .f32⟩ : BufTy).Contents (Elt F) → (⟨S9x6x7x8x2, .f32⟩ : BufTy).Contents (Elt F)),
    unary main_arg21 main_v17 (broadcastInDim S1x1x1x8x2 ![3, 4] bcast_S8x2_S1x1x1x8x2_3_4 : (⟨S8x2, .f32⟩ : BufTy).Contents (Elt F) → (⟨S1x1x1x8x2, .f32⟩ : BufTy).Contents (Elt F)),
    unary main_v17 main_v18 (broadcastInDim S9x6x7x8x2 ![0, 1, 2, 3, 4] bcast_S1x1x1x8x2_S9x6x7x8x2_0_1_2_3_4 : (⟨S1x1x1x8x2, .f32⟩ : BufTy).Contents (Elt F) → (⟨S9x6x7x8x2, .f32⟩ : BufTy).Contents (Elt F)),
    nary ![main_v12, main_v14, main_v16, main_v18] main_v19 (fun u => (concatenate S9x6x7x8x8 4 [⟨S9x6x7x8x2, (u 0 : (⟨S9x6x7x8x2, .f32⟩ : BufTy).Contents (Elt F))⟩, ⟨S9x6x7x8x2, (u 1 : (⟨S9x6x7x8x2, .f32⟩ : BufTy).Contents (Elt F))⟩, ⟨S9x6x7x8x2, (u 2 : (⟨S9x6x7x8x2, .f32⟩ : BufTy).Contents (Elt F))⟩, ⟨S9x6x7x8x2, (u 3 : (⟨S9x6x7x8x2, .f32⟩ : BufTy).Contents (Elt F))⟩] concatenates_S9x6x7x8x2_S9x6x7x8x2_S9x6x7x8x2_S9x6x7x8x2_S9x6x7x8x8_d4 : (⟨S9x6x7x8x8, .f32⟩ : BufTy).Contents (Elt F))),
    reshape main_v19 main_v20 (rfl : (.f32 : EltTy) = .f32) shapeCasts_S9x6x7x8x8_S3024x8,
    nullary main_c (constantI S_ 32 0#32),
    unary main_c main_call0_v0 (sitofp .f32),
    binary main_v10 main_call0_v0 main_v21 (fun x v => pad S2312x16 ![0, 0] ![0, 8] ![0, 0] x v pads_S2312x8_S2312x16_000_080 h_S_),
    nullary main_c_0 (constantI S_ 32 0#32),
    unary main_c_0 main_call1_v0 (sitofp .f32),
    binary main_v20 main_call1_v0 main_v22 (fun x v => pad S3024x16 ![0, 0] ![0, 8] ![0, 0] x v pads_S3024x8_S3024x16_000_080 h_S_),
    nullary main_c_1 (constantI S_ 32 0#32),
    unary main_c_1 main_call2_v0 (sitofp .f32),
    binary main_arg22 main_call2_v0 main_v23 (fun x v => pad S101009x16 ![0, 0] ![0, 1] ![0, 0] x v pads_S101009x15_S101009x16_000_010 h_S_),
    nullary main_c_2 (constantI S_ 32 289#32),
    unary main_c_2 main_v24 (broadcastInDim S1024 ![] bcast_S_S1024 : (⟨S_, .i32⟩ : BufTy).Contents (Elt F) → (⟨S1024, .i32⟩ : BufTy).Contents (Elt F)),
    binary main_arg0 main_v24 main_v25 (muli : (⟨S1024, .i32⟩ : BufTy).Contents (Elt F) → (⟨S1024, .i32⟩ : BufTy).Contents (Elt F) → (⟨S1024, .i32⟩ : BufTy).Contents (Elt F)),
    binary main_v25 main_arg1 main_v26 (addi : (⟨S1024, .i32⟩ : BufTy).Contents (Elt F) → (⟨S1024, .i32⟩ : BufTy).Contents (Elt F) → (⟨S1024, .i32⟩ : BufTy).Contents (Elt F)),
    reshape main_v26 main_v27 (rfl : (.i32 : EltTy) = .i32) shapeCasts_S1024_S32x32,
    nullary main_c_3 (constantI S_ 32 6#32),
    unary main_c_3 main_v28 (broadcastInDim S1024x50 ![] bcast_S_S1024x50 : (⟨S_, .i32⟩ : BufTy).Contents (Elt F) → (⟨S1024x50, .i32⟩ : BufTy).Contents (Elt F)),
    binary main_arg4 main_v28 main_v29 (muli : (⟨S1024x50, .i32⟩ : BufTy).Contents (Elt F) → (⟨S1024x50, .i32⟩ : BufTy).Contents (Elt F) → (⟨S1024x50, .i32⟩ : BufTy).Contents (Elt F)),
    binary main_v29 main_arg5 main_v30 (addi : (⟨S1024x50, .i32⟩ : BufTy).Contents (Elt F) → (⟨S1024x50, .i32⟩ : BufTy).Contents (Elt F) → (⟨S1024x50, .i32⟩ : BufTy).Contents (Elt F)),
    nullary main_c_4 (constantI S_ 32 7#32),
    unary main_c_4 main_v31 (broadcastInDim S1024x50 ![] bcast_S_S1024x50 : (⟨S_, .i32⟩ : BufTy).Contents (Elt F) → (⟨S1024x50, .i32⟩ : BufTy).Contents (Elt F)),
    binary main_v30 main_v31 main_v32 (muli : (⟨S1024x50, .i32⟩ : BufTy).Contents (Elt F) → (⟨S1024x50, .i32⟩ : BufTy).Contents (Elt F) → (⟨S1024x50, .i32⟩ : BufTy).Contents (Elt F)),
    binary main_v32 main_arg6 main_v33 (addi : (⟨S1024x50, .i32⟩ : BufTy).Contents (Elt F) → (⟨S1024x50, .i32⟩ : BufTy).Contents (Elt F) → (⟨S1024x50, .i32⟩ : BufTy).Contents (Elt F)),
    nullary main_c_5 (constantI S_ 32 8#32),
    unary main_c_5 main_v34 (broadcastInDim S1024x50 ![] bcast_S_S1024x50 : (⟨S_, .i32⟩ : BufTy).Contents (Elt F) → (⟨S1024x50, .i32⟩ : BufTy).Contents (Elt F)),
    binary main_v33 main_v34 main_v35 (muli : (⟨S1024x50, .i32⟩ : BufTy).Contents (Elt F) → (⟨S1024x50, .i32⟩ : BufTy).Contents (Elt F) → (⟨S1024x50, .i32⟩ : BufTy).Contents (Elt F)),
    binary main_v35 main_arg7 main_v36 (addi : (⟨S1024x50, .i32⟩ : BufTy).Contents (Elt F) → (⟨S1024x50, .i32⟩ : BufTy).Contents (Elt F) → (⟨S1024x50, .i32⟩ : BufTy).Contents (Elt F)),
    reshape main_arg2 main_v37 (rfl : (.i32 : EltTy) = .i32) shapeCasts_S1024_S32x32,
    reshape main_arg3 main_v38 (rfl : (.i32 : EltTy) = .i32) shapeCasts_S1024x50_S51200,
    reshape main_v38 main_v39 (rfl : (.i32 : EltTy) = .i32) shapeCasts_S51200_S32x1600,
    nullary main_c_6 (constantI S_ 32 0#32),
    unary main_c_6 main_call3_v0 id,
    binary main_v39 main_call3_v0 main_v40 (fun x v => pad S32x1664 ![0, 0] ![0, 64] ![0, 0] x v pads_S32x1600_S32x1664_000_0640 h_S_),
    reshape main_v40 main_v41 (rfl : (.i32 : EltTy) = .i32) shapeCasts_S32x1664_S32x13x128,
    reshape main_v36 main_v42 (rfl : (.i32 : EltTy) = .i32) shapeCasts_S1024x50_S51200,
    reshape main_v42 main_v43 (rfl : (.i32 : EltTy) = .i32) shapeCasts_S51200_S32x1600,
    nullary main_c_7 (constantI S_ 32 0#32),
    unary main_c_7 main_call4_v0 id,
    binary main_v43 main_call4_v0 main_v44 (fun x v => pad S32x1664 ![0, 0] ![0, 64] ![0, 0] x v pads_S32x1600_S32x1664_000_0640 h_S_),
    reshape main_v44 main_v45 (rfl : (.i32 : EltTy) = .i32) shapeCasts_S32x1664_S32x13x128,
    reshape main_arg12 main_v46 (rfl : (.i32 : EltTy) = .i32) shapeCasts_S1024x49_S50176,
    reshape main_v46 main_v47 (rfl : (.i32 : EltTy) = .i32) shapeCasts_S50176_S32x1568,
    nullary main_c_8 (constantI S_ 32 0#32),
    unary main_c_8 main_call5_v0 id,
    binary main_v47 main_call5_v0 main_v48 (fun x v => pad S32x1664 ![0, 0] ![0, 96] ![0, 0] x v pads_S32x1568_S32x1664_000_0960 h_S_)]

/-- The rest of the operations before the call. -/
abbrev opsCont : List (HloOp τ sig (Elt F)) :=
  [reshape main_v48 main_v49 (rfl : (.i32 : EltTy) = .i32) shapeCasts_S32x1664_S32x13x128,
    unary main_arg8 main_v50 (broadcastInDim S1024x50x1 ![0, 1] bcast_S1024x50_S1024x50x1_0_1 : (⟨S1024x50, .f32⟩ : BufTy).Contents (Elt F) → (⟨S1024x50x1, .f32⟩ : BufTy).Contents (Elt F)),
    unary main_arg9 main_v51 (broadcastInDim S1024x50x1 ![0, 1] bcast_S1024x50_S1024x50x1_0_1 : (⟨S1024x50, .f32⟩ : BufTy).Contents (Elt F) → (⟨S1024x50x1, .f32⟩ : BufTy).Contents (Elt F)),
    unary main_arg10 main_v52 (broadcastInDim S1024x50x1 ![0, 1] bcast_S1024x50_S1024x50x1_0_1 : (⟨S1024x50, .f32⟩ : BufTy).Contents (Elt F) → (⟨S1024x50x1, .f32⟩ : BufTy).Contents (Elt F)),
    unary main_arg11 main_v53 (broadcastInDim S1024x50x1 ![0, 1] bcast_S1024x50_S1024x50x1_0_1 : (⟨S1024x50, .f32⟩ : BufTy).Contents (Elt F) → (⟨S1024x50x1, .f32⟩ : BufTy).Contents (Elt F)),
    nary ![main_v50, main_v51, main_v52, main_v53] main_v54 (fun u => (concatenate S1024x50x4 2 [⟨S1024x50x1, (u 0 : (⟨S1024x50x1, .f32⟩ : BufTy).Contents (Elt F))⟩, ⟨S1024x50x1, (u 1 : (⟨S1024x50x1, .f32⟩ : BufTy).Contents (Elt F))⟩, ⟨S1024x50x1, (u 2 : (⟨S1024x50x1, .f32⟩ : BufTy).Contents (Elt F))⟩, ⟨S1024x50x1, (u 3 : (⟨S1024x50x1, .f32⟩ : BufTy).Contents (Elt F))⟩] concatenates_S1024x50x1_S1024x50x1_S1024x50x1_S1024x50x1_S1024x50x4_d2 : (⟨S1024x50x4, .f32⟩ : BufTy).Contents (Elt F))),
    reshape main_v54 main_v55 (rfl : (.f32 : EltTy) = .f32) shapeCasts_S1024x50x4_S32x1600x4,
    reshape main_arg13 main_v56 (rfl : (.f32 : EltTy) = .f32) shapeCasts_S1024x49_S32x1568]

/-- The operations after the call. -/
abbrev opsPost : List (HloOp τ sig (Elt F)) :=
  [reshape main_v57_1 main_v58 (rfl : (.f32 : EltTy) = .f32) shapeCasts_S51200x28_S1024x50x28,
    reshape main_v57_2 main_v59 (rfl : (.f32 : EltTy) = .f32) shapeCasts_S50176x16_S1024x49x16]

set_option maxRecDepth 65536 in
set_option maxHeartbeats 1000000 in
theorem part0_eq (d : Dev nD) : main_part0 (F := F) d = seq opsTab := rfl

set_option maxRecDepth 65536 in
set_option maxHeartbeats 1000000 in
theorem part1_eq (d : Dev nD) :
    main_part1 (F := F) d = (seq opsCont >>= fun _ => sc.run d 0 >>= fun _ => seq opsPost) := rfl

/-- The host program is the operations before, the call, the operations after. -/
theorem main_eq (d : Dev nD) :
    main (F := F) d = (seq opsTab >>= fun _ => seq opsCont >>= fun _ => sc.run d 0 >>= fun _ => seq opsPost) := by
  rw [← part1_eq, ← part0_eq]; rfl

theorem opsTab_sub : (opsTab : List (HloOp τ sig (Elt F))).Forall fun op => op.bufs ⊆ tcRefs τ sig :=
  ⟨nullary_bufs_sub .., unary_bufs_sub .., unary_bufs_sub .., binary_bufs_sub .., unary_bufs_sub .., binary_bufs_sub .., unary_bufs_sub .., unary_bufs_sub .., unary_bufs_sub .., unary_bufs_sub .., binary_bufs_sub .., reshape_bufs_sub .., unary_bufs_sub .., unary_bufs_sub .., unary_bufs_sub .., unary_bufs_sub .., unary_bufs_sub .., unary_bufs_sub .., unary_bufs_sub .., unary_bufs_sub .., nary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., reshape_bufs_sub .., reshape_bufs_sub .., reshape_bufs_sub .., nullary_bufs_sub .., unary_bufs_sub .., binary_bufs_sub .., reshape_bufs_sub .., reshape_bufs_sub .., reshape_bufs_sub .., nullary_bufs_sub .., unary_bufs_sub .., binary_bufs_sub .., reshape_bufs_sub .., reshape_bufs_sub .., reshape_bufs_sub .., nullary_bufs_sub .., unary_bufs_sub .., binary_bufs_sub ..⟩
theorem opsTab_fresh : (opsTab : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsCont_sub : (opsCont : List (HloOp τ sig (Elt F))).Forall fun op => op.bufs ⊆ tcRefs τ sig :=
  ⟨reshape_bufs_sub .., unary_bufs_sub .., unary_bufs_sub .., unary_bufs_sub .., unary_bufs_sub .., nary_bufs_sub .., reshape_bufs_sub .., reshape_bufs_sub ..⟩
theorem opsCont_fresh : (opsCont : List (HloOp τ sig (Elt F))).Forall fun op => op.fresh = ∅ :=
  ⟨rfl, rfl, rfl, rfl, rfl, rfl, rfl, rfl⟩
theorem opsPost_sub : (opsPost : List (HloOp τ sig (Elt F))).Forall fun op => op.bufs ⊆ tcRefs τ sig :=
  ⟨reshape_bufs_sub .., reshape_bufs_sub ..⟩
theorem opsPost_fresh : (opsPost : List (HloOp τ sig (Elt F))).Forall fun op => op.fresh = ∅ :=
  ⟨rfl, rfl⟩

/-- No array of the host program is a kernel's own. -/
theorem scopedRefs_eq : (Finset.univ.filter fun b : Ref sig .tc => b.isScoped) = ∅ := by decide

end Cert.Proof.Host

end
-- ==== Proof.HostVals.lean ====
/- What the host program leaves, before the call, in the twelve arrays the call reads. -/
module

public import proofs.«01_k».proof.Proof.Host

@[expose] public section

noncomputable section

namespace Cert.Proof.Host

open Cert.KernelIdeal Cert.KernelIdeal.Gen
open Idealize.ShloMosaic Idealize.ShloMosaic.StableHlo Idealize.SL.Sem

variable {F : FTy → Type} [FloatOps F]

/-! ## The arrays as functions of the arguments -/

/-- A table times one. -/
def wsegTab (w : S1376567x16.Idx → Elt F .f32) : S1376567x16.Idx → Elt F .f32 :=
  mulf (φ := .f32) w (broadcastInDim S1376567x16 ![] bcast_S_S1376567x16 (constant S_ .f32 0x3F800000#32))
def drvTab (w : S200141x16.Idx → Elt F .f32) : S200141x16.Idx → Elt F .f32 :=
  mulf (φ := .f32) w (broadcastInDim S200141x16 ![] bcast_S_S200141x16 (constant S_ .f32 0x3F800000#32))
/-- The zero a table is padded with. -/
def zeroF : S_.Idx → Elt F .f32 := sitofp .f32 (constantI S_ 32 0#32)
/-- The week-time table: every week's row before every time's row. -/
def wtCat (wk : S8x3.Idx → Elt F .f32) (tm : S289x5.Idx → Elt F .f32) : S8x289x8.Idx → Elt F .f32 :=
  concatenate S8x289x8 2
    [⟨S8x289x3, broadcastInDim S8x289x3 ![0, 1, 2] bcast_S8x1x3_S8x289x3_0_1_2 (broadcastInDim S8x1x3 ![0, 2] bcast_S8x3_S8x1x3_0_2 wk)⟩,
     ⟨S8x289x5, broadcastInDim S8x289x5 ![0, 1, 2] bcast_S1x289x5_S8x289x5_0_1_2 (broadcastInDim S1x289x5 ![1, 2] bcast_S289x5_S1x289x5_1_2 tm)⟩]
    concatenates_S8x289x3_S8x289x5_S8x289x8_d2
def wtTab (wk : S8x3.Idx → Elt F .f32) (tm : S289x5.Idx → Elt F .f32) : S2312x16.Idx → Elt F .f32 :=
  pad S2312x16 ![0, 0] ![0, 8] ![0, 0] (shapeCast S2312x8 (wtCat wk tm) shapeCasts_S8x289x8_S2312x8) zeroF pads_S2312x8_S2312x16_000_080 h_S_
/-- The small features' table: a row for each level, state, lane number and road level. -/
def ttCat (lv : S9x2.Idx → Elt F .f32) (rs : S6x2.Idx → Elt F .f32) (ln : S7x2.Idx → Elt F .f32) (rl : S8x2.Idx → Elt F .f32) : S9x6x7x8x8.Idx → Elt F .f32 :=
  concatenate S9x6x7x8x8 4
    [⟨S9x6x7x8x2, broadcastInDim S9x6x7x8x2 ![0, 1, 2, 3, 4] bcast_S9x1x1x1x2_S9x6x7x8x2_0_1_2_3_4 (broadcastInDim S9x1x1x1x2 ![0, 4] bcast_S9x2_S9x1x1x1x2_0_4 lv)⟩,
     ⟨S9x6x7x8x2, broadcastInDim S9x6x7x8x2 ![0, 1, 2, 3, 4] bcast_S1x6x1x1x2_S9x6x7x8x2_0_1_2_3_4 (broadcastInDim S1x6x1x1x2 ![1, 4] bcast_S6x2_S1x6x1x1x2_1_4 rs)⟩,
     ⟨S9x6x7x8x2, broadcastInDim S9x6x7x8x2 ![0, 1, 2, 3, 4] bcast_S1x1x7x1x2_S9x6x7x8x2_0_1_2_3_4 (broadcastInDim S1x1x7x1x2 ![2, 4] bcast_S7x2_S1x1x7x1x2_2_4 ln)⟩,
     ⟨S9x6x7x8x2, broadcastInDim S9x6x7x8x2 ![0, 1, 2, 3, 4] bcast_S1x1x1x8x2_S9x6x7x8x2_0_1_2_3_4 (broadcastInDim S1x1x1x8x2 ![3, 4] bcast_S8x2_S1x1x1x8x2_3_4 rl)⟩]
    concatenates_S9x6x7x8x2_S9x6x7x8x2_S9x6x7x8x2_S9x6x7x8x2_S9x6x7x8x8_d4
def ttTab (lv : S9x2.Idx → Elt F .f32) (rs : S6x2.Idx → Elt F .f32) (ln : S7x2.Idx → Elt F .f32) (rl : S8x2.Idx → Elt F .f32) : S3024x16.Idx → Elt F .f32 :=
  pad S3024x16 ![0, 0] ![0, 8] ![0, 0] (shapeCast S3024x8 (ttCat lv rs ln rl) shapeCasts_S9x6x7x8x8_S3024x8) zeroF pads_S3024x8_S3024x16_000_080 h_S_
/-- The crossing table with a column of zeros. -/
def wcrTab (w : S101009x15.Idx → Elt F .f32) : S101009x16.Idx → Elt F .f32 :=
  pad S101009x16 ![0, 0] ![0, 1] ![0, 0] w zeroF pads_S101009x15_S101009x16_000_010 h_S_

/-- The row of the week-time table for a week and a time. -/
def wtList (week time : S1024.Idx → Elt F .i32) : S32x32.Idx → Elt F .i32 :=
  shapeCast S32x32 (addi (w := 32) (muli (w := 32) week (broadcastInDim S1024 ![] bcast_S_S1024 (constantI S_ 32 289#32))) time) shapeCasts_S1024_S32x32
def drvList (drv : S1024.Idx → Elt F .i32) : S32x32.Idx → Elt F .i32 := shapeCast S32x32 drv shapeCasts_S1024_S32x32
/-- The row of the small features' table for a level, a state, a lane number and a road level. -/
def tinyRow (lv rs ln rl : S1024x50.Idx → Elt F .i32) : S1024x50.Idx → Elt F .i32 :=
  addi (w := 32) (muli (w := 32) (addi (w := 32) (muli (w := 32) (addi (w := 32) (muli (w := 32) lv (broadcastInDim S1024x50 ![] bcast_S_S1024x50 (constantI S_ 32 6#32))) rs)
    (broadcastInDim S1024x50 ![] bcast_S_S1024x50 (constantI S_ 32 7#32))) ln) (broadcastInDim S1024x50 ![] bcast_S_S1024x50 (constantI S_ 32 8#32))) rl
/-- A list of rows cut in thirty-two, each part padded with zeros to thirteen blocks of one hundred and twenty-eight. -/
def segList (ids : S1024x50.Idx → Elt F .i32) : S32x13x128.Idx → Elt F .i32 :=
  shapeCast S32x13x128 (pad S32x1664 ![0, 0] ![0, 64] ![0, 0] (shapeCast S32x1600 (shapeCast S51200 ids shapeCasts_S1024x50_S51200) shapeCasts_S51200_S32x1600)
    (id (constantI S_ 32 0#32)) pads_S32x1600_S32x1664_000_0640 h_S_) shapeCasts_S32x1664_S32x13x128
def crossList (ids : S1024x49.Idx → Elt F .i32) : S32x13x128.Idx → Elt F .i32 :=
  shapeCast S32x13x128 (pad S32x1664 ![0, 0] ![0, 96] ![0, 0] (shapeCast S32x1568 (shapeCast S50176 ids shapeCasts_S1024x49_S50176) shapeCasts_S50176_S32x1568)
    (id (constantI S_ 32 0#32)) pads_S32x1568_S32x1664_000_0960 h_S_) shapeCasts_S32x1664_S32x13x128
/-- The four continuous columns side by side, cut in thirty-two. -/
def contTab (a b c e : S1024x50.Idx → Elt F .f32) : S32x1600x4.Idx → Elt F .f32 :=
  shapeCast S32x1600x4 (concatenate S1024x50x4 2
    [⟨S1024x50x1, broadcastInDim S1024x50x1 ![0, 1] bcast_S1024x50_S1024x50x1_0_1 a⟩, ⟨S1024x50x1, broadcastInDim S1024x50x1 ![0, 1] bcast_S1024x50_S1024x50x1_0_1 b⟩,
     ⟨S1024x50x1, broadcastInDim S1024x50x1 ![0, 1] bcast_S1024x50_S1024x50x1_0_1 c⟩, ⟨S1024x50x1, broadcastInDim S1024x50x1 ![0, 1] bcast_S1024x50_S1024x50x1_0_1 e⟩]
    concatenates_S1024x50x1_S1024x50x1_S1024x50x1_S1024x50x1_S1024x50x4_d2) shapeCasts_S1024x50x4_S32x1600x4
def delayTab (y : S1024x49.Idx → Elt F .f32) : S32x1568.Idx → Elt F .f32 := shapeCast S32x1568 y shapeCasts_S1024x49_S32x1568

/-! ## The reads -/

variable (V : Valuation τ sig (Elt F))

/-- The arrays before the call. -/
abbrev pre : Valuation τ sig (Elt F) := after opsCont (after opsTab V)

theorem pre_v27 : pre V (no_index (Proc.devRef .tc main_v27)) = wtList (V (Proc.devRef .tc main_arg0)) (V (Proc.devRef .tc main_arg1)) := by
  unfold pre opsCont opsTab
  after_reads_simp
  rfl
theorem pre_v37 : pre V (no_index (Proc.devRef .tc main_v37)) = drvList (V (Proc.devRef .tc main_arg2)) := by
  unfold pre opsCont opsTab
  after_reads_simp
  rfl
theorem pre_v41 : pre V (no_index (Proc.devRef .tc main_v41)) = segList (V (Proc.devRef .tc main_arg3)) := by
  unfold pre opsCont opsTab
  after_reads_simp
  rfl
theorem pre_v45 : pre V (no_index (Proc.devRef .tc main_v45)) = segList (tinyRow (V (Proc.devRef .tc main_arg4)) (V (Proc.devRef .tc main_arg5)) (V (Proc.devRef .tc main_arg6)) (V (Proc.devRef .tc main_arg7))) := by
  unfold pre opsCont opsTab
  after_reads_simp
  rfl
theorem pre_v55 : pre V (no_index (Proc.devRef .tc main_v55)) = contTab (V (Proc.devRef .tc main_arg8)) (V (Proc.devRef .tc main_arg9)) (V (Proc.devRef .tc main_arg10)) (V (Proc.devRef .tc main_arg11)) := by
  unfold pre opsCont opsTab
  after_reads_simp
  rfl
theorem pre_v49 : pre V (no_index (Proc.devRef .tc main_v49)) = crossList (V (Proc.devRef .tc main_arg12)) := by
  unfold pre opsCont opsTab
  after_reads_simp
  rfl
theorem pre_v56 : pre V (no_index (Proc.devRef .tc main_v56)) = delayTab (V (Proc.devRef .tc main_arg13)) := by
  unfold pre opsCont opsTab
  after_reads_simp
  rfl
theorem pre_v21 : pre V (no_index (Proc.devRef .tc main_v21)) = wtTab (V (Proc.devRef .tc main_arg14)) (V (Proc.devRef .tc main_arg15)) := by
  unfold pre opsCont opsTab
  after_reads_simp
  rfl
theorem pre_v4 : pre V (no_index (Proc.devRef .tc main_v4)) = drvTab (V (Proc.devRef .tc main_arg16)) := by
  unfold pre opsCont opsTab
  after_reads_simp
  rfl
theorem pre_v2 : pre V (no_index (Proc.devRef .tc main_v2)) = wsegTab (V (Proc.devRef .tc main_arg17)) := by
  unfold pre opsCont opsTab
  after_reads_simp
  rfl
theorem pre_v22 : pre V (no_index (Proc.devRef .tc main_v22)) = ttTab (V (Proc.devRef .tc main_arg18)) (V (Proc.devRef .tc main_arg19)) (V (Proc.devRef .tc main_arg20)) (V (Proc.devRef .tc main_arg21)) := by
  unfold pre opsCont opsTab
  after_reads_simp
  rfl
theorem pre_v23 : pre V (no_index (Proc.devRef .tc main_v23)) = wcrTab (V (Proc.devRef .tc main_arg22)) := by
  unfold pre opsCont opsTab
  after_reads_simp
  rfl

/-! ## What the host program leaves alone -/

abbrev writesTab : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_c, main_call0_v0, main_v21, main_c_0, main_call1_v0, main_v22, main_c_1, main_call2_v0, main_v23, main_c_2, main_v24, main_v25, main_v26, main_v27, main_c_3, main_v28, main_v29, main_v30, main_c_4, main_v31, main_v32, main_v33, main_c_5, main_v34, main_v35, main_v36, main_v37, main_v38, main_v39, main_c_6, main_call3_v0, main_v40, main_v41, main_v42, main_v43, main_c_7, main_call4_v0, main_v44, main_v45, main_v46, main_v47, main_c_8, main_call5_v0, main_v48]
abbrev writesCont : List (Ref sig .tc) := [main_v49, main_v50, main_v51, main_v52, main_v53, main_v54, main_v55, main_v56]
theorem pre_keep {r : Ref sig .tc} (h : r ∉ writesTab) (h' : r ∉ writesCont) : pre V (Proc.devRef .tc r) = V (Proc.devRef .tc r) :=
  (after_of_writes_sub opsCont _ (forall_writes_sub_of_map (W := writesCont) rfl) h').trans
    (after_of_writes_sub opsTab _ (forall_writes_sub_of_map (W := writesTab) rfl) h)

end Cert.Proof.Host

end
-- ==== Proof.Lists.lean ====
/- The entries of the row lists: each is the argument's entry at the same place, and the padding is zero. -/
module

public import proofs.«01_k».proof.Proof.HostVals
public import Idealize.ShloMosaic.Lib.Pipeline.Value
public import Idealize.ShloMosaic.Lib.KernelVsHost

@[expose] public section

noncomputable section

namespace Cert.Proof.Host

open Cert.KernelIdeal Cert.KernelIdeal.Gen Cert.Proof.Tile
open Idealize.ShloMosaic Idealize.ShloMosaic.StableHlo Idealize.SL.Sem

variable {F : FTy → Type} [FloatOps F]

/-- An entry of a list, its position wrapped into range. -/
abbrev at1 {n : ℕ} (r : ℕ) : (⟨1, ![n + 1]⟩ : Shape).Idx := ix1 (Fin.ofNat (n + 1) r)

/-! ## Where a recut array's entries come from -/

variable {α : Type}

theorem cast_1024 (x : S1024.Idx → α) (h : S1024.ShapeCasts S32x32) {w p : ℕ} (hw : w < 32) (hp : p < 32) :
    shapeCast S32x32 x h (at2 w p) = x (at1 (32 * w + p)) := by
  refine shapeCast_apply _ _ _ (at1 (32 * w + p) : S1024.Idx) ?_
  rw [Shape.rowMajor_val_one, Shape.rowMajor_val_two]
  show (32 * w + p) % 1024 = w % 32 * 32 + p % 32
  omega

theorem cast_1024x50 (x : S1024x50.Idx → α) (h : S1024x50.ShapeCasts S51200) (h' : S51200.ShapeCasts S32x1600) {w p : ℕ} (hw : w < 32) (hp : p < 1600) :
    shapeCast S32x1600 (shapeCast S51200 x h) h' (at2 w p) = x (at2 ((1600 * w + p) / 50) ((1600 * w + p) % 50)) := by
  refine (shapeCast_apply _ _ _ (at1 (1600 * w + p) : S51200.Idx) ?_).trans (shapeCast_apply _ _ _ (at2 ((1600 * w + p) / 50) ((1600 * w + p) % 50) : S1024x50.Idx) ?_)
  · rw [Shape.rowMajor_val_one, Shape.rowMajor_val_two]
    show (1600 * w + p) % 51200 = w % 32 * 1600 + p % 1600
    omega
  · rw [Shape.rowMajor_val_one, Shape.rowMajor_val_two]
    show (1600 * w + p) / 50 % 1024 * 50 + (1600 * w + p) % 50 % 50 = (1600 * w + p) % 51200
    omega

theorem cast_1024x49 (x : S1024x49.Idx → α) (h : S1024x49.ShapeCasts S50176) (h' : S50176.ShapeCasts S32x1568) {w p : ℕ} (hw : w < 32) (hp : p < 1568) :
    shapeCast S32x1568 (shapeCast S50176 x h) h' (at2 w p) = x (at2 ((1568 * w + p) / 49) ((1568 * w + p) % 49)) := by
  refine (shapeCast_apply _ _ _ (at1 (1568 * w + p) : S50176.Idx) ?_).trans (shapeCast_apply _ _ _ (at2 ((1568 * w + p) / 49) ((1568 * w + p) % 49) : S1024x49.Idx) ?_)
  · rw [Shape.rowMajor_val_one, Shape.rowMajor_val_two]
    show (1568 * w + p) % 50176 = w % 32 * 1568 + p % 1568
    omega
  · rw [Shape.rowMajor_val_one, Shape.rowMajor_val_two]
    show (1568 * w + p) / 49 % 1024 * 49 + (1568 * w + p) % 49 % 49 = (1568 * w + p) % 50176
    omega

theorem cast_blocks (x : S32x1664.Idx → α) (h : S32x1664.ShapeCasts S32x13x128) {w p : ℕ} (hw : w < 32) (hp : p < 1664) :
    shapeCast S32x13x128 x h (at3 w (p / 128) (p % 128)) = x (at2 w p) := by
  refine shapeCast_apply _ _ _ (at2 w p : S32x1664.Idx) ?_
  rw [Shape.rowMajor_val_two, Shape.rowMajor_val_three]
  show w % 32 * 1664 + p % 1664 = (w % 32 * 13 + p / 128 % 13) * 128 + p % 128 % 128
  omega

/-! ## The row lists at a place -/

theorem wtList_at (week time : S1024.Idx → Elt F .i32) {w p : ℕ} (hw : w < 32) (hp : p < 32) :
    (wtList week time (at2 w p) : BitVec 32) = (week (at1 (32 * w + p)) : BitVec 32) * 289#32 + (time (at1 (32 * w + p)) : BitVec 32) :=
  cast_1024 _ _ hw hp

theorem drvList_at (drv : S1024.Idx → Elt F .i32) {w p : ℕ} (hw : w < 32) (hp : p < 32) : drvList drv (at2 w p) = drv (at1 (32 * w + p)) :=
  cast_1024 _ _ hw hp

theorem tinyRow_at (lv rs ln rl : S1024x50.Idx → Elt F .i32) (i : S1024x50.Idx) :
    (tinyRow lv rs ln rl i : BitVec 32)
      = (((lv i : BitVec 32) * 6#32 + (rs i : BitVec 32)) * 7#32 + (ln i : BitVec 32)) * 8#32 + (rl i : BitVec 32) := rfl

theorem segList_at (ids : S1024x50.Idx → Elt F .i32) {w p : ℕ} (hw : w < 32) (hp : p < 1600) :
    segList ids (at3 w (p / 128) (p % 128)) = ids (at2 ((1600 * w + p) / 50) ((1600 * w + p) % 50)) := by
  refine (cast_blocks _ _ hw (by omega)).trans ((pad_apply_of_inside _ _ _ _ _ _ _ _ (at2 w p : S32x1600.Idx) ?_).trans (cast_1024x50 _ _ _ hw hp))
  intro a
  match a with
  | 0 => show w % 32 = 0 + w % 32 * (0 + 1); omega
  | 1 => show p % 1664 = 0 + p % 1600 * (0 + 1); omega

theorem crossList_at (ids : S1024x49.Idx → Elt F .i32) {w p : ℕ} (hw : w < 32) (hp : p < 1568) :
    crossList ids (at3 w (p / 128) (p % 128)) = ids (at2 ((1568 * w + p) / 49) ((1568 * w + p) % 49)) := by
  refine (cast_blocks _ _ hw (by omega)).trans ((pad_apply_of_inside _ _ _ _ _ _ _ _ (at2 w p : S32x1568.Idx) ?_).trans (cast_1024x49 _ _ _ hw hp))
  intro a
  match a with
  | 0 => show w % 32 = 0 + w % 32 * (0 + 1); omega
  | 1 => show p % 1664 = 0 + p % 1568 * (0 + 1); omega

/-! ## Every entry of the padded lists -/

theorem segList_all (Q : BitVec 32 → Prop) (h0 : Q 0#32) (ids : S1024x50.Idx → Elt F .i32) (h : ∀ i, Q (ids i)) (j : S32x13x128.Idx) : Q (segList ids j) := by
  unfold segList shapeCast pad
  split
  · exact h _
  · exact h0
theorem crossList_all (Q : BitVec 32 → Prop) (h0 : Q 0#32) (ids : S1024x49.Idx → Elt F .i32) (h : ∀ i, Q (ids i)) (j : S32x13x128.Idx) : Q (crossList ids j) := by
  unfold crossList shapeCast pad
  split
  · exact h _
  · exact h0

/-! ## The arguments' ranges, and the lists' -/

/-- Every number among the arguments names a row of its table. -/
structure ArgsOK (V : Valuation τ sig (Elt F)) : Prop where
  week : ∀ i, (V (Proc.devRef .tc main_arg0) i : BitVec 32).toNat < 8
  time : ∀ i, (V (Proc.devRef .tc main_arg1) i : BitVec 32).toNat < 289
  drv : ∀ i, (V (Proc.devRef .tc main_arg2) i : BitVec 32).toNat < 200141
  seg : ∀ i, (V (Proc.devRef .tc main_arg3) i : BitVec 32).toNat < 1376567
  level : ∀ i, (V (Proc.devRef .tc main_arg4) i : BitVec 32).toNat < 9
  state : ∀ i, (V (Proc.devRef .tc main_arg5) i : BitVec 32).toNat < 6
  lane : ∀ i, (V (Proc.devRef .tc main_arg6) i : BitVec 32).toNat < 7
  road : ∀ i, (V (Proc.devRef .tc main_arg7) i : BitVec 32).toNat < 8
  cross : ∀ i, (V (Proc.devRef .tc main_arg12) i : BitVec 32).toNat < 101009

/-- The row number of a week and a time. -/
theorem wt_toNat {a b : BitVec 32} (ha : a.toNat < 8) (hb : b.toNat < 289) : (a * 289#32 + b).toNat = a.toNat * 289 + b.toNat := by
  rw [BitVec.toNat_add, BitVec.toNat_mul, BitVec.toNat_ofNat]; omega
/-- The row number of a level, a state, a lane number and a road level. -/
theorem tiny_toNat {a b c d : BitVec 32} (ha : a.toNat < 9) (hb : b.toNat < 6) (hc : c.toNat < 7) (hd : d.toNat < 8) :
    (((a * 6#32 + b) * 7#32 + c) * 8#32 + d).toNat = ((a.toNat * 6 + b.toNat) * 7 + c.toNat) * 8 + d.toNat := by
  simp only [BitVec.toNat_add, BitVec.toNat_mul, BitVec.toNat_ofNat]; omega

end Cert.Proof.Host

end
-- ==== Proof.Shares.lean ====
/- The arrays of the call, whole, are what its thirty-two tiles hold of them: of an array they read each a share, of a
result each its own blocks. -/
module

public import proofs.«01_k».proof.Proof.Setup

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- One summand for each tile. -/
def tiles (Φ : grid0.Coords → sProp 𝕄) : sProp 𝕄 :=
  bigSep Finset.univ fun c : Fin (grid0.bound 0) => bigSep Finset.univ fun i : Fin (grid0.bound 1) => Φ (coordsV c i)

theorem tiles_sep (Φ Ψ : grid0.Coords → sProp 𝕄) : tiles (fun L => iprop(Φ L ∗ Ψ L)) = iprop(tiles Φ ∗ tiles Ψ) := by
  unfold tiles
  rw [← bigSep_sep']
  exact bigSep_congr fun c _ => bigSep_sep' _ _ _

/-- An array at the full share is its thirty-two shares. -/
theorem pts_tiles {ℓ : Loc nD τ sig} (f : Buf (Elt F) ℓ) : (ℓ ↦{fullShare} f : sProp 𝕄) = tiles fun L => ℓ ↦{tq L} f := by
  unfold tiles
  rw [pointsTo_piecesOf Finset.univ f (o := 2) (by decide) fullShare]
  exact bigSep_congr fun c _ => pointsTo_piecesOf Finset.univ f (o := 16) (by decide) _

/-- An array whose positions are apart by tile is its tiles' parts. -/
theorem blocks_tiles {ℓ : Loc nD τ sig} (f : Buf (Elt F) ℓ) (B : grid0.Coords → Finset (Idx ℓ)) (w : Idx ℓ → ℕ)
    (hB : ∀ L i, i ∈ B L ↔ w i = wk L) (hw : ∀ i, w i < 32) :
    (ℓ ↦{fullShare} f : sProp 𝕄) = tiles fun L => ℓ ↦[B L]{fullShare} f := by
  have hU : (Finset.univ : Finset (Idx ℓ)) = Finset.univ.biUnion fun p : Fin (grid0.bound 0) × Fin (grid0.bound 1) => B (coordsV p.1 p.2) := by
    symm
    rw [Finset.eq_univ_iff_forall]
    intro i
    have h := hw i
    refine Finset.mem_biUnion.mpr ⟨(⟨w i % 2, Nat.mod_lt _ (by decide)⟩, ⟨w i / 2, show w i / 2 < 16 by omega⟩), Finset.mem_univ _, (hB _ _).mpr ?_⟩
    show w i = 2 * (w i / 2) + w i % 2
    omega
  unfold tiles
  refine (congrArg (fun S => (ℓ ↦[S]{fullShare} f : sProp 𝕄)) hU).trans ((pointsTo_biUnion _ _ ?_).trans (bigSep_univ_prod _))
  rintro ⟨c, i⟩ - ⟨c', i'⟩ - hne
  rw [Finset.disjoint_left]
  intro x hx hx'
  have e := ((hB _ _).mp hx).symm.trans ((hB _ _).mp hx')
  change 2 * i.val + c.val = 2 * i'.val + c'.val at e
  have hc : c.val < 2 := c.isLt
  have hc' : c'.val < 2 := c'.isLt
  have ec : c.val = c'.val := by omega
  have ei : i.val = i'.val := by omega
  exact hne (Prod.ext (Fin.ext ec) (Fin.ext ei))

/-- The array's part on two sets apart is the two parts. -/
theorem pts_union {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) :=
  have e := pointsTo_union (q := fullShare) (f := f) h
  equiv_iff.mp ⟨e.1, e.2⟩

/-! ## Which positions are in a block -/

theorem mem_extA (L : grid0.Coords) (j : S1024x24.Idx) : j ∈ (extA L).set ↔ (j 0).val / 32 = wk L ∧ (j 1).val < 8 := by
  have o0 : k0_off6 L 0 = _ := congrFun (k0_off6_eq L) 0
  have o1 : k0_off6 L 1 = _ := congrFun (k0_off6_eq L) 1
  simp only [Matrix.cons_val_zero, Matrix.cons_val_one] at o0 o1
  rw [Rect.mem_set_unit, Fin.forall_fin_two, o0, o1]
  show (_ ≤ (j 0).val ∧ (j 0).val < _ + 32) ∧ (_ ≤ (j 1).val ∧ (j 1).val < _ + 8) ↔ _ = 2 * (L 1).val + (L 0).val ∧ _
  omega
theorem mem_extB (L : grid0.Coords) (j : S1024x24.Idx) : j ∈ (extB L).set ↔ (j 0).val / 32 = wk L ∧ 8 ≤ (j 1).val := by
  have o0 : k0_off7 L 0 = _ := congrFun (k0_off7_eq L) 0
  have o1 : k0_off7 L 1 = _ := congrFun (k0_off7_eq L) 1
  simp only [Matrix.cons_val_zero, Matrix.cons_val_one] at o0 o1
  rw [Rect.mem_set_unit, Fin.forall_fin_two, o0, o1]
  show (_ ≤ (j 0).val ∧ (j 0).val < _ + 32) ∧ (_ ≤ (j 1).val ∧ (j 1).val < _ + 16) ↔ _ = 2 * (L 1).val + (L 0).val ∧ _
  have := (j 1).isLt
  change (j 1).val < 24 at this
  omega
theorem mem_sgoA (L : grid0.Coords) (j : S51200x28.Idx) : j ∈ (sgoA L).set ↔ (j 0).val / 1600 = wk L ∧ (j 1).val < 16 := by
  have o0 : k0_off8 L 0 = _ := congrFun (k0_off8_eq L) 0
  have o1 : k0_off8 L 1 = _ := congrFun (k0_off8_eq L) 1
  simp only [Matrix.cons_val_zero, Matrix.cons_val_one] at o0 o1
  rw [Rect.mem_set_unit, Fin.forall_fin_two, o0, o1]
  show (_ ≤ (j 0).val ∧ (j 0).val < _ + 1600) ∧ (_ ≤ (j 1).val ∧ (j 1).val < _ + 16) ↔ _ = 2 * (L 1).val + (L 0).val ∧ _
  omega
theorem mem_sgoB (L : grid0.Coords) (j : S51200x28.Idx) :
    j ∈ (sgoB L).set ↔ (j 0).val / 1600 = wk L ∧ 16 ≤ (j 1).val ∧ (j 1).val < 24 := by
  have o0 : k0_off9 L 0 = _ := congrFun (k0_off9_eq L) 0
  have o1 : k0_off9 L 1 = _ := congrFun (k0_off9_eq L) 1
  simp only [Matrix.cons_val_zero, Matrix.cons_val_one] at o0 o1
  rw [Rect.mem_set_unit, Fin.forall_fin_two, o0, o1]
  show (_ ≤ (j 0).val ∧ (j 0).val < _ + 1600) ∧ (_ ≤ (j 1).val ∧ (j 1).val < _ + 8) ↔ _ = 2 * (L 1).val + (L 0).val ∧ _
  omega
theorem mem_sgoC (L : grid0.Coords) (j : S51200x28.Idx) : j ∈ (sgoC L).set ↔ (j 0).val / 1600 = wk L ∧ 24 ≤ (j 1).val := by
  have o0 : k0_off3 L 0 = _ := congrFun (k0_off3_eq L) 0
  have o1 : k0_off3 L 1 = _ := congrFun (k0_off3_eq L) 1
  simp only [Matrix.cons_val_zero, Matrix.cons_val_one] at o0 o1
  rw [Rect.mem_set_unit, Fin.forall_fin_two, o0, o1]
  show (_ ≤ (j 0).val ∧ (j 0).val < _ + 1600) ∧ (_ ≤ (j 1).val ∧ (j 1).val < _ + 4) ↔ _ = 2 * (L 1).val + (L 0).val ∧ _
  have := (j 1).isLt
  change (j 1).val < 28 at this
  omega
theorem mem_lnkA (L : grid0.Coords) (j : S50176x16.Idx) : j ∈ (lnkA L).set ↔ (j 0).val / 1568 = wk L := by
  have o0 : k0_off12 L 0 = _ := congrFun (k0_off12_eq L) 0
  have o1 : k0_off12 L 1 = _ := congrFun (k0_off12_eq L) 1
  simp only [Matrix.cons_val_zero, Matrix.cons_val_one] at o0 o1
  rw [Rect.mem_set_unit, Fin.forall_fin_two, o0, o1]
  show (_ ≤ (j 0).val ∧ (j 0).val < _ + 1568) ∧ (_ ≤ (j 1).val ∧ (j 1).val < _ + 16) ↔ _ = 2 * (L 1).val + (L 0).val
  have := (j 1).isLt
  change (j 1).val < 16 at this
  omega

/-! ## The results -/

theorem ext_tiles (d : Dev nD) (e : S1024x24.Idx → Elt F .f32) : (extLoc d ↦{fullShare} e : sProp 𝕄)
    = tiles fun L => iprop((extLoc d ↦[(extA L).set]{fullShare} e) ∗ extLoc d ↦[(extB L).set]{fullShare} e) := by
  refine (blocks_tiles (ℓ := extLoc d) e (fun L => ((extA L).set ∪ (extB L).set : Finset S1024x24.Idx)) (fun i : S1024x24.Idx => (i 0).val / 32) (fun L (i : S1024x24.Idx) => ?_) (fun i : S1024x24.Idx => ?_)).trans ?_
  · refine Finset.mem_union.trans ?_
    have hA := mem_extA L i
    have hB := mem_extB L i
    rw [hA, hB]
    show _ ↔ (i 0).val / 32 = _
    omega
  · have : (i 0).val < 1024 := (i 0).isLt
    show (i 0).val / 32 < 32
    omega
  · refine congrArg tiles (funext fun L => pts_union (ℓ := extLoc d) (Finset.disjoint_left.mpr fun i hi hi' => ?_) e)
    have hA := (mem_extA L i).mp hi
    have hB := (mem_extB L i).mp hi'
    omega

theorem sgo_tiles (d : Dev nD) (s : S51200x28.Idx → Elt F .f32) : (sgoLoc d ↦{fullShare} s : sProp 𝕄)
    = tiles fun L => iprop((sgoLoc d ↦[(sgoA L).set]{fullShare} s) ∗ (sgoLoc d ↦[(sgoB L).set]{fullShare} s) ∗ sgoLoc d ↦[(sgoC L).set]{fullShare} s) := by
  refine (blocks_tiles (ℓ := sgoLoc d) s (fun L => ((sgoA L).set ∪ ((sgoB L).set ∪ (sgoC L).set) : Finset S51200x28.Idx)) (fun i : S51200x28.Idx => (i 0).val / 1600) (fun L (i : S51200x28.Idx) => ?_) (fun i : S51200x28.Idx => ?_)).trans ?_
  · refine Finset.mem_union.trans ((or_congr Iff.rfl Finset.mem_union).trans ?_)
    have hA := mem_sgoA L i
    have hB := mem_sgoB L i
    have hC := mem_sgoC L i
    rw [hA, hB, hC]
    show _ ↔ (i 0).val / 1600 = _
    omega
  · have : (i 0).val < 51200 := (i 0).isLt
    show (i 0).val / 1600 < 32
    omega
  · refine congrArg tiles (funext fun L => (pts_union (ℓ := sgoLoc d) (Finset.disjoint_left.mpr fun i hi hi' => ?_) s).trans
      (congrArg (fun p => iprop((sgoLoc d ↦[(sgoA L).set]{fullShare} s) ∗ p)) (pts_union (ℓ := sgoLoc d) (Finset.disjoint_left.mpr fun i hi hi' => ?_) s)))
    · have hA := (mem_sgoA L i).mp hi
      rcases Finset.mem_union.mp hi' with hi' | hi'
      · have hB := (mem_sgoB L i).mp hi'
        omega
      · have hC := (mem_sgoC L i).mp hi'
        omega
    · have hB := (mem_sgoB L i).mp hi
      have hC := (mem_sgoC L i).mp hi'
      omega

theorem lnk_tiles (d : Dev nD) (l : S50176x16.Idx → Elt F .f32) : (lnkLoc d ↦{fullShare} l : sProp 𝕄)
    = tiles fun L => lnkLoc d ↦[(lnkA L).set]{fullShare} l := by
  refine blocks_tiles (ℓ := lnkLoc d) l (fun L => (lnkA L).set) (fun i : S50176x16.Idx => (i 0).val / 1568) (fun L i => mem_lnkA L i) (fun i : S50176x16.Idx => ?_)
  have : (i 0).val < 50176 := (i 0).isLt
  show (i 0).val / 1568 < 32
  omega

/-! ## Everything -/

/-- The three results whole. -/
def outsAll (d : Dev nD) (e : S1024x24.Idx → Elt F .f32) (s : S51200x28.Idx → Elt F .f32) (l : S50176x16.Idx → Elt F .f32) : sProp 𝕄 :=
  iprop((extLoc d ↦{fullShare} e) ∗ (sgoLoc d ↦{fullShare} s) ∗ (lnkLoc d ↦{fullShare} l))

theorem outs_tiles (d : Dev nD) (e : S1024x24.Idx → Elt F .f32) (s : S51200x28.Idx → Elt F .f32) (l : S50176x16.Idx → Elt F .f32) :
    outsAll d e s l = tiles fun L => outs d L e s l := by
  unfold outsAll
  rw [ext_tiles, sgo_tiles, lnk_tiles, ← tiles_sep, ← tiles_sep]
  refine congrArg tiles (funext fun L => ?_)
  unfold outs
  refine equiv_iff.mp ⟨?_, ?_⟩
  · show (_ : sProp 𝕄) ⊢ _
    iintro ⟨⟨A, B⟩, ⟨C, D, E⟩, G⟩
    isplitl [A]; · iexact A
    isplitl [B]; · iexact B
    isplitl [C]; · iexact C
    isplitl [D]; · iexact D
    isplitl [E]; · iexact E
    iexact G
  · show (_ : sProp 𝕄) ⊢ _
    iintro ⟨A, B, C, D, E, G⟩
    isplitl [A B]
    · isplitl [A]; · iexact A
      iexact B
    isplitl [C D E]
    · isplitl [C]; · iexact C
      isplitl [D]; · iexact D
      iexact E
    iexact G

theorem reads_tiles (X : Dev nD → Ops F) (d : Dev nD) : (reads X d fullShare : sProp 𝕄) = tiles fun L => reads X d (tq L) := by
  unfold reads
  simp only [tiles_sep]
  rw [← pts_tiles (ℓ := wtidxLoc d), ← pts_tiles (ℓ := didxLoc d), ← pts_tiles (ℓ := segLoc d), ← pts_tiles (ℓ := tinyLoc d), ← pts_tiles (ℓ := contLoc d),
    ← pts_tiles (ℓ := crossLoc d), ← pts_tiles (ℓ := delayLoc d), ← pts_tiles (ℓ := wtLoc d), ← pts_tiles (ℓ := drvLoc d), ← pts_tiles (ℓ := wsegLoc d),
    ← pts_tiles (ℓ := ttLoc d), ← pts_tiles (ℓ := wcrLoc d)]

variable (m : (ℓ : Loc nD τ sig) → Buf (Elt F) ℓ) (X : Dev nD → Ops F)

/-- What the call is given, and what it gives back. -/
theorem st_eq (d : Dev nD) : (bigSep Finset.univ fun c : Fin ((K (F := F)).nCore 0) => (P m X).st 0 d c)
    = iprop(reads X d fullShare ∗ outsAll d (m (extLoc d)) (m (sgoLoc d)) (m (lnkLoc d))) := by
  rw [reads_tiles, outs_tiles, ← tiles_sep]
  rfl
theorem dn_eq (d : Dev nD) : (bigSep Finset.univ fun c : Fin ((K (F := F)).nCore 0) => (P m X).dn 0 d c)
    = iprop(reads X d fullShare ∗ outsAll d (X d).ext (X d).sgo (X d).lnk) := by
  rw [reads_tiles, outs_tiles, ← tiles_sep]
  rfl

end Cert.Proof.Tile

end
-- ==== Proof.Rows.lean ====
/- The gathers of one table: thirteen of them, each of 128 rows, fill the thirteen blocks of a row buffer.

What the buffer then holds is stated once for the whole of it (`chunkRows`): row `r` of the buffer is the table's row
that entry `r` of the chunked list names. -/
module

public import proofs.«01_k».proof.Proof.Setup

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-- A buffer held through a view is held through slices of it that are apart and cover it. -/
theorem pointsTo_parts (thr : Thread nD τ) {sp : Space} {s : Shape} {e : EltTy} {n : ℕ} (v : View sig thr.2.kind sp s e) (r : Fin n → Rect s)
    (hd : ∀ i j, i ≠ j → Disjoint (r i).set (r j).set) (hc : ∀ x, ∃ i, x ∈ (r i).set) (q : PosShare TreeShare) (f : Buf (Elt F) (v.loc thr)) :
    (v.loc thr ↦[v.set]{q} f : sProp 𝕄) = bigSep Finset.univ fun k : Fin n => v.loc thr ↦[(v.slice (r k)).set]{q} f := by
  classical
  have hset : v.set = Finset.univ.biUnion fun k => (v.slice (r k)).set := by
    ext i
    simp only [Finset.mem_biUnion, Finset.mem_univ, true_and, View.set_slice, Finset.mem_map]
    constructor
    · intro h
      obtain ⟨x, -, rfl⟩ := Finset.mem_map.mp h
      obtain ⟨k, hk⟩ := hc x
      exact ⟨k, x, hk, rfl⟩
    · rintro ⟨k, x, -, rfl⟩
      exact Finset.mem_map_of_mem _ (Finset.mem_univ x)
  refine (congrArg (fun I => (v.loc thr ↦[I]{q} f : sProp 𝕄)) hset).trans (pointsTo_biUnion Finset.univ (ℓ := v.loc thr) (fun k => (v.slice (r k)).set) ?_)
  intro i _ j _ hij
  beta_reduce
  rw [View.set_slice, View.set_slice]
  exact (Finset.disjoint_map _).mpr (hd i j hij)

/-! ## The blocks of a row buffer and the rows of a list -/

theorem blk_inb (k : Fin 13) : ∀ a, (![128 * k.val, 0] : Fin 2 → ℕ) a + S128x16.size a ≤ S1664x16.size a :=
  Rect.inb₂ (show 128 * k.val + 128 ≤ 1664 by omega) (show 0 + 16 ≤ 16 by omega)
theorem row_inb (k : Fin 13) : ∀ a, (![k.val, 0] : Fin 2 → ℕ) a + S1x128.size a ≤ S13x128.size a :=
  Rect.inb₂ (show k.val + 1 ≤ 13 by omega) (show 0 + 128 ≤ 128 by omega)

abbrev blkR (k : Fin 13) : Rect S1664x16 := Rect.unit (s := S1664x16) ![128 * k.val, 0] S128x16.size (blk_inb k)
abbrev rowR (k : Fin 13) : Rect S13x128 := Rect.unit (s := S13x128) ![k.val, 0] S1x128.size (row_inb k)

theorem blkR_disjoint (i j : Fin 13) (h : i ≠ j) : Disjoint (blkR i).set (blkR j).set := by
  have : i.val ≠ j.val := fun e => h (Fin.ext e)
  refine Rect.unit_disjoint (0 : Fin 2) ?_
  show 128 * i.val + 128 ≤ 128 * j.val ∨ 128 * j.val + 128 ≤ 128 * i.val
  omega
theorem rowR_disjoint (i j : Fin 13) (h : i ≠ j) : Disjoint (rowR i).set (rowR j).set := by
  have : i.val ≠ j.val := fun e => h (Fin.ext e)
  refine Rect.unit_disjoint (0 : Fin 2) ?_
  show i.val + 1 ≤ j.val ∨ j.val + 1 ≤ i.val
  omega
theorem blkR_cover (x : S1664x16.Idx) : ∃ i, x ∈ (blkR i).set := by
  have h0 : (x 0).val < 1664 := (x 0).isLt
  have h1 : (x 1).val < 16 := (x 1).isLt
  refine ⟨⟨(x 0).val / 128, by omega⟩, Rect.mem_set_unit.mpr (Fin.forall_fin_two.mpr ⟨?_, ?_⟩)⟩
  · show 128 * ((x 0).val / 128) ≤ (x 0).val ∧ (x 0).val < 128 * ((x 0).val / 128) + 128
    omega
  · show 0 ≤ (x 1).val ∧ (x 1).val < 0 + 16
    omega
theorem rowR_cover (x : S13x128.Idx) : ∃ i, x ∈ (rowR i).set := by
  have h1 : (x 1).val < 128 := (x 1).isLt
  refine ⟨x 0, Rect.mem_set_unit.mpr (Fin.forall_fin_two.mpr ⟨?_, ?_⟩)⟩
  · show (x 0).val ≤ (x 0).val ∧ (x 0).val < (x 0).val + 1
    omega
  · show 0 ≤ (x 1).val ∧ (x 1).val < 0 + 128
    omega

/-- Block `k` of a row buffer, and row `k` of a chunked list. -/
abbrev blk {κ : Kind} (R : Memref sig κ .vmem S1664x16 .f32) (k : Fin 13) : Memref sig κ .vmem S128x16 .f32 := R.slice (blkR k) (fun _ => rfl)
abbrev lrow {κ : Kind} (Ls : Memref sig κ .vmem S13x128 .i32) (k : Fin 13) : Memref sig κ .vmem S128 .i32 :=
  (Ls.slice (rowR k) (fun _ => rfl)).squeeze S128 squeezes_S1x128_S128

/-- What the row buffer holds when its thirteen blocks are gathered. -/
def chunkRows {n : ℕ} (g : (⟨2, ![n + 1, 16]⟩ : Shape).Idx → Elt F .f32) (l : S13x128.Idx → Elt F .i32) : S1664x16.Idx → Elt F .f32 :=
  fun j => g (at2 (l (at2 ((j 0).val / 128) ((j 0).val % 128)) : BitVec 32).toNat (j 1).val)

theorem read_lrow {κ : Kind} (Ls : Memref sig κ .vmem S13x128 .i32) (f : Ls.view.ty.Contents (Elt F)) (k : Fin 13) (y : S128.Idx) :
    (lrow Ls k).view.read (Elt F) f y = Ls.view.read (Elt F) f (at2 k.val (y 0).val) := by
  have h : (rowR k).emb (Shape.reshapeEquiv squeezes_S1x128_S128.numel_eq y) = (at2 k.val (y 0).val : S13x128.Idx) := by
    rw [show (Shape.reshapeEquiv squeezes_S1x128_S128.numel_eq y : S1x128.Idx) = Fin.cons (⟨0, Nat.one_pos⟩ : Fin 1) y from
      Shape.reshapeEquiv_cons_one (n := 1) (d := ![128]) _ y]
    have hk := k.isLt
    have hy : (y 0).val < 128 := (y 0).isLt
    funext a
    match a with
    | 0 => exact Fin.ext (show k.val + 1 * 0 = k.val % 13 by omega)
    | 1 => exact Fin.ext (show 0 + 1 * (y 0).val = (y 0).val % 128 by omega)
  rw [← h]; rfl

section Batch

variable {n : ℕ} (thr : Thread nD τ) (hp : thr.2.kind = .scVector)
  (src : Memref sig thr.2.kind .hbm ⟨2, ![n + 1, 16]⟩ .f32) (hsrc : src.view.WordExact)
  (hg : (⟨2, ![n + 1, 16]⟩ : Shape).Gathers 0 S128x16) (hr : (⟨2, ![n + 1, 16]⟩ : Shape).StreamRows 0)
  (R : Memref sig thr.2.kind .vmem S1664x16 .f32) (Ls : Memref sig thr.2.kind .vmem S13x128 .i32) (sem : DmaSem sig)
  (fs : Buf (Elt F) (src.view.loc thr)) (fr : Buf (Elt F) (R.view.loc thr)) (fl : Buf (Elt F) (Ls.view.loc thr)) (q ql : PosShare TreeShare)
  (hl : ∀ x, (Ls.view.read (Elt F) fl x : BitVec 32).toNat < n + 1)

/-- The thirteen gathers of one table on one semaphore. -/
def bat : Cert.GatherBatch.Dat (sig := sig) F thr .hbm ⟨2, ![n + 1, 16]⟩ S128x16 S128 .f32 0 13 where
  hg := hg
  src := src
  dst := blk R
  offs := lrow Ls
  hn := rfl
  sem := sem
  hp := hp
  hsrc := hsrc
  he := rfl
  hsp := Or.inl rfl
  hr := hr
  fs := fs
  fd := fun _ => fr
  fo := fun _ => fl
  q := pieceOf q 13 (by decide)
  qo := ql
  hs := by decide
  hin := fun k x => by rw [read_lrow]; exact hl _

/-- What gather `k` leaves at an index of its block is what `chunkRows` says of the buffer there. -/
theorem bat_payload (k : Fin 13) (x : S128x16.Idx) :
    (bat thr hp src hsrc hg hr R Ls sem fs fr fl q ql hl).payload k x
      = chunkRows (src.view.read (Elt F) fs) (Ls.view.read (Elt F) fl) ((blkR k).emb x) := by
  have hk := k.isLt
  have hx0 : (x 0).val < 128 := (x 0).isLt
  have hx1 : (x 1).val < 16 := (x 1).isLt
  have hw := hl (at2 k.val (x 0).val)
  unfold Cert.GatherBatch.Dat.payload SparseCore.gatherPayload chunkRows
  have e0 : (((blkR k).emb x) 0).val = 128 * k.val + (x 0).val := by show 128 * k.val + 1 * (x 0).val = _; omega
  have e1 : (((blkR k).emb x) 1).val = (x 1).val := by show 0 + 1 * (x 1).val = _; omega
  rw [e0, e1, show (128 * k.val + (x 0).val) / 128 = k.val by omega, show (128 * k.val + (x 0).val) % 128 = (x 0).val by omega]
  refine congrArg (src.view.read (Elt F) fs) ?_
  funext b
  match b with
  | 0 =>
    apply Fin.ext
    refine (congrArg Fin.val (Shape.Gathers.idx_axis hg _ x)).trans ?_
    show ((lrow Ls k).view.read (Elt F) fl (S128.rowMajor.symm _) : BitVec 32).toNat = (Ls.view.read (Elt F) fl (at2 k.val (x 0).val) : BitVec 32).toNat % (n + 1)
    rw [read_lrow, Nat.mod_eq_of_lt hw]
    refine congrArg (fun t : ℕ => (Ls.view.read (Elt F) fl (at2 k.val t) : BitVec 32).toNat) ?_
    exact (Shape.rowMajor_val_one _).symm.trans (by rw [Equiv.apply_symm_apply]; rfl)
  | 1 =>
    apply Fin.ext
    refine (Shape.Gathers.idx_of_ne hg _ x 1 Nat.one_ne_zero).trans ?_
    show (x 1).val = (x 1).val % 16
    omega

/-- What the thirteen gathers are issued from: a share of the table, the row buffer and the list. -/
theorem bat_todo :
    iprop((src.view.loc thr ↦[src.view.set]{q} fs) ∗ (R.view.loc thr ↦[R.view.set]{fullShare} fr) ∗ (Ls.view.loc thr ↦[Ls.view.set]{ql} fl))
      ⊢ (bigSep Finset.univ ((bat thr hp src hsrc hg hr R Ls sem fs fr fl q ql hl).todo (Ix := HIx 1) (Name := ℕ) (U := UU) (Lvl := ℕ)) : sProp 𝕄) := by
  have h1 := Entails.of_eq (pointsTo_piecesOf (Ix := HIx 1) (Name := ℕ) (U := UU) (Lvl := ℕ) (src.view.set) fs (by decide : 0 < 13) q)
  have h2 := Entails.of_eq (pointsTo_parts (F := F) thr R.view blkR blkR_disjoint blkR_cover fullShare fr)
  have h3 := Entails.of_eq (pointsTo_parts (F := F) thr Ls.view rowR rowR_disjoint rowR_cover ql fl)
  have h4 : ∀ k, ((Ls.view.loc thr ↦[(Ls.view.slice (rowR k)).set]{ql} fl : sProp 𝕄)) = ((lrow Ls k).view.loc thr ↦[(lrow Ls k).view.set]{ql} fl) := fun k => by
    show _ = (Ls.view.loc thr ↦[((Ls.view.slice (rowR k)).reshape S128 squeezes_S1x128_S128.numel_eq).set]{ql} fl)
    rw [View.set_reshape]
  rw [BI.bigSep_congr fun k _ => h4 k] at h3
  unfold Cert.GatherBatch.Dat.todo
  rw [BI.bigSep_sep', BI.bigSep_sep']
  exact BIClass.sep_mono h1 (BIClass.sep_mono h2 h3)

/-- What they hand back: the share of the table, the row buffer at the gathered rows, and the list. -/
theorem bat_done :
    (bigSep Finset.univ ((bat thr hp src hsrc hg hr R Ls sem fs fr fl q ql hl).done (Ix := HIx 1) (Name := ℕ) (U := UU) (Lvl := ℕ)) : sProp 𝕄)
      ⊢ iprop((src.view.loc thr ↦[src.view.set]{q} fs)
          ∗ (R.view.loc thr ↦[R.view.set]{fullShare} R.view.write (Elt F) fr (chunkRows (src.view.read (Elt F) fs) (Ls.view.read (Elt F) fl)) Finset.univ)
          ∗ (Ls.view.loc thr ↦[Ls.view.set]{ql} fl)) := by
  have h1 := Entails.of_eq (pointsTo_piecesOf (Ix := HIx 1) (Name := ℕ) (U := UU) (Lvl := ℕ) (src.view.set) fs (by decide : 0 < 13) q).symm
  have h2 := Entails.of_eq (pointsTo_parts (F := F) thr R.view blkR blkR_disjoint blkR_cover fullShare
    (R.view.write (Elt F) fr (chunkRows (src.view.read (Elt F) fs) (Ls.view.read (Elt F) fl)) Finset.univ)).symm
  have h3 := Entails.of_eq (pointsTo_parts (F := F) thr Ls.view rowR rowR_disjoint rowR_cover ql fl).symm
  have h4 : ∀ k, ((Ls.view.loc thr ↦[(Ls.view.slice (rowR k)).set]{ql} fl : sProp 𝕄)) = ((lrow Ls k).view.loc thr ↦[(lrow Ls k).view.set]{ql} fl) := fun k => by
    show _ = (Ls.view.loc thr ↦[((Ls.view.slice (rowR k)).reshape S128 squeezes_S1x128_S128.numel_eq).set]{ql} fl)
    rw [View.set_reshape]
  rw [BI.bigSep_congr fun k _ => h4 k] at h3
  have h5 : ∀ k, (((blk R k).view.loc thr ↦[(blk R k).view.set]{fullShare}
        (blk R k).view.write (Elt F) fr ((bat thr hp src hsrc hg hr R Ls sem fs fr fl q ql hl).payload k) Finset.univ : sProp 𝕄))
      = (R.view.loc thr ↦[(R.view.slice (blkR k)).set]{fullShare}
          R.view.write (Elt F) fr (chunkRows (src.view.read (Elt F) fs) (Ls.view.read (Elt F) fl)) Finset.univ) := fun k => by
    refine pointsTo_congr (ℓ := R.view.loc thr) fun i hi => ?_
    obtain ⟨x, -, rfl⟩ := Finset.mem_map.mp hi
    refine (View.write_emb_of_mem (v := (blk R k).view) (Val := Elt F) fr _ (Finset.mem_univ x)).trans ?_
    refine Eq.trans ?_ (View.write_emb_of_mem (v := R.view) (Val := Elt F) fr _ (Finset.mem_univ ((blkR k).emb x))).symm
    rw [bat_payload]
  unfold Cert.GatherBatch.Dat.done
  rw [BI.bigSep_sep', BI.bigSep_sep']
  have h6 := (Entails.of_eq (BI.bigSep_congr (s := Finset.univ) fun k _ => h5 k)).trans h2
  refine (BIClass.sep_mono h6 (BIClass.sep_mono h1 h3)).trans ?_
  iintro ⟨H1, H2, H3⟩
  isplitl [H2]; · iexact H2
  isplitl [H1] <;> iassumption

end Batch

/-! ## A gather of thirty-two rows -/

/-- What the row buffer holds when its thirty-two rows are gathered. -/
def oneRows {n : ℕ} (g : (⟨2, ![n + 1, 16]⟩ : Shape).Idx → Elt F .f32) (l : S32.Idx → Elt F .i32) : S32x16.Idx → Elt F .f32 :=
  fun j => g (at2 (l (ix1 (j 0)) : BitVec 32).toNat (j 1).val)

section One

variable {n : ℕ} (thr : Thread nD τ) (hp : thr.2.kind = .scVector)
  (src : Memref sig thr.2.kind .hbm ⟨2, ![n + 1, 16]⟩ .f32) (hsrc : src.view.WordExact)
  (hg : (⟨2, ![n + 1, 16]⟩ : Shape).Gathers 0 S32x16) (hr : (⟨2, ![n + 1, 16]⟩ : Shape).StreamRows 0)
  (R : Memref sig thr.2.kind .vmem S32x16 .f32) (Ls : Memref sig thr.2.kind .vmem S32 .i32) (sem : DmaSem sig)
  (fs : Buf (Elt F) (src.view.loc thr)) (fr : Buf (Elt F) (R.view.loc thr)) (fl : Buf (Elt F) (Ls.view.loc thr)) (q ql : PosShare TreeShare)
  (hl : ∀ x, (Ls.view.read (Elt F) fl x : BitVec 32).toNat < n + 1)

/-- The one gather of a table on its semaphore. -/
def one : Cert.GatherBatch.Dat (sig := sig) F thr .hbm ⟨2, ![n + 1, 16]⟩ S32x16 S32 .f32 0 1 where
  hg := hg
  src := src
  dst := fun _ => R
  offs := fun _ => Ls
  hn := rfl
  sem := sem
  hp := hp
  hsrc := hsrc
  he := rfl
  hsp := Or.inl rfl
  hr := hr
  fs := fs
  fd := fun _ => fr
  fo := fun _ => fl
  q := fun _ => q
  qo := ql
  hs := by decide
  hin := fun _ x => hl x

/-- What the gather leaves is what `oneRows` says. -/
theorem one_payload (k : Fin 1) (x : S32x16.Idx) :
    (one thr hp src hsrc hg hr R Ls sem fs fr fl q ql hl).payload k x
      = oneRows (src.view.read (Elt F) fs) (Ls.view.read (Elt F) fl) x := by
  have hx1 : (x 1).val < 16 := (x 1).isLt
  have hw := hl (ix1 (x 0))
  unfold Cert.GatherBatch.Dat.payload SparseCore.gatherPayload oneRows
  refine congrArg (src.view.read (Elt F) fs) ?_
  funext b
  match b with
  | 0 =>
    apply Fin.ext
    refine (congrArg Fin.val (Shape.Gathers.idx_axis hg _ x)).trans ?_
    show (Ls.view.read (Elt F) fl (S32.rowMajor.symm _) : BitVec 32).toNat = (Ls.view.read (Elt F) fl (ix1 (x 0)) : BitVec 32).toNat % (n + 1)
    rw [Nat.mod_eq_of_lt hw]
    refine congrArg (fun t : S32.Idx => (Ls.view.read (Elt F) fl t : BitVec 32).toNat) ?_
    rw [eq_ix1 (n0 := 32) (S32.rowMajor.symm _)]
    refine congrArg ix1 (Fin.ext ?_)
    exact (Shape.rowMajor_val_one _).symm.trans (by rw [Equiv.apply_symm_apply]; rfl)
  | 1 =>
    apply Fin.ext
    refine (Shape.Gathers.idx_of_ne hg _ x 1 Nat.one_ne_zero).trans ?_
    show (x 1).val = (x 1).val % 16
    omega

/-- What the gather is issued from. -/
theorem one_todo :
    iprop((src.view.loc thr ↦[src.view.set]{q} fs) ∗ (R.view.loc thr ↦[R.view.set]{fullShare} fr) ∗ (Ls.view.loc thr ↦[Ls.view.set]{ql} fl))
      ⊢ (bigSep Finset.univ ((one thr hp src hsrc hg hr R Ls sem fs fr fl q ql hl).todo (Ix := HIx 1) (Name := ℕ) (U := UU) (Lvl := ℕ)) : sProp 𝕄) :=
  Entails.of_eq (BI.bigSep_univ_of_subsingleton (0 : Fin 1)
    (Φ := (one thr hp src hsrc hg hr R Ls sem fs fr fl q ql hl).todo (Ix := HIx 1) (Name := ℕ) (U := UU) (Lvl := ℕ))).symm

/-- What it hands back. -/
theorem one_done :
    (bigSep Finset.univ ((one thr hp src hsrc hg hr R Ls sem fs fr fl q ql hl).done (Ix := HIx 1) (Name := ℕ) (U := UU) (Lvl := ℕ)) : sProp 𝕄)
      ⊢ iprop((src.view.loc thr ↦[src.view.set]{q} fs)
          ∗ (R.view.loc thr ↦[R.view.set]{fullShare} R.view.write (Elt F) fr (oneRows (src.view.read (Elt F) fs) (Ls.view.read (Elt F) fl)) Finset.univ)
          ∗ (Ls.view.loc thr ↦[Ls.view.set]{ql} fl)) := by
  refine (Entails.of_eq (BI.bigSep_univ_of_subsingleton (0 : Fin 1))).trans ?_
  have h : (one thr hp src hsrc hg hr R Ls sem fs fr fl q ql hl).payload 0 = oneRows (src.view.read (Elt F) fs) (Ls.view.read (Elt F) fl) :=
    funext fun x => one_payload thr hp src hsrc hg hr R Ls sem fs fr fl q ql hl 0 x
  unfold Cert.GatherBatch.Dat.done
  rw [h]
  iintro ⟨H1, H2, H3⟩
  isplitl [H2]; · iexact H2
  isplitl [H1]; · iexact H1
  iexact H3

end One

end Cert.Proof.Tile

end
-- ==== Proof.Progs.lean ====
/- The tile's program as a sequence of named steps: a copy is started (`enq`) and waited for (`wai`), a gather of a
block of rows is started (`gWt`, `gDrv`, `gSeg`, `gTiny`, `gLnk`) and waited for (`wWt`, …). Every statement here holds by
definition: each part of the printed program is the sequence of its steps. -/
module

public import proofs.«01_k».proof.Proof.Rows

@[expose] public section

noncomputable section

namespace Cert.Proof.Tile

open Cert.KernelIdeal Cert.KernelIdeal.Gen

open Idealize.ShloMosaic
open Idealize.SL Idealize.SL.Sem

variable {F : FTy → Type}

/-- A program of the tile. -/
abbrev TProg (F : FTy → Type) (L : grid0.Coords) (α : Type) : Type 1 :=
  Prog (TpuEff nD τ sig (Elt F) Λ₀ (.scVector ((L 0).castLE hcore0) ((L 1).castLE hsub0))) α

/-! ## The pieces of the arrays the tile copies from and to -/

abbrev inS2 (L : grid0.Coords) : Memref sig .scVector .hbm S32 .i32 :=
  (a2.slice (Rect.unit (s := S32x32) (k0_off1 L) S1x32.size (k0_off1_inb L)) (fun _ => rfl)).squeeze S32 squeezes_S1x32_S32
abbrev inS3 (L : grid0.Coords) : Memref sig .scVector .hbm S32 .i32 :=
  (a3.slice (Rect.unit (s := S32x32) (k0_off1 L) S1x32.size (k0_off1_inb L)) (fun _ => rfl)).squeeze S32 squeezes_S1x32_S32
abbrev inS4 (L : grid0.Coords) : Memref sig .scVector .hbm S13x128 .i32 :=
  (a4.slice (Rect.unit (s := S32x13x128) (k0_off2 L) S1x13x128.size (k0_off2_inb L)) (fun _ => rfl)).squeeze S13x128 squeezes_S1x13x128_S13x128
abbrev inS5 (L : grid0.Coords) : Memref sig .scVector .hbm S13x128 .i32 :=
  (a5.slice (Rect.unit (s := S32x13x128) (k0_off2 L) S1x13x128.size (k0_off2_inb L)) (fun _ => rfl)).squeeze S13x128 squeezes_S1x13x128_S13x128
abbrev inS7 (L : grid0.Coords) : Memref sig .scVector .hbm S13x128 .i32 :=
  (a7.slice (Rect.unit (s := S32x13x128) (k0_off2 L) S1x13x128.size (k0_off2_inb L)) (fun _ => rfl)).squeeze S13x128 squeezes_S1x13x128_S13x128
abbrev inS6 (L : grid0.Coords) : Memref sig .scVector .hbm S1600x4 .f32 :=
  (a6.slice (Rect.unit (s := S32x1600x4) (k0_off4 L) S1x1600x4.size (k0_off4_inb L)) (fun _ => rfl)).squeeze S1600x4 squeezes_S1x1600x4_S1600x4
abbrev inS8 (L : grid0.Coords) : Memref sig .scVector .hbm S1568 .f32 :=
  (a8.slice (Rect.unit (s := S32x1568) (k0_off5 L) S1x1568.size (k0_off5_inb L)) (fun _ => rfl)).squeeze S1568 squeezes_S1x1568_S1568

abbrev outA (L : grid0.Coords) : Memref sig .scVector .hbm S32x8 .f32 := a14.slice (extA L) (fun _ => rfl)
abbrev outB (L : grid0.Coords) : Memref sig .scVector .hbm S32x16 .f32 := a14.slice (extB L) (fun _ => rfl)
abbrev outS (L : grid0.Coords) : Memref sig .scVector .hbm S1600x16 .f32 := a15.slice (sgoA L) (fun _ => rfl)
abbrev outT (L : grid0.Coords) : Memref sig .scVector .hbm S1600x8 .f32 := a15.slice (sgoB L) (fun _ => rfl)
abbrev outC (L : grid0.Coords) : Memref sig .scVector .hbm S1600x4 .f32 := a15.slice (sgoC L) (fun _ => rfl)
abbrev outL (L : grid0.Coords) : Memref sig .scVector .hbm S1568x16 .f32 := a16.slice (lnkA L) (fun _ => rfl)

abbrev fromWt : Memref sig .scVector .vmem S32x8 .f32 :=
  b8.slice (Rect.unit (s := S32x16) ![0, 0] S32x8.size inb_S32x16_S32x8_0_0) (fun _ => rfl)
abbrev fromSeg : Memref sig .scVector .vmem S1600x16 .f32 :=
  b3.slice (Rect.unit (s := S1664x16) ![0, 0] S1600x16.size inb_S1664x16_S1600x16_0_0) (fun _ => rfl)
abbrev fromTiny : Memref sig .scVector .vmem S1600x8 .f32 :=
  b4.slice (Rect.unit (s := S1664x16) ![0, 0] S1600x8.size inb_S1664x16_S1600x8_0_0) (fun _ => rfl)
abbrev fromLnk : Memref sig .scVector .vmem S1568x16 .f32 :=
  b5.slice (Rect.unit (s := S1664x16) ![0, 0] S1568x16.size inb_S1664x16_S1568x16_0_0) (fun _ => rfl)

/-- The tables, whole, as a gather names them. -/
abbrev tabWt : Memref sig .scVector .hbm S2312x16 .f32 :=
  a9.slice (Rect.unit (s := S2312x16) ![0, 0] S2312x16.size inb_S2312x16_S2312x16_0_0) (fun _ => rfl)
abbrev tabDrv : Memref sig .scVector .hbm S200141x16 .f32 :=
  a10.slice (Rect.unit (s := S200141x16) ![0, 0] S200141x16.size inb_S200141x16_S200141x16_0_0) (fun _ => rfl)
abbrev tabSeg : Memref sig .scVector .hbm S1376567x16 .f32 :=
  a11.slice (Rect.unit (s := S1376567x16) ![0, 0] S1376567x16.size inb_S1376567x16_S1376567x16_0_0) (fun _ => rfl)
abbrev tabTiny : Memref sig .scVector .hbm S3024x16 .f32 :=
  a12.slice (Rect.unit (s := S3024x16) ![0, 0] S3024x16.size inb_S3024x16_S3024x16_0_0) (fun _ => rfl)
abbrev tabLnk : Memref sig .scVector .hbm S101009x16 .f32 :=
  a13.slice (Rect.unit (s := S101009x16) ![0, 0] S101009x16.size inb_S101009x16_S101009x16_0_0) (fun _ => rfl)

/-! ## The steps -/

section Steps

variable (L : grid0.Coords)

/-- A copy is started. -/
def enq {sp sp' : Space} {s : Shape} {e : EltTy} (src : Memref sig .scVector sp s e) (dst : Memref sig .scVector sp' s e) (sem : DmaSem sig)
    (hs : src.view.WordExact) (hd : dst.view.WordExact) (ht : (DmaTarget.here dst : DmaTarget nD τ sig (.scVector ((L 0).castLE hcore0) ((L 1).castLE hsub0)) sp' s e).Typed sp (.dma sem)) : TProg F L PUnit :=
  Prog.lift (.enqueueDma src (.here dst) (.dma sem) hs hd ht)
/-- A copy is waited for. -/
def wai {sp sp' : Space} {s : Shape} {e : EltTy} (src : Memref sig .scVector sp s e) (dst : Memref sig .scVector sp' s e) (sem : DmaSem sig)
    (hs : src.view.WordExact) (hd : dst.view.WordExact) : TProg F L PUnit :=
  Prog.lift (.waitDma2 sem src dst hs hd)

/-- The gathers are started. -/
def gWt : TProg F L PUnit :=
  SparseCore.enqueueIndirectGather rfl tabWt b8 gathers_S2312x16_S32x16 b6 rfl cc0_scratch11.sem (View.wordExact_bits rfl) rfl (Or.inl rfl)
def gDrv : TProg F L PUnit :=
  SparseCore.enqueueIndirectGather rfl tabDrv b9 gathers_S200141x16_S32x16 b7 rfl cc0_scratch12.sem (View.wordExact_bits rfl) rfl (Or.inl rfl)
def gSeg (k : Fin 13) : TProg F L PUnit :=
  SparseCore.enqueueIndirectGather rfl tabSeg (blk b3 k) gathers_S1376567x16_S128x16 (lrow b0 k) rfl cc0_scratch13.sem (View.wordExact_bits rfl) rfl (Or.inl rfl)
def gTiny (k : Fin 13) : TProg F L PUnit :=
  SparseCore.enqueueIndirectGather rfl tabTiny (blk b4 k) gathers_S3024x16_S128x16 (lrow b1 k) rfl cc0_scratch14.sem (View.wordExact_bits rfl) rfl (Or.inl rfl)
def gLnk (k : Fin 13) : TProg F L PUnit :=
  SparseCore.enqueueIndirectGather rfl tabLnk (blk b5 k) gathers_S101009x16_S128x16 (lrow b2 k) rfl cc0_scratch15.sem (View.wordExact_bits rfl) rfl (Or.inl rfl)

/-- The gathers are waited for. -/
def wWt : TProg F L PUnit := SparseCore.waitIndirectGather cc0_scratch11.sem tabWt b8 (View.wordExact_bits rfl) (View.wordExact_bits rfl)
def wDrv : TProg F L PUnit := SparseCore.waitIndirectGather cc0_scratch12.sem tabDrv b9 (View.wordExact_bits rfl) (View.wordExact_bits rfl)
def wSeg (k : Fin 13) : TProg F L PUnit := SparseCore.waitIndirectGather cc0_scratch13.sem tabSeg (blk b3 k) (View.wordExact_bits rfl) (View.wordExact_bits rfl)
def wTiny (k : Fin 13) : TProg F L PUnit := SparseCore.waitIndirectGather cc0_scratch14.sem tabTiny (blk b4 k) (View.wordExact_bits rfl) (View.wordExact_bits rfl)
def wLnk (k : Fin 13) : TProg F L PUnit := SparseCore.waitIndirectGather cc0_scratch15.sem tabLnk (blk b5 k) (View.wordExact_bits rfl) (View.wordExact_bits rfl)

end Steps

end Cert.Proof.Tile

end
-- ==== Proof.Steps.lean ====
/- What each step of the tile's program does to what the tile holds. -/
module

public import proofs.«01_k».proof.Proof.Progs
public import Idealize.ShloMosaic.Lib.Tactic

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (d : Dev nD) (L : grid0.Coords) (O : CellTallies nD τ sig (HIx 1)) (W : Waits sig (HIx 1))

/-- A program of the tile run to a postcondition. -/
abbrev run {α : Type} (p : TProg F L α) (Q : α → sProp 𝕄) : sProp 𝕄 :=
  wp frame (wpE (defs₀ (F := F)) 𝒱₀ (th d L) none) Set.univ p Q

/-- A family of programs one after another. -/
def all {n : ℕ} (p : Fin n → TProg F L PUnit) : TProg F L PUnit := Scf.forFrom (fun k _ => p k) (List.finRange n) ⟨⟩

/-- Each of them takes `I k` to `I (k + 1)`: all of them take `I 0` to `I n`. -/
theorem run_all {n : ℕ} (p : Fin n → TProg F L PUnit) (I : ℕ → sProp 𝕄) (h : ∀ k, I k.val ⊢ run d L (p k) fun _ => I (k.val + 1))
    {Q : PUnit → sProp 𝕄} : I 0 ⊢ iprop((I n -∗ Q ⟨⟩) -∗ run d L (all L p) Q) := by
  have := Scf.wp_forFrom frame (wpE (defs₀ (F := F)) 𝒱₀ (th d L) none) Set.univ (fun k _ => p k) (fun k _ => I k) (fun k _ => h k) (Q := Q) 0 (Nat.zero_le _) ⟨⟩
  iintro H HQ
  iapply this
  isplitl [H]; · iexact H
  iintro %acc H
  iapply HQ $$ H

/-- What lets the tile wait: it owes `O`, none of it under its own waits, which so far are those it began with. -/
def Now : sProp 𝕄 :=
  iprop(Transfers.MayWaits (th d L) (default : HIx 1) O ∗ ∃ W', ⌜∀ p ∈ W', p ∈ W ∨ p.2 = none⌝ ∗ owes (th d L) O W')

theorem insert_none {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- A copy started and waited for: its destination is what its source was. -/
theorem run_copy {sp sp' : Space} {s : Shape} {e : EltTy} {src : Memref sig .scVector sp s e} {dst : Memref sig .scVector sp' s e} {sem : DmaSem sig}
    {hs : src.view.WordExact} {hd : dst.view.WordExact} {ht} {hs' : src.view.WordExact} {hd' : dst.view.WordExact} {q : PosShare TreeShare} {fs : Buf (Elt F) (src.view.loc (th d L))}
    {fd : Buf (Elt F) (dst.view.loc (th d L))} {Q : sProp 𝕄} (hN : 0 < dst.view.dmaCredit) :
    iprop((src.view.loc (th d L) ↦[src.view.set]{q} fs) ∗ (dst.view.loc (th d L) ↦[dst.view.set]{fullShare} fd) ∗ semVal (th d L, .dma sem) 0 ∗ Now d L O W)
      ⊢ iprop((iprop((src.view.loc (th d L) ↦[src.view.set]{q} fs)
            ∗ (dst.view.loc (th d L) ↦[dst.view.set]{fullShare} dst.view.write (Elt F) fd (src.view.read (Elt F) fs) Finset.univ)
            ∗ semVal (th d L, .dma sem) 0 ∗ Now d L O W) -∗ Q)
          -∗ run d L (enq L src dst sem hs hd ht) fun _ => run d L (wai L src dst sem hs' hd') fun _ => Q) := by
  unfold Now
  iintro ⟨Hs, Hd, Hv, #Hm, %W', %hW, HO⟩ HQ
  unfold enq wai
  iapply (Transfers.wp_dmaLocal countersEmb 𝒱₀ (th d L) none (default : HIx 1) dst.view.dmaCredit rfl hN (Finset.Subset.refl _)) $$ [Hs Hd Hv]
  · isplitl [Hs]; · iexact Hs
    isplitl [Hd]; · iexact Hd
    iexact Hv
  iintro Hf
  rw [wp_ret]
  imodintro
  iapply (Transfers.wp_waitLocalO countersEmb 𝒱₀ (th d L) none (default : HIx 1) (rfl : dst.view.dmaCredit = _)) $$ [Hf HO]
  · isplitl [Hf]; · iexact Hf
    isplitl [HO]; · iexact HO
    iapply (Transfers.MayWaits.elim (SemLoc.dma sem)) $$ Hm
  iintro ⟨⟨Hd, Hs⟩, Hv, HO⟩
  rw [wp_ret]
  imodintro
  iapply HQ
  isplitl [Hs]; · iexact Hs
  isplitl [Hd]; · iexact Hd
  isplitl [Hv]; · iexact Hv
  isplitr; · iexact Hm
  iexists _
  isplitr
  swap; · iexact HO
  ipureintro
  exact insert_none _ hW

/-! ## The gathers -/

section Batch

variable {s₀ s si : Shape} {e : EltTy} {a m : ℕ} (G : Dat (sig := sig) F (th d L) .hbm s₀ s si e a m)

/-- A gather of a batch is started. -/
theorem run_issue (N : ℕ) (hN : ∀ k j, ((G.dst k).slice (s.rowRect G.hg.axis' j) (s.stride_rowRect G.hg.axis' j)).view.dmaCredit = N) (k : Fin m)
    {p : TProg F L PUnit} (hp : p = SparseCore.enqueueIndirectGather G.hp G.src (G.dst k) G.hg (G.offs k) G.hn G.sem G.hsrc G.he G.hsp G.hr) {Q : PUnit → sProp 𝕄} :
    (G.Issued countersEmb (default : HIx 1) N k.val : sProp 𝕄)
      ⊢ iprop((G.Issued countersEmb (default : HIx 1) N (k.val + 1) -∗ Q ⟨⟩) -∗ run d L p Q) := by
  subst hp
  rw [← bind_pure (SparseCore.enqueueIndirectGather G.hp G.src (G.dst k) G.hg (G.offs k) G.hn G.sem G.hsrc G.he G.hsp G.hr)]
  iintro H HQ
  iapply (Dat.wp_issue (defs := defs₀ (F := F)) countersEmb 𝒱₀ none G (default : HIx 1) N k hN) $$ H
  iintro HI
  rw [wp_pure]
  imodintro
  iapply HQ $$ HI

/-- A gather of a batch is waited for. -/
theorem run_wait (N : ℕ) (k : Fin m) {t : Shape} {e' : EltTy} {sp' : Space} {srcw : Memref sig .scVector sp' s₀ e} {dstw : Memref sig .scVector .vmem t e'}
    {h1 : srcw.view.WordExact} {h2 : dstw.view.WordExact}
    (hJ : dstw.view.dmaCredit = s.size G.hg.axis' * N)
    {p : TProg F L PUnit} (hp : p = SparseCore.waitIndirectGather (p := .scVector ((L 0).castLE hcore0) ((L 1).castLE hsub0)) G.sem srcw dstw h1 h2) {Q : PUnit → sProp 𝕄} :
    iprop(G.Waited countersEmb (default : HIx 1) N k.val ∗ Now d L O W)
      ⊢ iprop((iprop(G.Waited countersEmb (default : HIx 1) N (k.val + 1) ∗ Now d L O W) -∗ Q ⟨⟩) -∗ run d L p Q) := by
  subst hp
  unfold Now SparseCore.waitIndirectGather
  iintro ⟨Hw, #Hm, %W', %hW, HO⟩ HQ
  iapply (Dat.wp_wait (defs := defs₀ (F := F)) countersEmb 𝒱₀ none G (default : HIx 1) N k hJ) $$ [Hw HO]
  · isplitl [Hw]; · iexact Hw
    isplitl [HO]; · iexact HO
    iapply (Transfers.MayWaits.elim (SemLoc.dma G.sem)) $$ Hm
  iintro ⟨Hw, HO⟩
  rw [wp_ret]
  imodintro
  iapply HQ
  isplitl [Hw]; · iexact Hw
  isplitr; · iexact Hm
  iexists _
  isplitr
  swap; · iexact HO
  ipureintro
  exact insert_none _ hW

end Batch

/-- The thirteen gathers of the segment table; of the small features' table; of the crossing table. -/
abbrev segB (fs : S1376567x16.Idx → Elt F .f32) (fr : S1664x16.Idx → Elt F .f32) (fl : S13x128.Idx → Elt F .i32) (q : PosShare TreeShare)
    (hl : ∀ x, (fl x : BitVec 32).toNat < 1376567) : Dat (sig := sig) F (th d L) .hbm S1376567x16 S128x16 S128 .f32 0 13 :=
  bat (n := 1376566) (th d L) rfl tabSeg (View.wordExact_bits rfl) gathers_S1376567x16_S128x16 (by decide) b3 b0 cc0_scratch13.sem fs fr fl q fullShare hl
abbrev tinyB (fs : S3024x16.Idx → Elt F .f32) (fr : S1664x16.Idx → Elt F .f32) (fl : S13x128.Idx → Elt F .i32) (q : PosShare TreeShare)
    (hl : ∀ x, (fl x : BitVec 32).toNat < 3024) : Dat (sig := sig) F (th d L) .hbm S3024x16 S128x16 S128 .f32 0 13 :=
  bat (n := 3023) (th d L) rfl tabTiny (View.wordExact_bits rfl) gathers_S3024x16_S128x16 (by decide) b4 b1 cc0_scratch14.sem fs fr fl q fullShare hl
abbrev lnkB (fs : S101009x16.Idx → Elt F .f32) (fr : S1664x16.Idx → Elt F .f32) (fl : S13x128.Idx → Elt F .i32) (q : PosShare TreeShare)
    (hl : ∀ x, (fl x : BitVec 32).toNat < 101009) : Dat (sig := sig) F (th d L) .hbm S101009x16 S128x16 S128 .f32 0 13 :=
  bat (n := 101008) (th d L) rfl tabLnk (View.wordExact_bits rfl) gathers_S101009x16_S128x16 (by decide) b5 b2 cc0_scratch15.sem fs fr fl q fullShare hl
/-- The gather of the week-time table; of the driver table. -/
abbrev wtB (fs : S2312x16.Idx → Elt F .f32) (fr : S32x16.Idx → Elt F .f32) (fl : S32.Idx → Elt F .i32) (q : PosShare TreeShare)
    (hl : ∀ x, (fl x : BitVec 32).toNat < 2312) : Dat (sig := sig) F (th d L) .hbm S2312x16 S32x16 S32 .f32 0 1 :=
  one (n := 2311) (th d L) rfl tabWt (View.wordExact_bits rfl) gathers_S2312x16_S32x16 (by decide) b8 b6 cc0_scratch11.sem fs fr fl q fullShare hl
abbrev drvB (fs : S200141x16.Idx → Elt F .f32) (fr : S32x16.Idx → Elt F .f32) (fl : S32.Idx → Elt F .i32) (q : PosShare TreeShare)
    (hl : ∀ x, (fl x : BitVec 32).toNat < 200141) : Dat (sig := sig) F (th d L) .hbm S200141x16 S32x16 S32 .f32 0 1 :=
  one (n := 200140) (th d L) rfl tabDrv (View.wordExact_bits rfl) gathers_S200141x16_S32x16 (by decide) b9 b7 cc0_scratch12.sem fs fr fl q fullShare hl

/-- What one row of sixteen words is worth on a semaphore. -/
abbrev cr : ℕ := sig.dmaCredit .scVector (Kind.scVector.table .vmem) b3.view.buf S1x16 .f32

theorem row_shape {n o : ℕ} (h : (⟨2, ![n + 1, 16]⟩ : Shape).Gathers 0 ⟨2, ![o, 16]⟩) (j : Fin ((⟨2, ![o, 16]⟩ : Shape).size h.axis')) :
    ((⟨2, ![o, 16]⟩ : Shape).rowRect h.axis' j).shape = S1x16 := by
  rw [Shape.shape_rowRect]
  unfold Shape.rowShape
  refine congrArg (Shape.mk 2) (funext fun b => ?_)
  match b with
  | 0 => rfl
  | 1 => rfl
theorem credit_row {n o : ℕ} (h : (⟨2, ![n + 1, 16]⟩ : Shape).Gathers 0 ⟨2, ![o, 16]⟩) (j : Fin ((⟨2, ![o, 16]⟩ : Shape).size h.axis')) :
    sig.dmaCredit .scVector (Kind.scVector.table .vmem) b3.view.buf ((⟨2, ![o, 16]⟩ : Shape).rowRect h.axis' j).shape .f32 = cr :=
  congrArg (fun s => sig.dmaCredit .scVector (Kind.scVector.table .vmem) b3.view.buf s .f32) (row_shape h j)
theorem credit_block : sig.dmaCredit .scVector (Kind.scVector.table .vmem) b3.view.buf S128x16 .f32 = 128 * cr := by decide
theorem credit_rows : sig.dmaCredit .scVector (Kind.scVector.table .vmem) b3.view.buf S32x16 .f32 = 32 * cr := by decide

section Gathers

variable {fr : S1664x16.Idx → Elt F .f32} {fl : S13x128.Idx → Elt F .i32} {fr' : S32x16.Idx → Elt F .f32} {fl' : S32.Idx → Elt F .i32}
  {q : PosShare TreeShare}

theorem run_gSeg {fs hl} (k : Fin 13) {Q : PUnit → sProp 𝕄} :
    ((segB d L fs fr fl q hl).Issued countersEmb (default : HIx 1) cr k.val : sProp 𝕄)
      ⊢ iprop(((segB d L fs fr fl q hl).Issued countersEmb (default : HIx 1) cr (k.val + 1) -∗ Q ⟨⟩) -∗ run d L (gSeg L k) Q) :=
  run_issue d L (segB d L fs fr fl q hl) cr (fun _ j => credit_row _ j) k rfl
theorem run_wSeg {fs hl} (k : Fin 13) {Q : PUnit → sProp 𝕄} :
    iprop((segB d L fs fr fl q hl).Waited countersEmb (default : HIx 1) cr k.val ∗ Now d L O W)
      ⊢ iprop((iprop((segB d L fs fr fl q hl).Waited countersEmb (default : HIx 1) cr (k.val + 1) ∗ Now d L O W) -∗ Q ⟨⟩) -∗ run d L (wSeg L k) Q) :=
  run_wait (dstw := blk b3 k) d L O W (segB d L fs fr fl q hl) cr k credit_block rfl
theorem run_gTiny {fs hl} (k : Fin 13) {Q : PUnit → sProp 𝕄} :
    ((tinyB d L fs fr fl q hl).Issued countersEmb (default : HIx 1) cr k.val : sProp 𝕄)
      ⊢ iprop(((tinyB d L fs fr fl q hl).Issued countersEmb (default : HIx 1) cr (k.val + 1) -∗ Q ⟨⟩) -∗ run d L (gTiny L k) Q) :=
  run_issue d L (tinyB d L fs fr fl q hl) cr (fun _ j => credit_row _ j) k rfl
theorem run_wTiny {fs hl} (k : Fin 13) {Q : PUnit → sProp 𝕄} :
    iprop((tinyB d L fs fr fl q hl).Waited countersEmb (default : HIx 1) cr k.val ∗ Now d L O W)
      ⊢ iprop((iprop((tinyB d L fs fr fl q hl).Waited countersEmb (default : HIx 1) cr (k.val + 1) ∗ Now d L O W) -∗ Q ⟨⟩) -∗ run d L (wTiny L k) Q) :=
  run_wait (dstw := blk b4 k) d L O W (tinyB d L fs fr fl q hl) cr k credit_block rfl
theorem run_gLnk {fs hl} (k : Fin 13) {Q : PUnit → sProp 𝕄} :
    ((lnkB d L fs fr fl q hl).Issued countersEmb (default : HIx 1) cr k.val : sProp 𝕄)
      ⊢ iprop(((lnkB d L fs fr fl q hl).Issued countersEmb (default : HIx 1) cr (k.val + 1) -∗ Q ⟨⟩) -∗ run d L (gLnk L k) Q) :=
  run_issue d L (lnkB d L fs fr fl q hl) cr (fun _ j => credit_row _ j) k rfl
theorem run_wLnk {fs hl} (k : Fin 13) {Q : PUnit → sProp 𝕄} :
    iprop((lnkB d L fs fr fl q hl).Waited countersEmb (default : HIx 1) cr k.val ∗ Now d L O W)
      ⊢ iprop((iprop((lnkB d L fs fr fl q hl).Waited countersEmb (default : HIx 1) cr (k.val + 1) ∗ Now d L O W) -∗ Q ⟨⟩) -∗ run d L (wLnk L k) Q) :=
  run_wait (dstw := blk b5 k) d L O W (lnkB d L fs fr fl q hl) cr k credit_block rfl
theorem run_gWt {fs hl} {Q : PUnit → sProp 𝕄} :
    ((wtB d L fs fr' fl' q hl).Issued countersEmb (default : HIx 1) cr 0 : sProp 𝕄)
      ⊢ iprop(((wtB d L fs fr' fl' q hl).Issued countersEmb (default : HIx 1) cr 1 -∗ Q ⟨⟩) -∗ run d L (gWt L) Q) :=
  run_issue d L (wtB d L fs fr' fl' q hl) cr (fun _ j => credit_row _ j) 0 rfl
theorem run_wWt {fs hl} {Q : PUnit → sProp 𝕄} :
    iprop((wtB d L fs fr' fl' q hl).Waited countersEmb (default : HIx 1) cr 0 ∗ Now d L O W)
      ⊢ iprop((iprop((wtB d L fs fr' fl' q hl).Waited countersEmb (default : HIx 1) cr 1 ∗ Now d L O W) -∗ Q ⟨⟩) -∗ run d L (wWt L) Q) :=
  run_wait (dstw := b8) d L O W (wtB d L fs fr' fl' q hl) cr 0 credit_rows rfl
theorem run_gDrv {fs hl} {Q : PUnit → sProp 𝕄} :
    ((drvB d L fs fr' fl' q hl).Issued countersEmb (default : HIx 1) cr 0 : sProp 𝕄)
      ⊢ iprop(((drvB d L fs fr' fl' q hl).Issued countersEmb (default : HIx 1) cr 1 -∗ Q ⟨⟩) -∗ run d L (gDrv L) Q) :=
  run_issue d L (drvB d L fs fr' fl' q hl) cr (fun _ j => credit_row _ j) 0 rfl
theorem run_wDrv {fs hl} {Q : PUnit → sProp 𝕄} :
    iprop((drvB d L fs fr' fl' q hl).Waited countersEmb (default : HIx 1) cr 0 ∗ Now d L O W)
      ⊢ iprop((iprop((drvB d L fs fr' fl' q hl).Waited countersEmb (default : HIx 1) cr 1 ∗ Now d L O W) -∗ Q ⟨⟩) -∗ run d L (wDrv L) Q) :=
  run_wait (dstw := b9) d L O W (drvB d L fs fr' fl' q hl) cr 0 credit_rows rfl

end Gathers

end Cert.Proof.Tile

end
-- ==== Proof.Gathers.lean ====
/- The gathers of each table from start to end: what their issue begins from and what their last wait leaves. -/
module

public import proofs.«01_k».proof.Proof.Steps

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## A table named whole -/

section Whole

variable {n : ℕ} {κ : Kind} (A : Memref sig κ .hbm ⟨2, ![n + 1, 16]⟩ .f32)
  (h : ∀ a, (![0, 0] : Fin 2 → ℕ) a + (⟨2, ![n + 1, 16]⟩ : Shape).size a ≤ (⟨2, ![n + 1, 16]⟩ : Shape).size a)

abbrev allR : Rect ⟨2, ![n + 1, 16]⟩ := Rect.unit (s := ⟨2, ![n + 1, 16]⟩) ![0, 0] (⟨2, ![n + 1, 16]⟩ : Shape).size h

theorem allR_emb (x : (⟨2, ![n + 1, 16]⟩ : Shape).Idx) : (allR h).emb x = x := by
  funext a
  match a with
  | 0 => exact Fin.ext (show 0 + 1 * (x 0).val = (x 0).val by omega)
  | 1 => exact Fin.ext (show 0 + 1 * (x 1).val = (x 1).val by omega)
theorem read_all (f : A.view.ty.Contents (Elt F)) : (A.slice (allR h) (fun _ => rfl)).view.read (Elt F) f = A.view.read (Elt F) f := by
  funext x
  show A.view.read (Elt F) f ((allR h).emb x) = _
  rw [allR_emb]
theorem set_all : (A.slice (allR h) (fun _ => rfl)).view.set = A.view.set := by
  show (A.view.slice (allR h)).set = _
  rw [View.set_slice]
  have : (allR h).set = Finset.univ := Finset.eq_univ_of_forall fun x => Rect.mem_set_unit.mpr (Fin.forall_fin_two.mpr
    ⟨⟨Nat.zero_le _, by show (x 0).val < 0 + (n + 1); have := (x 0).isLt; show (x 0).val < _; rw [Nat.zero_add]; exact this⟩,
      ⟨Nat.zero_le _, by show (x 1).val < 0 + 16; have : (x 1).val < 16 := (x 1).isLt; omega⟩⟩)
  rw [this]; rfl

end Whole

variable (d : Dev nD) (L : grid0.Coords)

/-! ## Start and end -/

section Bat

variable {n : ℕ} (thr : Thread nD τ) (hp : thr.2.kind = .scVector)
  (src : Memref sig thr.2.kind .hbm ⟨2, ![n + 1, 16]⟩ .f32) (hsrc : src.view.WordExact)
  (R : Memref sig thr.2.kind .vmem S1664x16 .f32) (Ls : Memref sig thr.2.kind .vmem S13x128 .i32)
  (R' : Memref sig thr.2.kind .vmem S32x16 .f32) (Ls' : Memref sig thr.2.kind .vmem S32 .i32) (sem : DmaSem sig)
  (hg : (⟨2, ![n + 1, 16]⟩ : Shape).Gathers 0 S128x16) (hg' : (⟨2, ![n + 1, 16]⟩ : Shape).Gathers 0 S32x16) (hr : (⟨2, ![n + 1, 16]⟩ : Shape).StreamRows 0)
  (fs : Buf (Elt F) (src.view.loc thr)) (fr : Buf (Elt F) (R.view.loc thr)) (fl : Buf (Elt F) (Ls.view.loc thr)) (q ql : PosShare TreeShare)
  (fr' : Buf (Elt F) (R'.view.loc thr)) (fl' : Buf (Elt F) (Ls'.view.loc thr))
  (hl : ∀ x, (Ls.view.read (Elt F) fl x : BitVec 32).toNat < n + 1) (hl' : ∀ x, (Ls'.view.read (Elt F) fl' x : BitVec 32).toNat < n + 1)

theorem bat_start (N : ℕ) :
    iprop((src.view.loc thr ↦[src.view.set]{q} fs) ∗ (R.view.loc thr ↦[R.view.set]{fullShare} fr) ∗ (Ls.view.loc thr ↦[Ls.view.set]{ql} fl)
        ∗ semVal (thr, .dma sem) 0)
      ⊢ (|={Set.univ}=> (bat thr hp src hsrc hg hr R Ls sem fs fr fl q ql hl).Issued countersEmb (default : HIx 1) N 0 : sProp 𝕄) := by
  iintro ⟨H1, H2, H3, Hv⟩
  iapply ((bat thr hp src hsrc hg hr R Ls sem fs fr fl q ql hl).alloc countersEmb (default : HIx 1) N)
  isplitl [Hv]; · iexact Hv
  iapply (bat_todo thr hp src hsrc hg hr R Ls sem fs fr fl q ql hl)
  isplitl [H1]; · iexact H1
  isplitl [H2] <;> iassumption
theorem bat_end (N : ℕ) (hN : 0 < N) :
    ((bat thr hp src hsrc hg hr R Ls sem fs fr fl q ql hl).Waited countersEmb (default : HIx 1) N 13 : sProp 𝕄)
      ⊢ |={Set.univ}=> iprop((src.view.loc thr ↦[src.view.set]{q} fs)
          ∗ (R.view.loc thr ↦[R.view.set]{fullShare} R.view.write (Elt F) fr (chunkRows (src.view.read (Elt F) fs) (Ls.view.read (Elt F) fl)) Finset.univ)
          ∗ (Ls.view.loc thr ↦[Ls.view.set]{ql} fl) ∗ semVal (thr, .dma sem) 0) := by
  iintro H
  imod ((bat thr hp src hsrc hg hr R Ls sem fs fr fl q ql hl).collect countersEmb (default : HIx 1) N hN) $$ H with ⟨H, Hv⟩
  imodintro
  ihave H' := (bat_done thr hp src hsrc hg hr R Ls sem fs fr fl q ql hl) $$ H
  icases H' with ⟨H1, H2, H3⟩
  isplitl [H1]; · iexact H1
  isplitl [H2]; · iexact H2
  isplitl [H3]; · iexact H3
  iexact Hv
theorem one_start (N : ℕ) :
    iprop((src.view.loc thr ↦[src.view.set]{q} fs) ∗ (R'.view.loc thr ↦[R'.view.set]{fullShare} fr') ∗ (Ls'.view.loc thr ↦[Ls'.view.set]{ql} fl')
        ∗ semVal (thr, .dma sem) 0)
      ⊢ (|={Set.univ}=> (one thr hp src hsrc hg' hr R' Ls' sem fs fr' fl' q ql hl').Issued countersEmb (default : HIx 1) N 0 : sProp 𝕄) := by
  iintro ⟨H1, H2, H3, Hv⟩
  iapply ((one thr hp src hsrc hg' hr R' Ls' sem fs fr' fl' q ql hl').alloc countersEmb (default : HIx 1) N)
  isplitl [Hv]; · iexact Hv
  iapply (one_todo thr hp src hsrc hg' hr R' Ls' sem fs fr' fl' q ql hl')
  isplitl [H1]; · iexact H1
  isplitl [H2] <;> iassumption
theorem one_end (N : ℕ) (hN : 0 < N) :
    ((one thr hp src hsrc hg' hr R' Ls' sem fs fr' fl' q ql hl').Waited countersEmb (default : HIx 1) N 1 : sProp 𝕄)
      ⊢ |={Set.univ}=> iprop((src.view.loc thr ↦[src.view.set]{q} fs)
          ∗ (R'.view.loc thr ↦[R'.view.set]{fullShare} R'.view.write (Elt F) fr' (oneRows (src.view.read (Elt F) fs) (Ls'.view.read (Elt F) fl')) Finset.univ)
          ∗ (Ls'.view.loc thr ↦[Ls'.view.set]{ql} fl') ∗ semVal (thr, .dma sem) 0) := by
  iintro H
  imod ((one thr hp src hsrc hg' hr R' Ls' sem fs fr' fl' q ql hl').collect countersEmb (default : HIx 1) N hN) $$ H with ⟨H, Hv⟩
  imodintro
  ihave H' := (one_done thr hp src hsrc hg' hr R' Ls' sem fs fr' fl' q ql hl') $$ H
  icases H' with ⟨H1, H2, H3⟩
  isplitl [H1]; · iexact H1
  isplitl [H2]; · iexact H2
  isplitl [H3]; · iexact H3
  iexact Hv

end Bat

theorem cr_pos : 0 < cr := by decide

section Table

variable {q : PosShare TreeShare}

variable {fs_seg : S1376567x16.Idx → Elt F .f32} {fr_seg : S1664x16.Idx → Elt F .f32} {fl_seg : S13x128.Idx → Elt F .i32}
theorem seg_tab : (wsegLoc d ↦{q} fs_seg : sProp 𝕄) = (tabSeg.view.loc (th d L) ↦[tabSeg.view.set]{q} fs_seg) :=
  congrArg (fun S => (wsegLoc d ↦[S]{q} fs_seg : sProp 𝕄)) ((set_all (n := 1376566) a11 inb_S1376567x16_S1376567x16_0_0).trans (View.set_whole _)).symm
theorem seg_start (hl : ∀ x, (fl_seg x : BitVec 32).toNat < 1376567) :
    iprop((wsegLoc d ↦{q} fs_seg) ∗ (b3.view.loc (th d L) ↦{fullShare} fr_seg) ∗ (b0.view.loc (th d L) ↦{fullShare} fl_seg) ∗ semVal (th d L, .dma cc0_scratch13.sem) 0)
      ⊢ (|={Set.univ}=> (segB d L fs_seg fr_seg fl_seg q hl).Issued countersEmb (default : HIx 1) cr 0 : sProp 𝕄) := by
  rw [seg_tab d L]
  have h := bat_start (F := F) (n := 1376566) (th d L) rfl tabSeg (View.wordExact_bits rfl) b3 b0 cc0_scratch13.sem gathers_S1376567x16_S128x16 (by decide) fs_seg fr_seg fl_seg q fullShare hl cr
  rw [show b3.view.set = Finset.univ from View.set_whole _, show b0.view.set = Finset.univ from View.set_whole _] at h
  exact h
theorem seg_end (hl : ∀ x, (fl_seg x : BitVec 32).toNat < 1376567) :
    ((segB d L fs_seg fr_seg fl_seg q hl).Waited countersEmb (default : HIx 1) cr 13 : sProp 𝕄)
      ⊢ |={Set.univ}=> iprop((wsegLoc d ↦{q} fs_seg) ∗ (b3.view.loc (th d L) ↦{fullShare} chunkRows (n := 1376566) fs_seg fl_seg) ∗ (b0.view.loc (th d L) ↦{fullShare} fl_seg) ∗ semVal (th d L, .dma cc0_scratch13.sem) 0) := by
  rw [seg_tab d L]
  have h := bat_end (F := F) (n := 1376566) (th d L) rfl tabSeg (View.wordExact_bits rfl) b3 b0 cc0_scratch13.sem gathers_S1376567x16_S128x16 (by decide) fs_seg fr_seg fl_seg q fullShare hl cr cr_pos
  rw [show b3.view.set = Finset.univ from View.set_whole _, show b0.view.set = Finset.univ from View.set_whole _,
    read_all (n := 1376566) a11 inb_S1376567x16_S1376567x16_0_0, View.write_whole_univ] at h
  exact h

variable {fs_tiny : S3024x16.Idx → Elt F .f32} {fr_tiny : S1664x16.Idx → Elt F .f32} {fl_tiny : S13x128.Idx → Elt F .i32}
theorem tiny_tab : (ttLoc d ↦{q} fs_tiny : sProp 𝕄) = (tabTiny.view.loc (th d L) ↦[tabTiny.view.set]{q} fs_tiny) :=
  congrArg (fun S => (ttLoc d ↦[S]{q} fs_tiny : sProp 𝕄)) ((set_all (n := 3023) a12 inb_S3024x16_S3024x16_0_0).trans (View.set_whole _)).symm
theorem tiny_start (hl : ∀ x, (fl_tiny x : BitVec 32).toNat < 3024) :
    iprop((ttLoc d ↦{q} fs_tiny) ∗ (b4.view.loc (th d L) ↦{fullShare} fr_tiny) ∗ (b1.view.loc (th d L) ↦{fullShare} fl_tiny) ∗ semVal (th d L, .dma cc0_scratch14.sem) 0)
      ⊢ (|={Set.univ}=> (tinyB d L fs_tiny fr_tiny fl_tiny q hl).Issued countersEmb (default : HIx 1) cr 0 : sProp 𝕄) := by
  rw [tiny_tab d L]
  have h := bat_start (F := F) (n := 3023) (th d L) rfl tabTiny (View.wordExact_bits rfl) b4 b1 cc0_scratch14.sem gathers_S3024x16_S128x16 (by decide) fs_tiny fr_tiny fl_tiny q fullShare hl cr
  rw [show b4.view.set = Finset.univ from View.set_whole _, show b1.view.set = Finset.univ from View.set_whole _] at h
  exact h
theorem tiny_end (hl : ∀ x, (fl_tiny x : BitVec 32).toNat < 3024) :
    ((tinyB d L fs_tiny fr_tiny fl_tiny q hl).Waited countersEmb (default : HIx 1) cr 13 : sProp 𝕄)
      ⊢ |={Set.univ}=> iprop((ttLoc d ↦{q} fs_tiny) ∗ (b4.view.loc (th d L) ↦{fullShare} chunkRows (n := 3023) fs_tiny fl_tiny) ∗ (b1.view.loc (th d L) ↦{fullShare} fl_tiny) ∗ semVal (th d L, .dma cc0_scratch14.sem) 0) := by
  rw [tiny_tab d L]
  have h := bat_end (F := F) (n := 3023) (th d L) rfl tabTiny (View.wordExact_bits rfl) b4 b1 cc0_scratch14.sem gathers_S3024x16_S128x16 (by decide) fs_tiny fr_tiny fl_tiny q fullShare hl cr cr_pos
  rw [show b4.view.set = Finset.univ from View.set_whole _, show b1.view.set = Finset.univ from View.set_whole _,
    read_all (n := 3023) a12 inb_S3024x16_S3024x16_0_0, View.write_whole_univ] at h
  exact h

variable {fs_lnk : S101009x16.Idx → Elt F .f32} {fr_lnk : S1664x16.Idx → Elt F .f32} {fl_lnk : S13x128.Idx → Elt F .i32}
theorem lnk_tab : (wcrLoc d ↦{q} fs_lnk : sProp 𝕄) = (tabLnk.view.loc (th d L) ↦[tabLnk.view.set]{q} fs_lnk) :=
  congrArg (fun S => (wcrLoc d ↦[S]{q} fs_lnk : sProp 𝕄)) ((set_all (n := 101008) a13 inb_S101009x16_S101009x16_0_0).trans (View.set_whole _)).symm
theorem lnk_start (hl : ∀ x, (fl_lnk x : BitVec 32).toNat < 101009) :
    iprop((wcrLoc d ↦{q} fs_lnk) ∗ (b5.view.loc (th d L) ↦{fullShare} fr_lnk) ∗ (b2.view.loc (th d L) ↦{fullShare} fl_lnk) ∗ semVal (th d L, .dma cc0_scratch15.sem) 0)
      ⊢ (|={Set.univ}=> (lnkB d L fs_lnk fr_lnk fl_lnk q hl).Issued countersEmb (default : HIx 1) cr 0 : sProp 𝕄) := by
  rw [lnk_tab d L]
  have h := bat_start (F := F) (n := 101008) (th d L) rfl tabLnk (View.wordExact_bits rfl) b5 b2 cc0_scratch15.sem gathers_S101009x16_S128x16 (by decide) fs_lnk fr_lnk fl_lnk q fullShare hl cr
  rw [show b5.view.set = Finset.univ from View.set_whole _, show b2.view.set = Finset.univ from View.set_whole _] at h
  exact h
theorem lnk_end (hl : ∀ x, (fl_lnk x : BitVec 32).toNat < 101009) :
    ((lnkB d L fs_lnk fr_lnk fl_lnk q hl).Waited countersEmb (default : HIx 1) cr 13 : sProp 𝕄)
      ⊢ |={Set.univ}=> iprop((wcrLoc d ↦{q} fs_lnk) ∗ (b5.view.loc (th d L) ↦{fullShare} chunkRows (n := 101008) fs_lnk fl_lnk) ∗ (b2.view.loc (th d L) ↦{fullShare} fl_lnk) ∗ semVal (th d L, .dma cc0_scratch15.sem) 0) := by
  rw [lnk_tab d L]
  have h := bat_end (F := F) (n := 101008) (th d L) rfl tabLnk (View.wordExact_bits rfl) b5 b2 cc0_scratch15.sem gathers_S101009x16_S128x16 (by decide) fs_lnk fr_lnk fl_lnk q fullShare hl cr cr_pos
  rw [show b5.view.set = Finset.univ from View.set_whole _, show b2.view.set = Finset.univ from View.set_whole _,
    read_all (n := 101008) a13 inb_S101009x16_S101009x16_0_0, View.write_whole_univ] at h
  exact h

variable {fs_wt : S2312x16.Idx → Elt F .f32} {fr_wt : S32x16.Idx → Elt F .f32} {fl_wt : S32.Idx → Elt F .i32}
theorem wt_tab : (wtLoc d ↦{q} fs_wt : sProp 𝕄) = (tabWt.view.loc (th d L) ↦[tabWt.view.set]{q} fs_wt) :=
  congrArg (fun S => (wtLoc d ↦[S]{q} fs_wt : sProp 𝕄)) ((set_all (n := 2311) a9 inb_S2312x16_S2312x16_0_0).trans (View.set_whole _)).symm
theorem wt_start (hl : ∀ x, (fl_wt x : BitVec 32).toNat < 2312) :
    iprop((wtLoc d ↦{q} fs_wt) ∗ (b8.view.loc (th d L) ↦{fullShare} fr_wt) ∗ (b6.view.loc (th d L) ↦{fullShare} fl_wt) ∗ semVal (th d L, .dma cc0_scratch11.sem) 0)
      ⊢ (|={Set.univ}=> (wtB d L fs_wt fr_wt fl_wt q hl).Issued countersEmb (default : HIx 1) cr 0 : sProp 𝕄) := by
  rw [wt_tab d L]
  have h := one_start (F := F) (n := 2311) (th d L) rfl tabWt (View.wordExact_bits rfl) b8 b6 cc0_scratch11.sem gathers_S2312x16_S32x16 (by decide) fs_wt q fullShare fr_wt fl_wt hl cr
  rw [show b8.view.set = Finset.univ from View.set_whole _, show b6.view.set = Finset.univ from View.set_whole _] at h
  exact h
theorem wt_end (hl : ∀ x, (fl_wt x : BitVec 32).toNat < 2312) :
    ((wtB d L fs_wt fr_wt fl_wt q hl).Waited countersEmb (default : HIx 1) cr 1 : sProp 𝕄)
      ⊢ |={Set.univ}=> iprop((wtLoc d ↦{q} fs_wt) ∗ (b8.view.loc (th d L) ↦{fullShare} oneRows (n := 2311) fs_wt fl_wt) ∗ (b6.view.loc (th d L) ↦{fullShare} fl_wt) ∗ semVal (th d L, .dma cc0_scratch11.sem) 0) := by
  rw [wt_tab d L]
  have h := one_end (F := F) (n := 2311) (th d L) rfl tabWt (View.wordExact_bits rfl) b8 b6 cc0_scratch11.sem gathers_S2312x16_S32x16 (by decide) fs_wt q fullShare fr_wt fl_wt hl cr cr_pos
  rw [show b8.view.set = Finset.univ from View.set_whole _, show b6.view.set = Finset.univ from View.set_whole _,
    read_all (n := 2311) a9 inb_S2312x16_S2312x16_0_0, View.write_whole_univ] at h
  exact h

variable {fs_drv : S200141x16.Idx → Elt F .f32} {fr_drv : S32x16.Idx → Elt F .f32} {fl_drv : S32.Idx → Elt F .i32}
theorem drv_tab : (drvLoc d ↦{q} fs_drv : sProp 𝕄) = (tabDrv.view.loc (th d L) ↦[tabDrv.view.set]{q} fs_drv) :=
  congrArg (fun S => (drvLoc d ↦[S]{q} fs_drv : sProp 𝕄)) ((set_all (n := 200140) a10 inb_S200141x16_S200141x16_0_0).trans (View.set_whole _)).symm
theorem drv_start (hl : ∀ x, (fl_drv x : BitVec 32).toNat < 200141) :
    iprop((drvLoc d ↦{q} fs_drv) ∗ (b9.view.loc (th d L) ↦{fullShare} fr_drv) ∗ (b7.view.loc (th d L) ↦{fullShare} fl_drv) ∗ semVal (th d L, .dma cc0_scratch12.sem) 0)
      ⊢ (|={Set.univ}=> (drvB d L fs_drv fr_drv fl_drv q hl).Issued countersEmb (default : HIx 1) cr 0 : sProp 𝕄) := by
  rw [drv_tab d L]
  have h := one_start (F := F) (n := 200140) (th d L) rfl tabDrv (View.wordExact_bits rfl) b9 b7 cc0_scratch12.sem gathers_S200141x16_S32x16 (by decide) fs_drv q fullShare fr_drv fl_drv hl cr
  rw [show b9.view.set = Finset.univ from View.set_whole _, show b7.view.set = Finset.univ from View.set_whole _] at h
  exact h
theorem drv_end (hl : ∀ x, (fl_drv x : BitVec 32).toNat < 200141) :
    ((drvB d L fs_drv fr_drv fl_drv q hl).Waited countersEmb (default : HIx 1) cr 1 : sProp 𝕄)
      ⊢ |={Set.univ}=> iprop((drvLoc d ↦{q} fs_drv) ∗ (b9.view.loc (th d L) ↦{fullShare} oneRows (n := 200140) fs_drv fl_drv) ∗ (b7.view.loc (th d L) ↦{fullShare} fl_drv) ∗ semVal (th d L, .dma cc0_scratch12.sem) 0) := by
  rw [drv_tab d L]
  have h := one_end (F := F) (n := 200140) (th d L) rfl tabDrv (View.wordExact_bits rfl) b9 b7 cc0_scratch12.sem gathers_S200141x16_S32x16 (by decide) fs_drv q fullShare fr_drv fl_drv hl cr cr_pos
  rw [show b9.view.set = Finset.univ from View.set_whole _, show b7.view.set = Finset.univ from View.set_whole _,
    read_all (n := 200140) a10 inb_S200141x16_S200141x16_0_0, View.write_whole_univ] at h
  exact h

end Table

end Cert.Proof.Tile

end
-- ==== Proof.Copies.lean ====
/- The twelve copies of the tile's program, each by what it leaves in its destination. -/
module

public import proofs.«01_k».proof.Proof.Gathers

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (d : Dev nD) (L : grid0.Coords) (O : CellTallies nD τ sig (HIx 1)) (W : Waits sig (HIx 1))

theorem L_lt (L : grid0.Coords) : (L 0).val < 2 ∧ (L 1).val < 16 := ⟨(L 0).isLt, (L 1).isLt⟩

/-- A copy out of a part of what is held, to a part of a buffer that then holds the contents given. -/
theorem run_move {sp sp' : Space} {s : Shape} {e : EltTy} {src : Memref sig .scVector sp s e} {dst : Memref sig .scVector sp' s e} {sem : DmaSem sig}
    {hs : src.view.WordExact} {hd : dst.view.WordExact} {ht} {hs' : src.view.WordExact} {hd' : dst.view.WordExact} {q : PosShare TreeShare}
    {fs : Buf (Elt F) (src.view.loc (th d L))} {fd f' : Buf (Elt F) (dst.view.loc (th d L))} {S D} {Q : sProp 𝕄}
    (hN : 0 < s.numel) (hS : src.view.set ⊆ S) (hD : dst.view.set = D) (hv : src.view.read (Elt F) fs = dst.view.read (Elt F) f') :
    iprop((src.view.loc (th d L) ↦[S]{q} fs) ∗ (dst.view.loc (th d L) ↦[D]{fullShare} fd) ∗ semVal (th d L, .dma sem) 0 ∗ Now d L O W)
      ⊢ iprop((iprop((src.view.loc (th d L) ↦[S]{q} fs) ∗ (dst.view.loc (th d L) ↦[D]{fullShare} f')
            ∗ semVal (th d L, .dma sem) 0 ∗ Now d L O W) -∗ Q)
          -∗ run d L (enq L src dst sem hs hd ht) fun _ => run d L (wai L src dst sem hs' hd') fun _ => Q) := by
  subst hD
  have hw : (dst.view.loc (th d L) ↦[dst.view.set]{fullShare} dst.view.write (Elt F) fd (src.view.read (Elt F) fs) Finset.univ : sProp 𝕄)
      = (dst.view.loc (th d L) ↦[dst.view.set]{fullShare} f') := by
    refine pointsTo_congr fun i hi => ?_
    obtain ⟨y, -, rfl⟩ := Finset.mem_map.mp hi
    rw [View.write_emb_of_mem (v := dst.view) (Val := Elt F) fd _ (Finset.mem_univ y), hv, View.read_apply, cast_cast, cast_eq]
  have hsp := pointsTo_split_subset (Ix := HIx 1) (Name := ℕ) (U := UU) (Lvl := ℕ) (ℓ := src.view.loc (th d L)) (q := q) (f := fs) hS
  iintro ⟨Hs, Hd, Hv, HN⟩ HQ
  ihave Hs' := hsp.1 $$ Hs
  icases Hs' with ⟨Hs, Hr⟩
  iapply (run_copy d L O W (hs := hs) (hd := hd) (ht := ht) (hs' := hs') (hd' := hd') (Q := Q) (dst.view.dmaCredit_pos hN)) $$ [Hs Hd Hv HN]
  · isplitl [Hs]; · iexact Hs
    isplitl [Hd]; · iexact Hd
    isplitl [Hv] <;> iassumption
  iintro ⟨Hs, Hd, Hv, HN⟩
  iapply HQ
  isplitl [Hs Hr]
  · iapply hsp.2
    isplitl [Hs] <;> iassumption
  isplitl [Hd]
  · iapply (Entails.of_eq hw) $$ Hd
  isplitl [Hv] <;> iassumption

/-! ## Reading a row, or a plane, of an array -/

theorem emb_row {n m : ℕ} (off : Fin 2 → ℕ) (inb) (w : ℕ) (h0 : off 0 = w) (h1 : off 1 = 0) (hn) (y : (⟨1, ![m + 1]⟩ : Shape).Idx) :
    (Rect.unit (s := ⟨2, ![n + 1, m + 1]⟩) off (⟨2, ![1, m + 1]⟩ : Shape).size inb).emb (Shape.reshapeEquiv hn y) = at2 w (y 0).val := by
  rw [show (Shape.reshapeEquiv hn y : (⟨2, ![1, m + 1]⟩ : Shape).Idx) = Fin.cons (⟨0, Nat.one_pos⟩ : Fin 1) y from
    Shape.reshapeEquiv_cons_one (n := 1) (d := ![m + 1]) _ y]
  have hw : off 0 + 1 ≤ n + 1 := inb 0
  have hy : (y 0).val < m + 1 := (y 0).isLt
  funext a
  match a with
  | 0 => exact Fin.ext (show off 0 + 1 * 0 = w % (n + 1) by rw [Nat.mod_eq_of_lt (by omega)]; omega)
  | 1 => exact Fin.ext (show off 1 + 1 * (y 0).val = (y 0).val % (m + 1) by rw [Nat.mod_eq_of_lt (by omega)]; omega)

theorem emb_plane {n m k : ℕ} (off : Fin 3 → ℕ) (inb) (w : ℕ) (h0 : off 0 = w) (h1 : off 1 = 0) (h2 : off 2 = 0) (hn) (y : (⟨2, ![m + 1, k + 1]⟩ : Shape).Idx) :
    (Rect.unit (s := ⟨3, ![n + 1, m + 1, k + 1]⟩) off (⟨3, ![1, m + 1, k + 1]⟩ : Shape).size inb).emb (Shape.reshapeEquiv hn y) = at3 w (y 0).val (y 1).val := by
  rw [show (Shape.reshapeEquiv hn y : (⟨3, ![1, m + 1, k + 1]⟩ : Shape).Idx) = Fin.cons (⟨0, Nat.one_pos⟩ : Fin 1) y from
    Shape.reshapeEquiv_cons_one (n := 2) (d := ![m + 1, k + 1]) _ y]
  have hw : off 0 + 1 ≤ n + 1 := inb 0
  have hy : (y 0).val < m + 1 := (y 0).isLt
  have hz : (y 1).val < k + 1 := (y 1).isLt
  funext a
  match a with
  | 0 => exact Fin.ext (show off 0 + 1 * 0 = w % (n + 1) by rw [Nat.mod_eq_of_lt (by omega)]; omega)
  | 1 => exact Fin.ext (show off 1 + 1 * (y 0).val = (y 0).val % (m + 1) by rw [Nat.mod_eq_of_lt (by omega)]; omega)
  | 2 => exact Fin.ext (show off 2 + 1 * (y 1).val = (y 1).val % (k + 1) by rw [Nat.mod_eq_of_lt (by omega)]; omega)

/-- The tile's row of a list, its plane of a chunked list, and its row of the delays. -/
def row32 (f : S32x32.Idx → Elt F .i32) : S32.Idx → Elt F .i32 := fun j => f (at2 (wk L) (j 0).val)
def plane (f : S32x13x128.Idx → Elt F .i32) : S13x128.Idx → Elt F .i32 := fun j => f (at3 (wk L) (j 0).val (j 1).val)
def rowD (f : S32x1568.Idx → Elt F .f32) : S1568.Idx → Elt F .f32 := fun j => f (at2 (wk L) (j 0).val)

section In

variable {q : PosShare TreeShare}

theorem run_in2 {Q : sProp 𝕄} {f : S32x32.Idx → Elt F .i32} {fd : S32.Idx → Elt F .i32} :
    iprop((wtidxLoc d ↦{q} f) ∗ (b6.view.loc (th d L) ↦{fullShare} fd) ∗ semVal (th d L, .dma cc0_scoped0.sem) 0 ∗ Now d L O W)
      ⊢ iprop((iprop((wtidxLoc d ↦{q} f) ∗ (b6.view.loc (th d L) ↦{fullShare} row32 L f) ∗ semVal (th d L, .dma cc0_scoped0.sem) 0 ∗ Now d L O W) -∗ Q)
          -∗ run d L (enq L (inS2 L) b6 cc0_scoped0.sem (View.wordExact_bits rfl) (View.wordExact_bits rfl) ⟨Or.inl rfl, trivial⟩) fun _ => run d L (wai L (inS2 L) b6 cc0_scoped0.sem (View.wordExact_bits rfl) (View.wordExact_bits rfl)) fun _ => Q) :=
  run_move d L O W (src := inS2 L) (dst := b6) (by decide) (Finset.subset_univ _) (View.set_whole _)
    (funext fun y => congrArg f (emb_row (k0_off1 L) (k0_off1_inb L) (wk L) (congrFun (k0_off1_eq L) 0) (congrFun (k0_off1_eq L) 1) _ y))
theorem run_in3 {Q : sProp 𝕄} {f : S32x32.Idx → Elt F .i32} {fd : S32.Idx → Elt F .i32} :
    iprop((didxLoc d ↦{q} f) ∗ (b7.view.loc (th d L) ↦{fullShare} fd) ∗ semVal (th d L, .dma cc0_scoped1.sem) 0 ∗ Now d L O W)
      ⊢ iprop((iprop((didxLoc d ↦{q} f) ∗ (b7.view.loc (th d L) ↦{fullShare} row32 L f) ∗ semVal (th d L, .dma cc0_scoped1.sem) 0 ∗ Now d L O W) -∗ Q)
          -∗ run d L (enq L (inS3 L) b7 cc0_scoped1.sem (View.wordExact_bits rfl) (View.wordExact_bits rfl) ⟨Or.inl rfl, trivial⟩) fun _ => run d L (wai L (inS3 L) b7 cc0_scoped1.sem (View.wordExact_bits rfl) (View.wordExact_bits rfl)) fun _ => Q) :=
  run_move d L O W (src := inS3 L) (dst := b7) (by decide) (Finset.subset_univ _) (View.set_whole _)
    (funext fun y => congrArg f (emb_row (k0_off1 L) (k0_off1_inb L) (wk L) (congrFun (k0_off1_eq L) 0) (congrFun (k0_off1_eq L) 1) _ y))
theorem run_in4 {Q : sProp 𝕄} {f : S32x13x128.Idx → Elt F .i32} {fd : S13x128.Idx → Elt F .i32} :
    iprop((segLoc d ↦{q} f) ∗ (b0.view.loc (th d L) ↦{fullShare} fd) ∗ semVal (th d L, .dma cc0_scoped2.sem) 0 ∗ Now d L O W)
      ⊢ iprop((iprop((segLoc d ↦{q} f) ∗ (b0.view.loc (th d L) ↦{fullShare} plane L f) ∗ semVal (th d L, .dma cc0_scoped2.sem) 0 ∗ Now d L O W) -∗ Q)
          -∗ run d L (enq L (inS4 L) b0 cc0_scoped2.sem (View.wordExact_bits rfl) (View.wordExact_bits rfl) ⟨Or.inl rfl, trivial⟩) fun _ => run d L (wai L (inS4 L) b0 cc0_scoped2.sem (View.wordExact_bits rfl) (View.wordExact_bits rfl)) fun _ => Q) :=
  run_move d L O W (src := inS4 L) (dst := b0) (by decide) (Finset.subset_univ _) (View.set_whole _)
    (funext fun y => congrArg f (emb_plane (k0_off2 L) (k0_off2_inb L) (wk L) (congrFun (k0_off2_eq L) 0) (congrFun (k0_off2_eq L) 1) (congrFun (k0_off2_eq L) 2) _ y))
theorem run_in5 {Q : sProp 𝕄} {f : S32x13x128.Idx → Elt F .i32} {fd : S13x128.Idx → Elt F .i32} :
    iprop((tinyLoc d ↦{q} f) ∗ (b1.view.loc (th d L) ↦{fullShare} fd) ∗ semVal (th d L, .dma cc0_scoped3.sem) 0 ∗ Now d L O W)
      ⊢ iprop((iprop((tinyLoc d ↦{q} f) ∗ (b1.view.loc (th d L) ↦{fullShare} plane L f) ∗ semVal (th d L, .dma cc0_scoped3.sem) 0 ∗ Now d L O W) -∗ Q)
          -∗ run d L (enq L (inS5 L) b1 cc0_scoped3.sem (View.wordExact_bits rfl) (View.wordExact_bits rfl) ⟨Or.inl rfl, trivial⟩) fun _ => run d L (wai L (inS5 L) b1 cc0_scoped3.sem (View.wordExact_bits rfl) (View.wordExact_bits rfl)) fun _ => Q) :=
  run_move d L O W (src := inS5 L) (dst := b1) (by decide) (Finset.subset_univ _) (View.set_whole _)
    (funext fun y => congrArg f (emb_plane (k0_off2 L) (k0_off2_inb L) (wk L) (congrFun (k0_off2_eq L) 0) (congrFun (k0_off2_eq L) 1) (congrFun (k0_off2_eq L) 2) _ y))
theorem run_in7 {Q : sProp 𝕄} {f : S32x13x128.Idx → Elt F .i32} {fd : S13x128.Idx → Elt F .i32} :
    iprop((crossLoc d ↦{q} f) ∗ (b2.view.loc (th d L) ↦{fullShare} fd) ∗ semVal (th d L, .dma cc0_scoped4.sem) 0 ∗ Now d L O W)
      ⊢ iprop((iprop((crossLoc d ↦{q} f) ∗ (b2.view.loc (th d L) ↦{fullShare} plane L f) ∗ semVal (th d L, .dma cc0_scoped4.sem) 0 ∗ Now d L O W) -∗ Q)
          -∗ run d L (enq L (inS7 L) b2 cc0_scoped4.sem (View.wordExact_bits rfl) (View.wordExact_bits rfl) ⟨Or.inl rfl, trivial⟩) fun _ => run d L (wai L (inS7 L) b2 cc0_scoped4.sem (View.wordExact_bits rfl) (View.wordExact_bits rfl)) fun _ => Q) :=
  run_move d L O W (src := inS7 L) (dst := b2) (by decide) (Finset.subset_univ _) (View.set_whole _)
    (funext fun y => congrArg f (emb_plane (k0_off2 L) (k0_off2_inb L) (wk L) (congrFun (k0_off2_eq L) 0) (congrFun (k0_off2_eq L) 1) (congrFun (k0_off2_eq L) 2) _ y))
theorem run_in8 {Q : sProp 𝕄} {f : S32x1568.Idx → Elt F .f32} {fd : S1568.Idx → Elt F .f32} :
    iprop((delayLoc d ↦{q} f) ∗ (b10.view.loc (th d L) ↦{fullShare} fd) ∗ semVal (th d L, .dma cc0_scoped6.sem) 0 ∗ Now d L O W)
      ⊢ iprop((iprop((delayLoc d ↦{q} f) ∗ (b10.view.loc (th d L) ↦{fullShare} rowD L f) ∗ semVal (th d L, .dma cc0_scoped6.sem) 0 ∗ Now d L O W) -∗ Q)
          -∗ run d L (enq L (inS8 L) b10 cc0_scoped6.sem (View.wordExact_bits rfl) (View.wordExact_bits rfl) ⟨Or.inl rfl, trivial⟩) fun _ => run d L (wai L (inS8 L) b10 cc0_scoped6.sem (View.wordExact_bits rfl) (View.wordExact_bits rfl)) fun _ => Q) :=
  run_move d L O W (src := inS8 L) (dst := b10) (by decide) (Finset.subset_univ _) (View.set_whole _)
    (funext fun y => congrArg f (emb_row (k0_off5 L) (k0_off5_inb L) (wk L) (congrFun (k0_off5_eq L) 0) (congrFun (k0_off5_eq L) 1) _ y))

end In

/-! ## What the row buffers hold, and which part of a result each is -/

section Out

variable {q : PosShare TreeShare} (x : Ops F)

/-- What the five row buffers hold when gathered. -/
def segRows : S1664x16.Idx → Elt F .f32 := chunkRows (n := 1376566) x.wseg (plane L x.seg)
def tinyRows : S1664x16.Idx → Elt F .f32 := chunkRows (n := 3023) x.tt (plane L x.tiny)
def lnkRows : S1664x16.Idx → Elt F .f32 := chunkRows (n := 101008) x.wcr (plane L x.cross)
def wtRows : S32x16.Idx → Elt F .f32 := oneRows (n := 2311) x.wt (row32 L x.wtidx)
def drvRows : S32x16.Idx → Elt F .f32 := oneRows (n := 200140) x.drv (row32 L x.didx)
/-- The third row buffer when the rows below `b` have the delay in their last column. -/
def lnkDone (b : ℕ) : S1664x16.Idx → Elt F .f32 := fun j =>
  if (j 0).val < b ∧ (j 1).val = 15 then x.delay (at2 (wk L) (j 0).val) else lnkRows L x j

theorem plane_at (f : S32x13x128.Idx → Elt F .i32) {p : ℕ} (hp : p < 1664) : plane L f (at2 (p / 128) (p % 128)) = f (at3 (wk L) (p / 128) (p % 128)) := by
  refine congrArg f ?_
  show at3 (wk L) (p / 128 % 13) (p % 128 % 128) = at3 (wk L) (p / 128) (p % 128)
  rw [Nat.mod_mod, Nat.mod_eq_of_lt (show p / 128 < 13 by omega)]

theorem wtRows_ext (j : S32x16.Idx) (e : S1024x24.Idx) (h0 : (e 0).val = 32 * wk L + (j 0).val) (h1 : (e 1).val = (j 1).val) (h8 : (j 1).val < 8) :
    wtRows L x j = x.ext e := by
  have hj : (j 0).val < 32 := (j 0).isLt
  unfold Ops.ext Ops.wtId
  rw [if_pos (by omega), show (e 0).val / 32 = wk L by omega, show (e 0).val % 32 = (j 0).val by omega, h1]
  rfl
theorem drvRows_ext (j : S32x16.Idx) (e : S1024x24.Idx) (h0 : (e 0).val = 32 * wk L + (j 0).val) (h1 : (e 1).val = 8 + (j 1).val) :
    drvRows L x j = x.ext e := by
  have hj : (j 0).val < 32 := (j 0).isLt
  unfold Ops.ext Ops.drvId
  rw [if_neg (by omega), show (e 0).val / 32 = wk L by omega, show (e 0).val % 32 = (j 0).val by omega, show (e 1).val - 8 = (j 1).val by omega]
  rfl
theorem segRows_sgo (j : S1664x16.Idx) (e : S51200x28.Idx) (h0 : (e 0).val = 1600 * wk L + (j 0).val) (hj : (j 0).val < 1600) (h1 : (e 1).val = (j 1).val) :
    segRows L x j = x.sgo e := by
  have hj1 : (j 1).val < 16 := (j 1).isLt
  unfold Ops.sgo Ops.segId segRows chunkRows
  rw [if_pos (by omega), show (e 0).val / 1600 = wk L by omega, show (e 0).val % 1600 = (j 0).val by omega, h1, plane_at L x.seg (by omega)]
theorem tinyRows_sgo (j : S1664x16.Idx) (e : S51200x28.Idx) (h0 : (e 0).val = 1600 * wk L + (j 0).val) (hj : (j 0).val < 1600) (h1 : (e 1).val = 16 + (j 1).val)
    (h8 : (j 1).val < 8) : tinyRows L x j = x.sgo e := by
  unfold Ops.sgo Ops.tinyId tinyRows chunkRows
  rw [if_neg (by omega), if_pos (by omega), show (e 0).val / 1600 = wk L by omega, show (e 0).val % 1600 = (j 0).val by omega,
    show (e 1).val - 16 = (j 1).val by omega, plane_at L x.tiny (by omega)]
theorem cont_sgo (y : S1600x4.Idx) (e : S51200x28.Idx) (h0 : (e 0).val = 1600 * wk L + (y 0).val) (h1 : (e 1).val = 24 + (y 1).val) :
    x.cont (at3 (wk L) (y 0).val (y 1).val) = x.sgo e := by
  have hj : (y 0).val < 1600 := (y 0).isLt
  unfold Ops.sgo
  rw [if_neg (by omega), if_neg (by omega), show (e 0).val / 1600 = wk L by omega, show (e 0).val % 1600 = (y 0).val by omega,
    show (e 1).val - 24 = (y 1).val by omega]
theorem lnkDone_lnk (j : S1664x16.Idx) (e : S50176x16.Idx) (h0 : (e 0).val = 1568 * wk L + (j 0).val) (hj : (j 0).val < 1568) (h1 : (e 1).val = (j 1).val) :
    lnkDone L x 1568 j = x.lnk e := by
  have hj1 : (j 1).val < 16 := (j 1).isLt
  unfold Ops.lnk Ops.crossId lnkDone lnkRows chunkRows
  rw [show (e 0).val / 1568 = wk L by omega, show (e 0).val % 1568 = (j 0).val by omega, h1, plane_at L x.cross (by omega)]
  by_cases h : (j 1).val < 15
  · rw [if_pos h, if_neg (by omega)]
  · rw [if_neg h, if_pos ⟨hj, by omega⟩]

/-! ## The copies out -/

theorem run_outA {Q : sProp 𝕄} {fd : S1024x24.Idx → Elt F .f32} :
    iprop((b8.view.loc (th d L) ↦{q} wtRows L x) ∗ (extLoc d ↦[(extA L).set]{fullShare} fd) ∗ semVal (th d L, .dma cc0_scoped7.sem) 0 ∗ Now d L O W)
      ⊢ iprop((iprop((b8.view.loc (th d L) ↦{q} wtRows L x) ∗ (extLoc d ↦[(extA L).set]{fullShare} x.ext) ∗ semVal (th d L, .dma cc0_scoped7.sem) 0 ∗ Now d L O W) -∗ Q)
          -∗ run d L (enq L fromWt (outA L) cc0_scoped7.sem (View.wordExact_bits rfl) (View.wordExact_bits rfl) ⟨Or.inl rfl, trivial⟩) fun _ => run d L (wai L fromWt (outA L) cc0_scoped7.sem (View.wordExact_bits rfl) (View.wordExact_bits rfl)) fun _ => Q) :=
  run_move d L O W (src := fromWt) (dst := outA L) (by decide) (Finset.subset_univ _) (View.set_slice_whole _ _)
    (funext fun y => by
      have o0 : k0_off6 L 0 = _ := congrFun (k0_off6_eq L) 0
      have o1 : k0_off6 L 1 = _ := congrFun (k0_off6_eq L) 1
      have e0 : ((extA L).emb y 0).val = k0_off6 L 0 + 1 * (y 0).val := rfl
      have e1 : ((extA L).emb y 1).val = k0_off6 L 1 + 1 * (y 1).val := rfl
      simp only [Matrix.cons_val_zero, Matrix.cons_val_one] at o0 o1
      have y0 : (y 0).val < 32 := (y 0).isLt
      have y1 : (y 1).val < 8 := (y 1).isLt
      have j0 : (((Rect.unit (s := S32x16) ![0, 0] S32x8.size inb_S32x16_S32x8_0_0).emb y) 0).val = 0 + 1 * (y 0).val := rfl
      have j1 : (((Rect.unit (s := S32x16) ![0, 0] S32x8.size inb_S32x16_S32x8_0_0).emb y) 1).val = 0 + 1 * (y 1).val := rfl
      exact wtRows_ext L x ((Rect.unit (s := S32x16) ![0, 0] S32x8.size inb_S32x16_S32x8_0_0).emb y) ((extA L).emb y) (by rw [e0, o0, j0]; show _ = 32 * (2 * (L 1).val + (L 0).val) + _; omega) (by omega) (by omega))
theorem run_outB {Q : sProp 𝕄} {fd : S1024x24.Idx → Elt F .f32} :
    iprop((b9.view.loc (th d L) ↦{q} drvRows L x) ∗ (extLoc d ↦[(extB L).set]{fullShare} fd) ∗ semVal (th d L, .dma cc0_scoped8.sem) 0 ∗ Now d L O W)
      ⊢ iprop((iprop((b9.view.loc (th d L) ↦{q} drvRows L x) ∗ (extLoc d ↦[(extB L).set]{fullShare} x.ext) ∗ semVal (th d L, .dma cc0_scoped8.sem) 0 ∗ Now d L O W) -∗ Q)
          -∗ run d L (enq L b9 (outB L) cc0_scoped8.sem (View.wordExact_bits rfl) (View.wordExact_bits rfl) ⟨Or.inl rfl, trivial⟩) fun _ => run d L (wai L b9 (outB L) cc0_scoped8.sem (View.wordExact_bits rfl) (View.wordExact_bits rfl)) fun _ => Q) :=
  run_move d L O W (src := b9) (dst := outB L) (by decide) (Finset.subset_univ _) (View.set_slice_whole _ _)
    (funext fun y => by
      have o0 : k0_off7 L 0 = _ := congrFun (k0_off7_eq L) 0
      have o1 : k0_off7 L 1 = _ := congrFun (k0_off7_eq L) 1
      have e0 : ((extB L).emb y 0).val = k0_off7 L 0 + 1 * (y 0).val := rfl
      have e1 : ((extB L).emb y 1).val = k0_off7 L 1 + 1 * (y 1).val := rfl
      simp only [Matrix.cons_val_zero, Matrix.cons_val_one] at o0 o1
      have y0 : (y 0).val < 32 := (y 0).isLt
      have y1 : (y 1).val < 16 := (y 1).isLt
      exact drvRows_ext L x y ((extB L).emb y) (by rw [e0, o0]; show _ = 32 * (2 * (L 1).val + (L 0).val) + _; omega) (by omega))
theorem run_outS {Q : sProp 𝕄} {fd : S51200x28.Idx → Elt F .f32} :
    iprop((b3.view.loc (th d L) ↦{q} segRows L x) ∗ (sgoLoc d ↦[(sgoA L).set]{fullShare} fd) ∗ semVal (th d L, .dma cc0_scoped9.sem) 0 ∗ Now d L O W)
      ⊢ iprop((iprop((b3.view.loc (th d L) ↦{q} segRows L x) ∗ (sgoLoc d ↦[(sgoA L).set]{fullShare} x.sgo) ∗ semVal (th d L, .dma cc0_scoped9.sem) 0 ∗ Now d L O W) -∗ Q)
          -∗ run d L (enq L fromSeg (outS L) cc0_scoped9.sem (View.wordExact_bits rfl) (View.wordExact_bits rfl) ⟨Or.inl rfl, trivial⟩) fun _ => run d L (wai L fromSeg (outS L) cc0_scoped9.sem (View.wordExact_bits rfl) (View.wordExact_bits rfl)) fun _ => Q) :=
  run_move d L O W (src := fromSeg) (dst := outS L) (by decide) (Finset.subset_univ _) (View.set_slice_whole _ _)
    (funext fun y => by
      have o0 : k0_off8 L 0 = _ := congrFun (k0_off8_eq L) 0
      have o1 : k0_off8 L 1 = _ := congrFun (k0_off8_eq L) 1
      have e0 : ((sgoA L).emb y 0).val = k0_off8 L 0 + 1 * (y 0).val := rfl
      have e1 : ((sgoA L).emb y 1).val = k0_off8 L 1 + 1 * (y 1).val := rfl
      simp only [Matrix.cons_val_zero, Matrix.cons_val_one] at o0 o1
      have y0 : (y 0).val < 1600 := (y 0).isLt
      have y1 : (y 1).val < 16 := (y 1).isLt
      have j0 : (((Rect.unit (s := S1664x16) ![0, 0] S1600x16.size inb_S1664x16_S1600x16_0_0).emb y) 0).val = 0 + 1 * (y 0).val := rfl
      have j1 : (((Rect.unit (s := S1664x16) ![0, 0] S1600x16.size inb_S1664x16_S1600x16_0_0).emb y) 1).val = 0 + 1 * (y 1).val := rfl
      exact segRows_sgo L x ((Rect.unit (s := S1664x16) ![0, 0] S1600x16.size inb_S1664x16_S1600x16_0_0).emb y) ((sgoA L).emb y) (by rw [e0, o0, j0]; show _ = 1600 * (2 * (L 1).val + (L 0).val) + _; omega) (by omega) (by omega))
theorem run_outT {Q : sProp 𝕄} {fd : S51200x28.Idx → Elt F .f32} :
    iprop((b4.view.loc (th d L) ↦{q} tinyRows L x) ∗ (sgoLoc d ↦[(sgoB L).set]{fullShare} fd) ∗ semVal (th d L, .dma cc0_scoped10.sem) 0 ∗ Now d L O W)
      ⊢ iprop((iprop((b4.view.loc (th d L) ↦{q} tinyRows L x) ∗ (sgoLoc d ↦[(sgoB L).set]{fullShare} x.sgo) ∗ semVal (th d L, .dma cc0_scoped10.sem) 0 ∗ Now d L O W) -∗ Q)
          -∗ run d L (enq L fromTiny (outT L) cc0_scoped10.sem (View.wordExact_bits rfl) (View.wordExact_bits rfl) ⟨Or.inl rfl, trivial⟩) fun _ => run d L (wai L fromTiny (outT L) cc0_scoped10.sem (View.wordExact_bits rfl) (View.wordExact_bits rfl)) fun _ => Q) :=
  run_move d L O W (src := fromTiny) (dst := outT L) (by decide) (Finset.subset_univ _) (View.set_slice_whole _ _)
    (funext fun y => by
      have o0 : k0_off9 L 0 = _ := congrFun (k0_off9_eq L) 0
      have o1 : k0_off9 L 1 = _ := congrFun (k0_off9_eq L) 1
      have e0 : ((sgoB L).emb y 0).val = k0_off9 L 0 + 1 * (y 0).val := rfl
      have e1 : ((sgoB L).emb y 1).val = k0_off9 L 1 + 1 * (y 1).val := rfl
      simp only [Matrix.cons_val_zero, Matrix.cons_val_one] at o0 o1
      have y0 : (y 0).val < 1600 := (y 0).isLt
      have y1 : (y 1).val < 8 := (y 1).isLt
      have j0 : (((Rect.unit (s := S1664x16) ![0, 0] S1600x8.size inb_S1664x16_S1600x8_0_0).emb y) 0).val = 0 + 1 * (y 0).val := rfl
      have j1 : (((Rect.unit (s := S1664x16) ![0, 0] S1600x8.size inb_S1664x16_S1600x8_0_0).emb y) 1).val = 0 + 1 * (y 1).val := rfl
      exact tinyRows_sgo L x ((Rect.unit (s := S1664x16) ![0, 0] S1600x8.size inb_S1664x16_S1600x8_0_0).emb y) ((sgoB L).emb y) (by rw [e0, o0, j0]; show _ = 1600 * (2 * (L 1).val + (L 0).val) + _; omega) (by omega) (by omega) (by omega))
theorem run_outL {Q : sProp 𝕄} {fd : S50176x16.Idx → Elt F .f32} :
    iprop((b5.view.loc (th d L) ↦{q} lnkDone L x 1568) ∗ (lnkLoc d ↦[(lnkA L).set]{fullShare} fd) ∗ semVal (th d L, .dma cc0_scoped11.sem) 0 ∗ Now d L O W)
      ⊢ iprop((iprop((b5.view.loc (th d L) ↦{q} lnkDone L x 1568) ∗ (lnkLoc d ↦[(lnkA L).set]{fullShare} x.lnk) ∗ semVal (th d L, .dma cc0_scoped11.sem) 0 ∗ Now d L O W) -∗ Q)
          -∗ run d L (enq L fromLnk (outL L) cc0_scoped11.sem (View.wordExact_bits rfl) (View.wordExact_bits rfl) ⟨Or.inl rfl, trivial⟩) fun _ => run d L (wai L fromLnk (outL L) cc0_scoped11.sem (View.wordExact_bits rfl) (View.wordExact_bits rfl)) fun _ => Q) :=
  run_move d L O W (src := fromLnk) (dst := outL L) (by decide) (Finset.subset_univ _) (View.set_slice_whole _ _)
    (funext fun y => by
      have o0 : k0_off12 L 0 = _ := congrFun (k0_off12_eq L) 0
      have o1 : k0_off12 L 1 = _ := congrFun (k0_off12_eq L) 1
      have e0 : ((lnkA L).emb y 0).val = k0_off12 L 0 + 1 * (y 0).val := rfl
      have e1 : ((lnkA L).emb y 1).val = k0_off12 L 1 + 1 * (y 1).val := rfl
      simp only [Matrix.cons_val_zero, Matrix.cons_val_one] at o0 o1
      have y0 : (y 0).val < 1568 := (y 0).isLt
      have y1 : (y 1).val < 16 := (y 1).isLt
      have j0 : (((Rect.unit (s := S1664x16) ![0, 0] S1568x16.size inb_S1664x16_S1568x16_0_0).emb y) 0).val = 0 + 1 * (y 0).val := rfl
      have j1 : (((Rect.unit (s := S1664x16) ![0, 0] S1568x16.size inb_S1664x16_S1568x16_0_0).emb y) 1).val = 0 + 1 * (y 1).val := rfl
      exact lnkDone_lnk L x ((Rect.unit (s := S1664x16) ![0, 0] S1568x16.size inb_S1664x16_S1568x16_0_0).emb y) ((lnkA L).emb y) (by rw [e0, o0, j0]; show _ = 1568 * (2 * (L 1).val + (L 0).val) + _; omega) (by omega) (by omega))
theorem run_outC {Q : sProp 𝕄} {fd : S51200x28.Idx → Elt F .f32} :
    iprop((contLoc d ↦{q} x.cont) ∗ (sgoLoc d ↦[(sgoC L).set]{fullShare} fd) ∗ semVal (th d L, .dma cc0_scoped5.sem) 0 ∗ Now d L O W)
      ⊢ iprop((iprop((contLoc d ↦{q} x.cont) ∗ (sgoLoc d ↦[(sgoC L).set]{fullShare} x.sgo) ∗ semVal (th d L, .dma cc0_scoped5.sem) 0 ∗ Now d L O W) -∗ Q)
          -∗ run d L (enq L (inS6 L) (outC L) cc0_scoped5.sem (View.wordExact_bits rfl) (View.wordExact_bits rfl) ⟨Or.inl rfl, trivial⟩) fun _ => run d L (wai L (inS6 L) (outC L) cc0_scoped5.sem (View.wordExact_bits rfl) (View.wordExact_bits rfl)) fun _ => Q) :=
  run_move d L O W (src := (inS6 L)) (dst := outC L) (by decide) (Finset.subset_univ _) (View.set_slice_whole _ _)
    (funext fun y => by
      have o0 : k0_off3 L 0 = _ := congrFun (k0_off3_eq L) 0
      have o1 : k0_off3 L 1 = _ := congrFun (k0_off3_eq L) 1
      have e0 : ((sgoC L).emb y 0).val = k0_off3 L 0 + 1 * (y 0).val := rfl
      have e1 : ((sgoC L).emb y 1).val = k0_off3 L 1 + 1 * (y 1).val := rfl
      simp only [Matrix.cons_val_zero, Matrix.cons_val_one] at o0 o1
      have y0 : (y 0).val < 1600 := (y 0).isLt
      have y1 : (y 1).val < 4 := (y 1).isLt
      refine Eq.trans ?_ (cont_sgo L x y ((sgoC L).emb y) (by rw [e0, o0]; show _ = 1600 * (2 * (L 1).val + (L 0).val) + _; omega) (by omega))
      exact congrArg x.cont (emb_plane (k0_off4 L) (k0_off4_inb L) (wk L) (congrFun (k0_off4_eq L) 0) (congrFun (k0_off4_eq L) 1) (congrFun (k0_off4_eq L) 2) _ y))

end Out

end Cert.Proof.Tile

end
-- ==== Proof.Loop.lean ====
/- The loop over the third row buffer: sixteen rows a trip, the last column of each replaced by its delay. -/
module

public import proofs.«01_k».proof.Proof.Copies

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## A trip as sixteen rows -/

section Rows

variable (L : grid0.Coords) (k : Fin k0_t1_loop.trips)

def ldD : TProg F L (Vec F S16 .f32) :=
  Prog.lift (.load b10 (Rect.unit (s := S1568) (k0_off10 k) S16.size (k0_off10_inb k)).toLoadRect (View.loadsAt_vmem h_S16))
abbrev rowAt (c : Fin 16) : Rect S1664x16 := Rect.unit (s := S1664x16) (k0_off11 k (BitVec.ofNat 32 c.val)) S1x16.size (k0_off11_inb k c)
def ldR (c : Fin 16) : TProg F L (Vec F S1x16 .f32) := Prog.lift (.load b5 (rowAt k c).toLoadRect (View.loadsAt_vmem h_S1x16))
def stR (c : Fin 16) (w : FVec F S1x16 .f32) : TProg F L PUnit :=
  Prog.lift (.store b5 (rowAt k c) w Finset.univ (View.stores_vmem_bits_univ h_S1x16 rfl) (.inl rfl))

theorem lane_slices (c : Fin 16) : S16.Slices ![c.val] S1 := by revert c; decide

/-- A row with the lanes of a mask replaced by lane `c` of the delays. -/
def mixed (v : IVec S16 1) (dl : FVec F S16 .f32) (r : Vec F S1x16 .f32) (c : Fin 16) : FVec F S1x16 .f32 :=
  shapeCast S1x16 (select v (broadcast S16 (extractAt ![0] (extractStridedSlice S1 ![c.val] dl (lane_slices c)) inpos_S1_p0))
    (shapeCast S16 r shapeCasts_S1x16_S16)) shapeCasts_S16_S1x16

/-- A row is read, read again, and stored with its last lane replaced. -/
def rowP (v : IVec S16 1) (dl : FVec F S16 .f32) (c : Fin 16) : TProg F L PUnit := do
  let r ← ldR L k c
  let _ ← ldR (F := F) L k c
  stR L k c (mixed v dl r c)

set_option maxRecDepth 65536 in
theorem trip_eq (v : IVec S16 1) :
    (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11 v k ⟨⟩ : TProg F L PUnit)
      = (do
        let dl ← ldD L k
        all L (rowP L k v (k0_pay3 dl))
        pure ⟨⟩) := rfl

end Rows

/-! ## What a row becomes -/

theorem mixed_apply (dl : FVec F S16 .f32) (r : Vec F S1x16 .f32) (c : Fin 16) (y : S1x16.Idx) :
    mixed k0_pay21 dl r c y = if (y 1).val = 15 then dl (ix1 c) else r y := by
  have hy : (y 1).val < 16 := (y 1).isLt
  have hy0 : (y 0).val < 1 := (y 0).isLt
  have e1 : (Shape.reshapeEquiv shapeCasts_S16_S1x16 y : S16.Idx) = ix1 (⟨(y 1).val, hy⟩ : Fin 16) := by
    refine Shape.reshapeEquiv_eq_of_rowMajor _ ?_
    rw [Shape.rowMajor_val_one, Shape.rowMajor_val_two]
    show (y 1).val = (y 0).val * 16 + (y 1).val
    omega
  have e2 : (Shape.reshapeEquiv shapeCasts_S1x16_S16 (ix1 (⟨(y 1).val, hy⟩ : Fin 16) : S16.Idx) : S1x16.Idx) = y := by
    refine Shape.reshapeEquiv_eq_of_rowMajor _ ?_
    rw [Shape.rowMajor_val_one, Shape.rowMajor_val_two]
    show (y 0).val * 16 + (y 1).val = (y 1).val
    omega
  have e3 : (extractAt ![0] (extractStridedSlice S1 ![c.val] dl (lane_slices c)) inpos_S1_p0 : F .f32) = dl (ix1 c) :=
    congrArg dl (funext fun a => by match a with | 0 => rfl)
  unfold mixed shapeCast
  rw [e1]
  show Scalar.select (k0_pay21 (ix1 (⟨(y 1).val, hy⟩ : Fin 16))) (extractAt ![0] (extractStridedSlice S1 ![c.val] dl (lane_slices c)) inpos_S1_p0)
    (r (Shape.reshapeEquiv shapeCasts_S1x16_S16 (ix1 (⟨(y 1).val, hy⟩ : Fin 16) : S16.Idx))) = _
  rw [e2, e3]
  have hm : k0_pay21 (ix1 (⟨(y 1).val, hy⟩ : Fin 16)) = if (y 1).val = 15 then 1#1 else 0#1 := by
    have : ∀ l : Fin 16, k0_pay21 (ix1 l) = if l.val = 15 then 1#1 else 0#1 := by decide
    exact this ⟨(y 1).val, hy⟩
  rw [hm]
  by_cases h : (y 1).val = 15
  · rw [if_pos h, if_pos h]; rfl
  · rw [if_neg h, if_neg h]; rfl

/-! ## Running it -/

variable (d : Dev nD) (L : grid0.Coords) (x : Ops F)

theorem row_off (k : Fin k0_t1_loop.trips) (c : Fin 16) : k0_off11 k (BitVec.ofNat 32 c.val) 0 = 16 * k.val + c.val ∧ k0_off11 k (BitVec.ofNat 32 c.val) 1 = 0 :=
  ⟨congrFun (k0_off11_eq k c) 0, congrFun (k0_off11_eq k c) 1⟩

theorem trips98 : k0_t1_loop.trips = 98 := by decide

/-- Row `b` replaced: the rows below `b + 1` are. -/
theorem lnkDone_step (k : Fin k0_t1_loop.trips) (c : Fin 16) (dl : FVec F S16 .f32) (hdl : dl (ix1 c) = x.delay (at2 (wk L) (16 * k.val + c.val))) :
    (b5.access (rowAt k c)).write (Elt F) (lnkDone L x (16 * k.val + c.val))
        (mixed k0_pay21 dl ((b5.access (rowAt k c)).read (Elt F) (lnkDone L x (16 * k.val + c.val))) c) Finset.univ
      = lnkDone L x (16 * k.val + c.val + 1) := by
  obtain ⟨o0, o1⟩ := row_off k c
  funext i
  by_cases hi : i ∈ (rowAt k c).set
  · obtain ⟨y, rfl⟩ := (rowAt k c).exists_idx_of_mem hi
    have hy0 : (y 0).val < 1 := (y 0).isLt
    have e0 : ((rowAt k c).idx y 0).val = 16 * k.val + c.val := by
      show k0_off11 k (BitVec.ofNat 32 c.val) 0 + 1 * (y 0).val = _; omega
    have e1 : ((rowAt k c).idx y 1).val = (y 1).val := by
      show k0_off11 k (BitVec.ofNat 32 c.val) 1 + 1 * (y 1).val = _; omega
    have h := View.write_emb_of_mem (v := b5.access (rowAt k c)) (Val := Elt F) (lnkDone L x (16 * k.val + c.val))
      (mixed k0_pay21 dl ((b5.access (rowAt k c)).read (Elt F) (lnkDone L x (16 * k.val + c.val))) c) (Finset.mem_univ y)
    refine h.trans ?_
    show mixed k0_pay21 dl ((b5.access (rowAt k c)).read (Elt F) (lnkDone L x (16 * k.val + c.val))) c y = _
    rw [mixed_apply, hdl]
    show (if (y 1).val = 15 then _ else lnkDone L x (16 * k.val + c.val) ((rowAt k c).idx y)) = _
    unfold lnkDone
    rw [e0, e1]
    by_cases h15 : (y 1).val = 15
    · rw [if_pos h15, if_pos ⟨by omega, h15⟩]
    · rw [if_neg h15, if_neg (by omega), if_neg (by omega)]
  · rw [View.write_of_not_mem (v := b5.access (rowAt k c)) (Val := Elt F) _ _ _ (by
      rw [View.setOn_univ]; rw [show (b5.access (rowAt k c)).set = (rowAt k c).set from View.set_slice_whole _ _]; exact hi)]
    have hne : (i 0).val ≠ 16 * k.val + c.val := fun h => hi (Rect.mem_set_unit.mpr (Fin.forall_fin_two.mpr
      ⟨⟨by show k0_off11 k (BitVec.ofNat 32 c.val) 0 ≤ (i 0).val; omega, by show (i 0).val < k0_off11 k (BitVec.ofNat 32 c.val) 0 + 1; omega⟩,
       ⟨by show k0_off11 k (BitVec.ofNat 32 c.val) 1 ≤ (i 1).val; omega,
        by show (i 1).val < k0_off11 k (BitVec.ofNat 32 c.val) 1 + 16; have : (i 1).val < 16 := (i 1).isLt; omega⟩⟩))
    unfold lnkDone
    by_cases h : (i 0).val < 16 * k.val + c.val ∧ (i 1).val = 15
    · rw [if_pos h, if_pos ⟨by omega, h.2⟩]
    · rw [if_neg h, if_neg (by omega)]

theorem run_row (k : Fin k0_t1_loop.trips) (c : Fin 16) (dl : FVec F S16 .f32) (hdl : dl (ix1 c) = x.delay (at2 (wk L) (16 * k.val + c.val)))
    {Q : PUnit → sProp 𝕄} :
    (b5.view.loc (th d L) ↦{fullShare} lnkDone L x (16 * k.val + c.val) : sProp 𝕄)
      ⊢ iprop(((b5.view.loc (th d L) ↦{fullShare} lnkDone L x (16 * k.val + c.val + 1)) -∗ Q ⟨⟩) -∗ run d L (rowP L k k0_pay21 dl c) Q) := by
  unfold rowP ldR stR
  iintro H HQ
  iapply (wp_load_rect (defs := defs₀ (F := F)) 𝒱₀ (th d L) none Set.univ (m := b5) (r := rowAt k c) (S := Finset.univ) (Finset.subset_univ _)) $$ H
  iintro H
  iapply (wp_load_rect (defs := defs₀ (F := F)) 𝒱₀ (th d L) none Set.univ (m := b5) (r := rowAt k c) (S := Finset.univ) (Finset.subset_univ _)) $$ H
  iintro H
  iapply (wp_store (defs := defs₀ (F := F)) 𝒱₀ (th d L) none Set.univ (m := b5) (r := rowAt k c) (Mk := Finset.univ) (S := Finset.univ) (Finset.subset_univ _)) $$ H
  iintro H
  rw [wp_ret]
  imodintro
  iapply HQ
  have h := Entails.of_eq (congrArg (fun g => (b5.view.loc (th d L) ↦{fullShare} g : sProp 𝕄)) (lnkDone_step L x k c dl hdl))
  iapply h $$ H

theorem delays_read (k : Fin k0_t1_loop.trips) (c : Fin 16) :
    k0_pay3 ((b10.access (Rect.unit (s := S1568) (k0_off10 k) S16.size (k0_off10_inb k))).read (Elt F) (rowD L x.delay)) (ix1 c)
      = x.delay (at2 (wk L) (16 * k.val + c.val)) := by
  have e : (Shape.reshapeEquiv shapeCasts_S16_S16 (ix1 c : S16.Idx) : S16.Idx) = ix1 c := Shape.reshapeEquiv_eq_of_rowMajor _ rfl
  have o : k0_off10 k 0 = 16 * k.val := congrFun (k0_off10_eq k) 0
  show (b10.access (Rect.unit (s := S1568) (k0_off10 k) S16.size (k0_off10_inb k))).read (Elt F) (rowD L x.delay)
    (Shape.reshapeEquiv shapeCasts_S16_S16 (ix1 c : S16.Idx)) = _
  rw [e]
  show x.delay (at2 (wk L) (k0_off10 k 0 + 1 * c.val)) = _
  rw [o, Nat.one_mul]

theorem run_trip (k : Fin k0_t1_loop.trips) :
    iprop((b10.view.loc (th d L) ↦{fullShare} rowD L x.delay) ∗ (b5.view.loc (th d L) ↦{fullShare} lnkDone L x (16 * k.val)))
      ⊢ run d L (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11 k0_pay21 k ⟨⟩) fun _ =>
          iprop((b10.view.loc (th d L) ↦{fullShare} rowD L x.delay) ∗ (b5.view.loc (th d L) ↦{fullShare} lnkDone L x (16 * (k.val + 1)))) := by
  rw [trip_eq]
  unfold ldD
  iintro ⟨H10, H5⟩
  iapply (wp_load_rect (defs := defs₀ (F := F)) 𝒱₀ (th d L) none Set.univ (m := b10)
    (r := Rect.unit (s := S1568) (k0_off10 k) S16.size (k0_off10_inb k)) (S := Finset.univ) (Finset.subset_univ _)) $$ H10
  iintro H10
  simp only [wp_bind]
  iapply (run_all d L (rowP L k k0_pay21 _) (fun c => iprop(b5.view.loc (th d L) ↦{fullShare} lnkDone L x (16 * k.val + c))) (fun c => by
    iintro H
    iapply (run_row d L x k c _ (delays_read L x k c)) $$ H
    iintro H
    iexact H)) $$ H5
  iintro H5
  isplitl [H10]; · iexact H10
  iexact H5

/-- The loop over the rows of the third row buffer. -/
def loopP : TProg F L PUnit := Scf.Loop.for k0_t1_loop k0_t1_ok ⟨⟩ (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11 k0_pay21)

/-- The loop leaves the delay in the last column of the first 1568 rows. -/
theorem run_loop {Q : PUnit → sProp 𝕄} :
    iprop((b10.view.loc (th d L) ↦{fullShare} rowD L x.delay) ∗ (b5.view.loc (th d L) ↦{fullShare} lnkRows L x))
      ⊢ iprop((iprop((b10.view.loc (th d L) ↦{fullShare} rowD L x.delay) ∗ (b5.view.loc (th d L) ↦{fullShare} lnkDone L x 1568)) -∗ Q ⟨⟩)
          -∗ run d L (loopP L) Q) := by
  have hl : lnkRows L x = lnkDone L x (16 * 0) := by
    funext j; unfold lnkDone; rw [if_neg (by omega)]
  rw [hl]
  iintro H HQ
  unfold loopP
  iapply (Scf.wp_for frame (wpE (defs₀ (F := F)) 𝒱₀ (th d L) none) Set.univ k0_t1_loop.lb k0_t1_loop.ub k0_t1_loop.st k0_t1_ok ⟨⟩ _
    (fun k _ => iprop((b10.view.loc (th d L) ↦{fullShare} rowD L x.delay) ∗ (b5.view.loc (th d L) ↦{fullShare} lnkDone L x (16 * k)))) (fun k _ => run_trip d L x k))
  · isplitl [H]; · iexact H
    iintro %acc H
    iapply HQ
    iexact H

end Cert.Proof.Tile

end
-- ==== Proof.Whole.lean ====
/- The tile's whole program as its steps, one after another. -/
module

public import proofs.«01_k».proof.Proof.Loop

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

set_option maxRecDepth 65536 in
set_option maxHeartbeats 4000000 in
theorem body_eq (L : grid0.Coords) :
    (cc0__body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11 : TProg F L PUnit)
      = (do
        enq L (inS2 L) b6 cc0_scoped0.sem (View.wordExact_bits rfl) (View.wordExact_bits rfl) ⟨Or.inl rfl, trivial⟩
        wai L (inS2 L) b6 cc0_scoped0.sem (View.wordExact_bits rfl) (View.wordExact_bits rfl)
        enq L (inS3 L) b7 cc0_scoped1.sem (View.wordExact_bits rfl) (View.wordExact_bits rfl) ⟨Or.inl rfl, trivial⟩
        wai L (inS3 L) b7 cc0_scoped1.sem (View.wordExact_bits rfl) (View.wordExact_bits rfl)
        enq L (inS4 L) b0 cc0_scoped2.sem (View.wordExact_bits rfl) (View.wordExact_bits rfl) ⟨Or.inl rfl, trivial⟩
        wai L (inS4 L) b0 cc0_scoped2.sem (View.wordExact_bits rfl) (View.wordExact_bits rfl)
        enq L (inS5 L) b1 cc0_scoped3.sem (View.wordExact_bits rfl) (View.wordExact_bits rfl) ⟨Or.inl rfl, trivial⟩
        wai L (inS5 L) b1 cc0_scoped3.sem (View.wordExact_bits rfl) (View.wordExact_bits rfl)
        enq L (inS7 L) b2 cc0_scoped4.sem (View.wordExact_bits rfl) (View.wordExact_bits rfl) ⟨Or.inl rfl, trivial⟩
        wai L (inS7 L) b2 cc0_scoped4.sem (View.wordExact_bits rfl) (View.wordExact_bits rfl)
        gWt L
        gDrv L
        all L (fun k : Fin 13 => gSeg L k >>= fun _ => gTiny L k)
        all L (fun k : Fin 13 => gLnk L k)
        enq L (inS6 L) (outC L) cc0_scoped5.sem (View.wordExact_bits rfl) (View.wordExact_bits rfl) ⟨Or.inl rfl, trivial⟩
        wai L (inS6 L) (outC L) cc0_scoped5.sem (View.wordExact_bits rfl) (View.wordExact_bits rfl)
        enq L (inS8 L) b10 cc0_scoped6.sem (View.wordExact_bits rfl) (View.wordExact_bits rfl) ⟨Or.inl rfl, trivial⟩
        wai L (inS8 L) b10 cc0_scoped6.sem (View.wordExact_bits rfl) (View.wordExact_bits rfl)
        wWt L
        enq L fromWt (outA L) cc0_scoped7.sem (View.wordExact_bits rfl) (View.wordExact_bits rfl) ⟨Or.inl rfl, trivial⟩
        wai L fromWt (outA L) cc0_scoped7.sem (View.wordExact_bits rfl) (View.wordExact_bits rfl)
        wDrv L
        enq L b9 (outB L) cc0_scoped8.sem (View.wordExact_bits rfl) (View.wordExact_bits rfl) ⟨Or.inl rfl, trivial⟩
        wai L b9 (outB L) cc0_scoped8.sem (View.wordExact_bits rfl) (View.wordExact_bits rfl)
        all L (fun k : Fin 13 => wSeg L k)
        enq L fromSeg (outS L) cc0_scoped9.sem (View.wordExact_bits rfl) (View.wordExact_bits rfl) ⟨Or.inl rfl, trivial⟩
        wai L fromSeg (outS L) cc0_scoped9.sem (View.wordExact_bits rfl) (View.wordExact_bits rfl)
        all L (fun k : Fin 13 => wTiny L k)
        enq L fromTiny (outT L) cc0_scoped10.sem (View.wordExact_bits rfl) (View.wordExact_bits rfl) ⟨Or.inl rfl, trivial⟩
        wai L fromTiny (outT L) cc0_scoped10.sem (View.wordExact_bits rfl) (View.wordExact_bits rfl)
        all L (fun k : Fin 13 => wLnk L k)
        loopP L
        enq L fromLnk (outL L) cc0_scoped11.sem (View.wordExact_bits rfl) (View.wordExact_bits rfl) ⟨Or.inl rfl, trivial⟩
        wai L fromLnk (outL L) cc0_scoped11.sem (View.wordExact_bits rfl) (View.wordExact_bits rfl)
        pure ⟨⟩) := rfl

end Cert.Proof.Tile

end
-- ==== Proof.Tile.lean ====
/- A tile's run: from what it is handed, its scratch buffers and its semaphores, to what it brings back. -/
module

public import proofs.«01_k».proof.Proof.Whole

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (d : Dev nD) (L : grid0.Coords) (O : CellTallies nD τ sig (HIx 1)) (W : Waits sig (HIx 1))

/-! ## The gathers of a group, all started, and all waited for -/

section
variable {q : PosShare TreeShare}

theorem run_issueBoth {fs fr fl hl fs' fr' fl' hl'} {Q : PUnit → sProp 𝕄} :
    iprop((segB d L fs fr fl q hl).Issued countersEmb (default : HIx 1) cr 0 ∗ (tinyB d L fs' fr' fl' q hl').Issued countersEmb (default : HIx 1) cr 0)
      ⊢ iprop((iprop((segB d L fs fr fl q hl).Issued countersEmb (default : HIx 1) cr 13 ∗ (tinyB d L fs' fr' fl' q hl').Issued countersEmb (default : HIx 1) cr 13) -∗ Q ⟨⟩)
          -∗ run d L (all L (fun k : Fin 13 => gSeg L k >>= fun _ => gTiny L k)) Q) :=
  run_all d L _ (fun n => iprop((segB d L fs fr fl q hl).Issued countersEmb (default : HIx 1) cr n ∗ (tinyB d L fs' fr' fl' q hl').Issued countersEmb (default : HIx 1) cr n))
    (fun k => by
      simp only [wp_bind]
      iintro ⟨H, H'⟩
      iapply (run_gSeg d L k) $$ H
      iintro H
      iapply (run_gTiny d L k) $$ H'
      iintro H'
      isplitl [H] <;> iassumption)

theorem run_issueLnk {fs fr fl hl} {Q : PUnit → sProp 𝕄} :
    ((lnkB d L fs fr fl q hl).Issued countersEmb (default : HIx 1) cr 0 : sProp 𝕄)
      ⊢ iprop(((lnkB d L fs fr fl q hl).Issued countersEmb (default : HIx 1) cr 13 -∗ Q ⟨⟩) -∗ run d L (all L (fun k : Fin 13 => gLnk L k)) Q) :=
  run_all d L _ (fun n => (lnkB d L fs fr fl q hl).Issued countersEmb (default : HIx 1) cr n)
    (fun k => by
      iintro H
      iapply (run_gLnk d L k) $$ H
      iintro H
      iexact H)

theorem run_waitSeg {fs fr fl hl} {Q : PUnit → sProp 𝕄} :
    iprop((segB d L fs fr fl q hl).Waited countersEmb (default : HIx 1) cr 0 ∗ Now d L O W)
      ⊢ iprop((iprop((segB d L fs fr fl q hl).Waited countersEmb (default : HIx 1) cr 13 ∗ Now d L O W) -∗ Q ⟨⟩) -∗ run d L (all L (fun k : Fin 13 => wSeg L k)) Q) :=
  run_all d L _ (fun n => iprop((segB d L fs fr fl q hl).Waited countersEmb (default : HIx 1) cr n ∗ Now d L O W))
    (fun k => by
      iintro H
      iapply (run_wSeg d L O W k) $$ H
      iintro H
      iexact H)

theorem run_waitTiny {fs fr fl hl} {Q : PUnit → sProp 𝕄} :
    iprop((tinyB d L fs fr fl q hl).Waited countersEmb (default : HIx 1) cr 0 ∗ Now d L O W)
      ⊢ iprop((iprop((tinyB d L fs fr fl q hl).Waited countersEmb (default : HIx 1) cr 13 ∗ Now d L O W) -∗ Q ⟨⟩) -∗ run d L (all L (fun k : Fin 13 => wTiny L k)) Q) :=
  run_all d L _ (fun n => iprop((tinyB d L fs fr fl q hl).Waited countersEmb (default : HIx 1) cr n ∗ Now d L O W))
    (fun k => by
      iintro H
      iapply (run_wTiny d L O W k) $$ H
      iintro H
      iexact H)

theorem run_waitLnk {fs fr fl hl} {Q : PUnit → sProp 𝕄} :
    iprop((lnkB d L fs fr fl q hl).Waited countersEmb (default : HIx 1) cr 0 ∗ Now d L O W)
      ⊢ iprop((iprop((lnkB d L fs fr fl q hl).Waited countersEmb (default : HIx 1) cr 13 ∗ Now d L O W) -∗ Q ⟨⟩) -∗ run d L (all L (fun k : Fin 13 => wLnk L k)) Q) :=
  run_all d L _ (fun n => iprop((lnkB d L fs fr fl q hl).Waited countersEmb (default : HIx 1) cr n ∗ Now d L O W))
    (fun k => by
      iintro H
      iapply (run_wLnk d L O W k) $$ H
      iintro H
      iexact H)

end

/-- The scratch buffers, at some contents; the semaphores, at zero. -/
def bufs : sProp 𝕄 :=
  iprop((∃ f, (b0.view.loc (th d L)) ↦{fullShare} f) ∗ (∃ f, (b1.view.loc (th d L)) ↦{fullShare} f) ∗ (∃ f, (b2.view.loc (th d L)) ↦{fullShare} f) ∗ (∃ f, (b3.view.loc (th d L)) ↦{fullShare} f) ∗ (∃ f, (b4.view.loc (th d L)) ↦{fullShare} f) ∗ (∃ f, (b5.view.loc (th d L)) ↦{fullShare} f) ∗ (∃ f, (b6.view.loc (th d L)) ↦{fullShare} f) ∗ (∃ f, (b7.view.loc (th d L)) ↦{fullShare} f) ∗ (∃ f, (b8.view.loc (th d L)) ↦{fullShare} f) ∗ (∃ f, (b9.view.loc (th d L)) ↦{fullShare} f) ∗ (∃ f, (b10.view.loc (th d L)) ↦{fullShare} f))
def sems : sProp 𝕄 :=
  iprop(semVal (th d L, .dma cc0_scratch11.sem) 0 ∗ semVal (th d L, .dma cc0_scratch12.sem) 0 ∗ semVal (th d L, .dma cc0_scratch13.sem) 0 ∗ semVal (th d L, .dma cc0_scratch14.sem) 0 ∗ semVal (th d L, .dma cc0_scratch15.sem) 0 ∗ semVal (th d L, .dma cc0_scoped0.sem) 0 ∗ semVal (th d L, .dma cc0_scoped1.sem) 0 ∗ semVal (th d L, .dma cc0_scoped2.sem) 0 ∗ semVal (th d L, .dma cc0_scoped3.sem) 0 ∗ semVal (th d L, .dma cc0_scoped4.sem) 0 ∗ semVal (th d L, .dma cc0_scoped5.sem) 0 ∗ semVal (th d L, .dma cc0_scoped6.sem) 0 ∗ semVal (th d L, .dma cc0_scoped7.sem) 0 ∗ semVal (th d L, .dma cc0_scoped8.sem) 0 ∗ semVal (th d L, .dma cc0_scoped9.sem) 0 ∗ semVal (th d L, .dma cc0_scoped10.sem) 0 ∗ semVal (th d L, .dma cc0_scoped11.sem) 0)

variable (m : (ℓ : Loc nD τ sig) → Buf (Elt F) ℓ) (X : Dev nD → Ops F)

set_option maxHeartbeats 4000000 in
theorem tile_run (hX : InRange (X d)) :
    iprop(handed m X d L ∗ bufs d L ∗ sems d L ∗ Now d L O W)
      ⊢ run d L (cc0__body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11) fun _ => iprop(returned X d L ∗ bufs d L ∗ sems d L ∗ Now d L O W) := by
  have hlseg : ∀ y, (plane L (X d).seg y : BitVec 32).toNat < 1376567 := fun y => hX.seg _
  have hltiny : ∀ y, (plane L (X d).tiny y : BitVec 32).toNat < 3024 := fun y => hX.tiny _
  have hllnk : ∀ y, (plane L (X d).cross y : BitVec 32).toNat < 101009 := fun y => hX.cross _
  have hlwt : ∀ y, (row32 L (X d).wtidx y : BitVec 32).toNat < 2312 := fun y => hX.wtidx _
  have hldrv : ∀ y, (row32 L (X d).didx y : BitVec 32).toNat < 200141 := fun y => hX.didx _
  rw [body_eq]
  simp only [wp_bind]
  unfold handed returned reads outs bufs sems
  iintro ⟨⟨⟨R2, R3, R4, R5, R6, R7, R8, R9, R10, R11, R12, R13⟩, OA, OB, OS, OT, OC, OL⟩,
    ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩⟩,
    ⟨D11, D12, D13, D14, D15, C0, C1, C2, C3, C4, C5, C6, C7, C8, C9, C10, C11⟩, N⟩
  iapply (run_in2 d L O W) $$ [R2 B6 C0 N]
  · isplitl [R2]; · iexact R2
    isplitl [B6]; · iexact B6
    isplitl [C0] <;> iassumption
  iintro ⟨R2, B6, C0, N⟩
  iapply (run_in3 d L O W) $$ [R3 B7 C1 N]
  · isplitl [R3]; · iexact R3
    isplitl [B7]; · iexact B7
    isplitl [C1] <;> iassumption
  iintro ⟨R3, B7, C1, N⟩
  iapply (run_in4 d L O W) $$ [R4 B0 C2 N]
  · isplitl [R4]; · iexact R4
    isplitl [B0]; · iexact B0
    isplitl [C2] <;> iassumption
  iintro ⟨R4, B0, C2, N⟩
  iapply (run_in5 d L O W) $$ [R5 B1 C3 N]
  · isplitl [R5]; · iexact R5
    isplitl [B1]; · iexact B1
    isplitl [C3] <;> iassumption
  iintro ⟨R5, B1, C3, N⟩
  iapply (run_in7 d L O W) $$ [R7 B2 C4 N]
  · isplitl [R7]; · iexact R7
    isplitl [B2]; · iexact B2
    isplitl [C4] <;> iassumption
  iintro ⟨R7, B2, C4, N⟩
  imod (wt_start d L hlwt) $$ [R9 B8 B6 D11] with Gwt
  · isplitl [R9]; · iexact R9
    isplitl [B8]; · iexact B8
    isplitl [B6] <;> iassumption
  iapply (run_gWt d L) $$ Gwt
  iintro Gwt
  imod (drv_start d L hldrv) $$ [R10 B9 B7 D12] with Gdrv
  · isplitl [R10]; · iexact R10
    isplitl [B9]; · iexact B9
    isplitl [B7] <;> iassumption
  iapply (run_gDrv d L) $$ Gdrv
  iintro Gdrv
  imod (seg_start d L hlseg) $$ [R11 B3 B0 D13] with Gseg
  · isplitl [R11]; · iexact R11
    isplitl [B3]; · iexact B3
    isplitl [B0] <;> iassumption
  imod (tiny_start d L hltiny) $$ [R12 B4 B1 D14] with Gtiny
  · isplitl [R12]; · iexact R12
    isplitl [B4]; · iexact B4
    isplitl [B1] <;> iassumption
  iapply (run_issueBoth d L) $$ [Gseg Gtiny]
  · isplitl [Gseg] <;> iassumption
  iintro ⟨Gseg, Gtiny⟩
  imod (lnk_start d L hllnk) $$ [R13 B5 B2 D15] with Glnk
  · isplitl [R13]; · iexact R13
    isplitl [B5]; · iexact B5
    isplitl [B2] <;> iassumption
  iapply (run_issueLnk d L) $$ Glnk
  iintro Glnk
  ihave Gwt := ((wtB d L (X d).wt f8 (row32 L (X d).wtidx) (tq L) hlwt).issued_all countersEmb (default : HIx 1) cr) $$ Gwt
  ihave Gdrv := ((drvB d L (X d).drv f9 (row32 L (X d).didx) (tq L) hldrv).issued_all countersEmb (default : HIx 1) cr) $$ Gdrv
  ihave Gseg := ((segB d L (X d).wseg f3 (plane L (X d).seg) (tq L) hlseg).issued_all countersEmb (default : HIx 1) cr) $$ Gseg
  ihave Gtiny := ((tinyB d L (X d).tt f4 (plane L (X d).tiny) (tq L) hltiny).issued_all countersEmb (default : HIx 1) cr) $$ Gtiny
  ihave Glnk := ((lnkB d L (X d).wcr f5 (plane L (X d).cross) (tq L) hllnk).issued_all countersEmb (default : HIx 1) cr) $$ Glnk
  iapply (run_outC d L O W (X d)) $$ [R6 OC C5 N]
  · isplitl [R6]; · iexact R6
    isplitl [OC]; · iexact OC
    isplitl [C5] <;> iassumption
  iintro ⟨R6, OC, C5, N⟩
  iapply (run_in8 d L O W) $$ [R8 B10 C6 N]
  · isplitl [R8]; · iexact R8
    isplitl [B10]; · iexact B10
    isplitl [C6] <;> iassumption
  iintro ⟨R8, B10, C6, N⟩
  iapply (run_wWt d L O W) $$ [Gwt N]
  · isplitl [Gwt] <;> iassumption
  iintro ⟨Gwt, N⟩
  imod (wt_end d L hlwt) $$ Gwt with ⟨R9, B8, B6, D11⟩
  iapply (run_outA d L O W (X d)) $$ [B8 OA C7 N]
  · isplitl [B8]; · iexact B8
    isplitl [OA]; · iexact OA
    isplitl [C7] <;> iassumption
  iintro ⟨B8, OA, C7, N⟩
  iapply (run_wDrv d L O W) $$ [Gdrv N]
  · isplitl [Gdrv] <;> iassumption
  iintro ⟨Gdrv, N⟩
  imod (drv_end d L hldrv) $$ Gdrv with ⟨R10, B9, B7, D12⟩
  iapply (run_outB d L O W (X d)) $$ [B9 OB C8 N]
  · isplitl [B9]; · iexact B9
    isplitl [OB]; · iexact OB
    isplitl [C8] <;> iassumption
  iintro ⟨B9, OB, C8, N⟩
  iapply (run_waitSeg d L O W) $$ [Gseg N]
  · isplitl [Gseg] <;> iassumption
  iintro ⟨Gseg, N⟩
  imod (seg_end d L hlseg) $$ Gseg with ⟨R11, B3, B0, D13⟩
  iapply (run_outS d L O W (X d)) $$ [B3 OS C9 N]
  · isplitl [B3]; · iexact B3
    isplitl [OS]; · iexact OS
    isplitl [C9] <;> iassumption
  iintro ⟨B3, OS, C9, N⟩
  iapply (run_waitTiny d L O W) $$ [Gtiny N]
  · isplitl [Gtiny] <;> iassumption
  iintro ⟨Gtiny, N⟩
  imod (tiny_end d L hltiny) $$ Gtiny with ⟨R12, B4, B1, D14⟩
  iapply (run_outT d L O W (X d)) $$ [B4 OT C10 N]
  · isplitl [B4]; · iexact B4
    isplitl [OT]; · iexact OT
    isplitl [C10] <;> iassumption
  iintro ⟨B4, OT, C10, N⟩
  iapply (run_waitLnk d L O W) $$ [Glnk N]
  · isplitl [Glnk] <;> iassumption
  iintro ⟨Glnk, N⟩
  imod (lnk_end d L hllnk) $$ Glnk with ⟨R13, B5, B2, D15⟩
  iapply (run_loop d L (X d)) $$ [B10 B5]
  · isplitl [B10]; · iexact B10
    iexact B5
  iintro ⟨B10, B5⟩
  iapply (run_outL d L O W (X d)) $$ [B5 OL C11 N]
  · isplitl [B5]; · iexact B5
    isplitl [OL]; · iexact OL
    isplitl [C11] <;> iassumption
  iintro ⟨B5, OL, C11, N⟩
  rw [wp_pure]
  imodintro
  isplitl [R2 R3 R4 R5 R6 R7 R8 R9 R10 R11 R12 R13 OA OB OS OT OC OL]
  · isplitl [R2 R3 R4 R5 R6 R7 R8 R9 R10 R11 R12 R13]
    · isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      iexact R13
    isplitl [OA]; · iexact OA
    isplitl [OB]; · iexact OB
    isplitl [OS]; · iexact OS
    isplitl [OT]; · iexact OT
    isplitl [OC]; · iexact OC
    iexact OL
  isplitl [B0 B1 B2 B3 B4 B5 B6 B7 B8 B9 B10]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    iexists _; iexact B10
  isplitl [D11 D12 D13 D14 D15 C0 C1 C2 C3 C4 C5 C6 C7 C8 C9 C10 C11]
  · isplitl [D11]; · iexact D11
    isplitl [D12]; · iexact D12
    isplitl [D13]; · iexact D13
    isplitl [D14]; · iexact D14
    isplitl [D15]; · iexact D15
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  iexact N

end Cert.Proof.Tile

end
-- ==== Proof.Obl.lean ====
/- What the launch asks of a tile: its run, with its own buffers and semaphores given and taken back. -/
module

public import proofs.«01_k».proof.Proof.Tile

@[expose] public section

noncomputable section

namespace Cert.Proof.Tile

open Cert.KernelIdeal Cert.KernelIdeal.Gen
open Cert.GatherBatch (Dat)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (m : (ℓ : Loc nD τ sig) → Buf (Elt F) ℓ) (X : Dev nD → Ops F)

theorem tile_body (d : Dev nD) (L : grid0.Coords) (hX : InRange (X d)) (O : CellTallies nD τ sig (HIx 1)) (W : Waits sig (HIx 1))
    (hO : ∀ g, O g none = 0) :
    iprop(levAts (K (F := F)).L (K (F := F)).lev ∗ emp ∗ handed m X d L ∗ scopedBufs (th d L) ∗ scopedSems0 (th d L) ∗ owes (th d L) O W)
      ⊢ run d L (cc0__body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11)
          fun _ => iprop(returned X d L ∗ scopedBufs (th d L) ∗ scopedSems0 (th d L)
            ∗ ∃ W', ⌜∀ p ∈ W', p ∈ W ∨ p.2 = none ∨ p.2 = some (0 : Fin 1)⌝ ∗ owes (th d L) O W') := by
  rw [(K (F := F)).scopedBufs_V facts d (cV L) (jV L), SparseCore.Cfg.scopedSems0_V (Val := Elt F) d (cV L) (jV L), ownSems0_V, ownBufs_V]
  have hrun := tile_run d L O W m X hX
  unfold bufs sems Now at hrun
  iintro ⟨#Hlv, -, Hh, ⟨Hb, Hbr⟩, ⟨Hs, Hsr⟩, HO⟩
  ihave Hmw := (show levAts (K (F := F)).L (K (F := F)).lev ⊢ Transfers.MayWaits (th d L) (default : HIx 1) O from
    (K (F := F)).mayWaits_none (thr := th d L) hO) $$ Hlv
  iapply wp_wand_r
  isplitl [Hh Hb Hs HO]
  · iapply hrun
    isplitl [Hh]; · iexact Hh
    isplitl [Hb]; · iexact Hb
    isplitl [Hs]; · iexact Hs
    isplitr; · iexact Hmw
    iexists W
    isplitr
    · ipureintro; exact fun p hp => .inl hp
    · iexact HO
  iintro %u ⟨Hh, Hb, Hs, -, %W', %hW', HO⟩
  isplitl [Hh]; · iexact Hh
  isplitl [Hb Hbr]
  · isplitl [Hb]; · iexact Hb
    iexact Hbr
  isplitl [Hs Hsr]
  · isplitl [Hs]; · iexact Hs
    iexact Hsr
  iexists W'
  isplitr
  · ipureintro; exact fun p hp => (hW' p hp).imp_right .inl
  · iexact HO

/-- What a subcore runs under the call. -/
theorem defs₀_vector (c : Fin τ.nSC) (s : Fin τ.nSub) :
    defs₀ (F := F) (.scVector c s) 0 ()
      = SparseCore.onTile hcore0 hsub0 (fun c s => cc0__body (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) cc0_scratch11 cc0_scratch12 cc0_scratch13 cc0_scratch14 cc0_scratch15 cc0_scoped0 cc0_scoped1 cc0_scoped2 cc0_scoped3 cc0_scoped4 cc0_scoped5 cc0_scoped6 cc0_scoped7 cc0_scoped8 cc0_scoped9 cc0_scoped10 cc0_scoped11) ⟨⟩ c s := rfl

set_option maxRecDepth 16384 in
theorem tileObl (hX : ∀ d, InRange (X d)) : (K (F := F)).TileObl (D (F := F)) 𝒱 (P m X) v₀ 0 := by
  intro d c i O W hO _ _
  simp only [show (P m X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (coordsV ⟨_, hci.1⟩ ⟨_, hci.2⟩) (hX d) O W hO

end Cert.Proof.Tile

end
-- ==== Proof.Launch.lean ====
/- The program's run: from a memory whose row lists are in range, every interleaving ends with the arguments as they were,
the three results at their values, and every semaphore at zero. -/
module

public import proofs.«01_k».proof.Proof.HostVals
public import proofs.«01_k».proof.Proof.Shares
public import proofs.«01_k».proof.Proof.Obl

@[expose] public section

noncomputable section

namespace Cert.Proof.Launch

open Cert.KernelIdeal Cert.KernelIdeal.Gen Cert.Proof.Tile Cert.Proof.Host

open Idealize.ShloMosaic Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operands of the call, and the arrays after it -/

/-- The twelve operands as the host program makes them of the arguments. -/
def opsOf (V : Valuation τ sig (Elt F)) : Ops F where
  wtidx := wtList (V (Proc.devRef .tc main_arg0)) (V (Proc.devRef .tc main_arg1))
  didx := drvList (V (Proc.devRef .tc main_arg2))
  seg := segList (V (Proc.devRef .tc main_arg3))
  tiny := segList (tinyRow (V (Proc.devRef .tc main_arg4)) (V (Proc.devRef .tc main_arg5)) (V (Proc.devRef .tc main_arg6)) (V (Proc.devRef .tc main_arg7)))
  cont := contTab (V (Proc.devRef .tc main_arg8)) (V (Proc.devRef .tc main_arg9)) (V (Proc.devRef .tc main_arg10)) (V (Proc.devRef .tc main_arg11))
  cross := crossList (V (Proc.devRef .tc main_arg12))
  delay := delayTab (V (Proc.devRef .tc main_arg13))
  wt := wtTab (V (Proc.devRef .tc main_arg14)) (V (Proc.devRef .tc main_arg15))
  drv := drvTab (V (Proc.devRef .tc main_arg16))
  wseg := wsegTab (V (Proc.devRef .tc main_arg17))
  tt := ttTab (V (Proc.devRef .tc main_arg18)) (V (Proc.devRef .tc main_arg19)) (V (Proc.devRef .tc main_arg20)) (V (Proc.devRef .tc main_arg21))
  wcr := wcrTab (V (Proc.devRef .tc main_arg22))

abbrev rE : DevRef τ sig := Proc.devRef .tc main_v57_0
abbrev rS : DevRef τ sig := Proc.devRef .tc main_v57_1
abbrev rL : DevRef τ sig := Proc.devRef .tc main_v57_2

/-- The arrays after the call. -/
def mid (V : Valuation τ sig (Elt F)) : Valuation τ sig (Elt F) :=
  Function.update (Function.update (Function.update (pre V) rE (opsOf V).ext) rS (opsOf V).sgo) rL (opsOf V).lnk

theorem mid_E (V : Valuation τ sig (Elt F)) : mid V rE = (opsOf V).ext := by
  unfold mid
  rw [Function.update_of_ne (show rE ≠ rL by decide), Function.update_of_ne (show rE ≠ rS by decide), Function.update_self]
theorem mid_S (V : Valuation τ sig (Elt F)) : mid V rS = (opsOf V).sgo := by
  unfold mid
  rw [Function.update_of_ne (show rS ≠ rL by decide), Function.update_self]
theorem mid_L (V : Valuation τ sig (Elt F)) : mid V rL = (opsOf V).lnk := by
  unfold mid
  rw [Function.update_self]
theorem mid_of_ne (V : Valuation τ sig (Elt F)) {b : DevRef τ sig} (h : b ≠ rE) (h' : b ≠ rS) (h'' : b ≠ rL) : mid V b = pre V b := by
  unfold mid
  rw [Function.update_of_ne h'', Function.update_of_ne h', Function.update_of_ne h]

/-- The arrays at the end. -/
def fin (V : Valuation τ sig (Elt F)) : Valuation τ sig (Elt F) := after opsPost (mid V)

theorem fin_v57 (V : Valuation τ sig (Elt F)) : fin V rE = (opsOf V).ext := by
  refine (show after opsPost (mid V) rE = mid V rE from ?_).trans (mid_E V)
  exact after_of_writes_sub opsPost _ (forall_writes_sub_of_map (W := [main_v58, main_v59]) rfl) (by decide)
theorem fin_v58 (V : Valuation τ sig (Elt F)) : fin V (Proc.devRef .tc main_v58) = shapeCast S1024x50x28 (opsOf V).sgo shapeCasts_S51200x28_S1024x50x28 := by
  rw [← mid_S V]
  unfold fin opsPost
  after_reads_simp
  rfl
theorem fin_v59 (V : Valuation τ sig (Elt F)) : fin V (Proc.devRef .tc main_v59) = shapeCast S1024x49x16 (opsOf V).lnk shapeCasts_S50176x16_S1024x49x16 := by
  rw [← mid_L V]
  unfold fin opsPost
  after_reads_simp
  rfl

/-- An array no operation writes is at the end as it was at the start. -/
theorem fin_keep (V : Valuation τ sig (Elt F)) {r : Ref sig .tc} (h : r ∉ writesTab ++ writesCont ++ [main_v57_0, main_v57_1, main_v57_2, main_v58, main_v59]) :
    fin V (Proc.devRef .tc r) = V (Proc.devRef .tc r) := by
  simp only [List.mem_append, not_or] at h
  have hne : ∀ r' ∈ [main_v57_0, main_v57_1, main_v57_2, main_v58, main_v59], (Proc.devRef .tc r : DevRef τ sig) ≠ Proc.devRef .tc r' :=
    fun r' hr' e => h.2 (Proc.devRef_injective _ e ▸ hr')
  refine (after_of_writes_sub opsPost (mid V) (forall_writes_sub_of_map (W := [main_v58, main_v59]) rfl) fun hr => ?_).trans
    ((mid_of_ne V (hne _ (by simp)) (hne _ (by simp)) (hne _ (by simp))).trans (pre_keep V h.1.1 h.1.2))
  have h2 := h.2
  simp only [List.mem_cons, List.not_mem_nil, or_false, not_or] at h2 hr
  rcases hr with e | e
  · exact h2.2.2.2.1 e
  · exact h2.2.2.2.2 e

/-! ## The fifteen arrays of the call among all -/

/-- The arrays of the call: the twelve it reads and the three it writes. -/
def cref : Fin 15 → Ref sig .tc :=
  ![main_v27, main_v37, main_v41, main_v45, main_v55, main_v49, main_v56, main_v21, main_v4, main_v2, main_v22, main_v23, main_v57_0, main_v57_1, main_v57_2]
theorem cref_inj : Function.Injective cref := by decide
def crefs : Fin 15 ↪ DevRef τ sig := ⟨fun k => Proc.devRef .tc (cref k), fun _ _ h => cref_inj (Proc.devRef_injective _ h)⟩

theorem bigSep_fifteen (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  simp only [bigSep_univ_succ, BI.bigSep_univ_of_subsingleton (0 : Fin 1)]
  rfl

/-- The other arrays. -/
def others (d : Dev nD) (V : Valuation τ sig (Elt F)) : sProp 𝕄 :=
  bigSep (tcRefs τ sig \ Finset.univ.map crefs) fun b => ((d, b) : Loc nD τ sig) ↦{fullShare} V b

theorem regroup (A0 A1 A2 A3 A4 A5 A6 A7 A8 A9 A10 A11 A12 A13 A14 R : sProp 𝕄) :
    iprop((A0 ∗ A1 ∗ A2 ∗ A3 ∗ A4 ∗ A5 ∗ A6 ∗ A7 ∗ A8 ∗ A9 ∗ A10 ∗ A11 ∗ A12 ∗ A13 ∗ A14) ∗ R) ⊣⊢ iprop(((A0 ∗ A1 ∗ A2 ∗ A3 ∗ A4 ∗ A5 ∗ A6 ∗ A7 ∗ A8 ∗ A9 ∗ A10 ∗ A11) ∗ (A12 ∗ A13 ∗ A14)) ∗ R) := by
  refine ⟨?_, ?_⟩
  · show (_ : sProp 𝕄) ⊢ _
    iintro ⟨⟨A0, A1, A2, A3, A4, A5, A6, A7, A8, A9, A10, A11, A12, A13, A14⟩, R⟩
    isplitr [R]
    · isplitr [A12 A13 A14]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      · isplitl [A12]; · iexact A12
        isplitl [A13]; · iexact A13
        iexact A14
    iexact R
  · show (_ : sProp 𝕄) ⊢ _
    iintro ⟨⟨⟨A0, A1, A2, A3, A4, A5, A6, A7, A8, A9, A10, A11⟩, A12, A13, A14⟩, R⟩
    isplitr [R]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      iexact A14
    iexact R

/-- All arrays are the twelve, the three and the others. -/
theorem held_parts (d : Dev nD) (V : Valuation τ sig (Elt F)) (x : Dev nD → Ops F)
    (h0 : V (Proc.devRef .tc main_v27) = (x d).wtidx) (h1 : V (Proc.devRef .tc main_v37) = (x d).didx) (h2 : V (Proc.devRef .tc main_v41) = (x d).seg)
    (h3 : V (Proc.devRef .tc main_v45) = (x d).tiny) (h4 : V (Proc.devRef .tc main_v55) = (x d).cont) (h5 : V (Proc.devRef .tc main_v49) = (x d).cross)
    (h6 : V (Proc.devRef .tc main_v56) = (x d).delay) (h7 : V (Proc.devRef .tc main_v21) = (x d).wt) (h8 : V (Proc.devRef .tc main_v4) = (x d).drv)
    (h9 : V (Proc.devRef .tc main_v2) = (x d).wseg) (h10 : V (Proc.devRef .tc main_v22) = (x d).tt) (h11 : V (Proc.devRef .tc main_v23) = (x d).wcr) :
    (held (T d) (tcRefs τ sig) V : sProp 𝕄) ⊣⊢ iprop((reads x d fullShare ∗ outsAll d (V rE) (V rS) (V rL)) ∗ others d V) := by
  have hs : (held (T d) (tcRefs τ sig) V : sProp 𝕄) = iprop(bigSep Finset.univ (fun k => ((d, crefs k) : Loc nD τ sig) ↦{fullShare} V (crefs k)) ∗ others d V) :=
    bigSep_family crefs _ (fun k => by unfold tcRefs; exact Finset.mem_map.mpr ⟨cref k, Finset.mem_univ _, rfl⟩) _
  have e0 : ((((d, crefs 0) : Loc nD τ sig) ↦{fullShare} V (crefs 0)) : sProp 𝕄) = (wtidxLoc d ↦{fullShare} (x d).wtidx) := congrArg (fun f => ((wtidxLoc d ↦{fullShare} f) : sProp 𝕄)) h0
  have e1 : ((((d, crefs 1) : Loc nD τ sig) ↦{fullShare} V (crefs 1)) : sProp 𝕄) = (didxLoc d ↦{fullShare} (x d).didx) := congrArg (fun f => ((didxLoc d ↦{fullShare} f) : sProp 𝕄)) h1
  have e2 : ((((d, crefs 2) : Loc nD τ sig) ↦{fullShare} V (crefs 2)) : sProp 𝕄) = (segLoc d ↦{fullShare} (x d).seg) := congrArg (fun f => ((segLoc d ↦{fullShare} f) : sProp 𝕄)) h2
  have e3 : ((((d, crefs 3) : Loc nD τ sig) ↦{fullShare} V (crefs 3)) : sProp 𝕄) = (tinyLoc d ↦{fullShare} (x d).tiny) := congrArg (fun f => ((tinyLoc d ↦{fullShare} f) : sProp 𝕄)) h3
  have e4 : ((((d, crefs 4) : Loc nD τ sig) ↦{fullShare} V (crefs 4)) : sProp 𝕄) = (contLoc d ↦{fullShare} (x d).cont) := congrArg (fun f => ((contLoc d ↦{fullShare} f) : sProp 𝕄)) h4
  have e5 : ((((d, crefs 5) : Loc nD τ sig) ↦{fullShare} V (crefs 5)) : sProp 𝕄) = (crossLoc d ↦{fullShare} (x d).cross) := congrArg (fun f => ((crossLoc d ↦{fullShare} f) : sProp 𝕄)) h5
  have e6 : ((((d, crefs 6) : Loc nD τ sig) ↦{fullShare} V (crefs 6)) : sProp 𝕄) = (delayLoc d ↦{fullShare} (x d).delay) := congrArg (fun f => ((delayLoc d ↦{fullShare} f) : sProp 𝕄)) h6
  have e7 : ((((d, crefs 7) : Loc nD τ sig) ↦{fullShare} V (crefs 7)) : sProp 𝕄) = (wtLoc d ↦{fullShare} (x d).wt) := congrArg (fun f => ((wtLoc d ↦{fullShare} f) : sProp 𝕄)) h7
  have e8 : ((((d, crefs 8) : Loc nD τ sig) ↦{fullShare} V (crefs 8)) : sProp 𝕄) = (drvLoc d ↦{fullShare} (x d).drv) := congrArg (fun f => ((drvLoc d ↦{fullShare} f) : sProp 𝕄)) h8
  have e9 : ((((d, crefs 9) : Loc nD τ sig) ↦{fullShare} V (crefs 9)) : sProp 𝕄) = (wsegLoc d ↦{fullShare} (x d).wseg) := congrArg (fun f => ((wsegLoc d ↦{fullShare} f) : sProp 𝕄)) h9
  have e10 : ((((d, crefs 10) : Loc nD τ sig) ↦{fullShare} V (crefs 10)) : sProp 𝕄) = (ttLoc d ↦{fullShare} (x d).tt) := congrArg (fun f => ((ttLoc d ↦{fullShare} f) : sProp 𝕄)) h10
  have e11 : ((((d, crefs 11) : Loc nD τ sig) ↦{fullShare} V (crefs 11)) : sProp 𝕄) = (wcrLoc d ↦{fullShare} (x d).wcr) := congrArg (fun f => ((wcrLoc d ↦{fullShare} f) : sProp 𝕄)) h11
  rw [hs, bigSep_fifteen, e0, e1, e2, e3, e4, e5, e6, e7, e8, e9, e10, e11]
  exact regroup _ _ _ _ _ _ _ _ _ _ _ _ _ _ _ _

variable (m : (ℓ : Loc nD τ sig) → Buf (Elt F) ℓ) (ρ : Dev nD → PrngReg)

/-- The launch's arrays, and its operands. -/
abbrev V0 (d : Dev nD) : Valuation τ sig (Elt F) := launchContents m d
def X (d : Dev nD) : Ops F := opsOf (V0 m d)

theorem pre_held (d : Dev nD) : (held (T d) (tcRefs τ sig) (pre (V0 m d)) : sProp 𝕄)
    ⊣⊢ iprop((reads (X m) d fullShare ∗ outsAll d (m (extLoc d)) (m (sgoLoc d)) (m (lnkLoc d))) ∗ others d (pre (V0 m d))) := by
  have h := held_parts d (pre (V0 m d)) (X m) (pre_v27 _) (pre_v37 _) (pre_v41 _) (pre_v45 _) (pre_v55 _) (pre_v49 _) (pre_v56 _) (pre_v21 _) (pre_v4 _)
    (pre_v2 _) (pre_v22 _) (pre_v23 _)
  rw [show pre (V0 m d) rE = m (extLoc d) from pre_keep _ (by decide) (by decide), show pre (V0 m d) rS = m (sgoLoc d) from pre_keep _ (by decide) (by decide),
    show pre (V0 m d) rL = m (lnkLoc d) from pre_keep _ (by decide) (by decide)] at h
  exact h

theorem others_mid (d : Dev nD) (V : Valuation τ sig (Elt F)) : (others d (mid V) : sProp 𝕄) = others d (pre V) := by
  unfold others
  refine bigSep_congr fun b hb => ?_
  have hb' := (Finset.mem_sdiff.mp hb).2
  have hne : ∀ k : Fin 15, b ≠ crefs k := fun k e => hb' (Finset.mem_map.mpr ⟨k, Finset.mem_univ _, e.symm⟩)
  rw [mid_of_ne V (hne 12) (hne 13) (hne 14)]

theorem mid_held (d : Dev nD) : (held (T d) (tcRefs τ sig) (mid (V0 m d)) : sProp 𝕄)
    ⊣⊢ iprop((reads (X m) d fullShare ∗ outsAll d (X m d).ext (X m d).sgo (X m d).lnk) ∗ others d (pre (V0 m d))) := by
  have k : ∀ j : Fin 15, j.val < 12 → mid (V0 m d) (crefs j) = pre (V0 m d) (crefs j) := fun j hj =>
    mid_of_ne _ (crefs.injective.ne (a₂ := 12) (by rintro rfl; simp at hj)) (crefs.injective.ne (a₂ := 13) (by rintro rfl; simp at hj))
      (crefs.injective.ne (a₂ := 14) (by rintro rfl; simp at hj))
  have h := held_parts d (mid (V0 m d)) (X m) ((k 0 (by decide)).trans (pre_v27 _)) ((k 1 (by decide)).trans (pre_v37 _)) ((k 2 (by decide)).trans (pre_v41 _))
    ((k 3 (by decide)).trans (pre_v45 _)) ((k 4 (by decide)).trans (pre_v55 _)) ((k 5 (by decide)).trans (pre_v49 _)) ((k 6 (by decide)).trans (pre_v56 _))
    ((k 7 (by decide)).trans (pre_v21 _)) ((k 8 (by decide)).trans (pre_v4 _)) ((k 9 (by decide)).trans (pre_v2 _)) ((k 10 (by decide)).trans (pre_v22 _))
    ((k 11 (by decide)).trans (pre_v23 _))
  rw [mid_E, mid_S, mid_L, others_mid] at h
  exact h

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m (X m)).x q thr) := by
  have he : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## The host thread -/

/-- What the host thread ends with: all its arrays, at the end's contents. -/
def FIN (d : Dev nD) : sProp 𝕄 := held (T d) (tcRefs τ sig) (fin (V0 m d))

theorem unscoped_held (d : Dev nD) : (unscopedBufs d (fun b => m ((SparseCore.T d).loc b)) : sProp 𝕄) = held (T d) (tcRefs τ sig) (V0 m d) := by
  unfold unscopedBufs held tcRefs
  rw [bigSep_map]
  have hS : (Finset.univ.filter fun b : Ref sig .tc => ¬ b.isScoped) = Finset.univ :=
    Finset.filter_true_of_mem fun b _ hb => Finset.notMem_empty b (scopedRefs_eq ▸ Finset.mem_filter.mpr ⟨Finset.mem_univ b, hb⟩)
  rw [hS]
  rfl

theorem hmain (κ : GSem nD τ sig → ℕ) (d : Dev nD) :
    iprop((K (F := F)).ctx EH (P m (X m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) (fun _ => seq opsCont >>= fun _ => sc.run d 0 >>= fun _ => seq opsPost) opsTab
    (List.forall_iff_forall_mem.1 opsTab_sub) (List.forall_iff_forall_mem.1 opsTab_fresh) (V0 m d)) $$ [Hb Hheld]
  · isplitl [Hb]; · iexact Hb
    iexact Hheld
  iintro ⟨Hb, Hheld⟩
  iapply (wp_seq 𝒱 none Set.univ d (tcRefs τ sig) (fun _ => sc.run d 0 >>= fun _ => seq opsPost) opsCont
    (List.forall_iff_forall_mem.1 opsCont_sub) (List.forall_iff_forall_mem.1 opsCont_fresh) (after opsTab (V0 m d))) $$ [Hb Hheld]
  · isplitl [Hb]; · iexact Hb
    iexact Hheld
  iintro ⟨Hb, Hheld⟩
  ihave Hh := (pre_held m d).1 $$ Hheld
  icases Hh with ⟨Hio, Hrest⟩
  rw [wp_bind]
  iapply ((K (F := F)).wp_run (D (F := F)) 𝒱 (EH := EH) (P := P m (X m)) κ d 0) $$ [Hst Hio Hrest Hb Hts]
  isplitr; · iexact Hctx
  isplitl [Hst]; · iexact Hst
  isplitl [Hio]
  · rw [st_eq]; iexact Hio
  iintro ⟨Hst, Hdn⟩
  ihave Hio := (Entails.of_eq (dn_eq m (X m) d)) $$ Hdn
  ihave Hheld := (mid_held m d).2 $$ [Hio Hrest]
  · isplitl [Hio]; · iexact Hio
    iexact Hrest
  rw [← bind_pure (seq opsPost)]
  iapply (wp_seq 𝒱 none Set.univ d (tcRefs τ sig) (fun u => pure u) opsPost
    (List.forall_iff_forall_mem.1 opsPost_sub) (List.forall_iff_forall_mem.1 opsPost_fresh) (mid (V0 m d))) $$ [Hb Hheld]
  · isplitl [Hb]; · iexact Hb
    iexact Hheld
  iintro ⟨Hb, Hheld⟩
  rw [wp_pure]
  imodintro
  unfold FIN Launch.fin
  isplitl [Hst]; · iexact Hst
  isplitl [Hheld]; · iexact Hheld
  isplitl [Hb]; · iexact Hb
  iexact Hts

/-! ## The end -/

/-- Every array of the host ends at the end's contents. -/
def fq (d : Dev nD) (s' : Phys nD τ sig (Elt F)) : Prop := ∀ r : Ref sig .tc, s'.mem.mem (d, Proc.devRef .tc r) = fin (V0 m d) (Proc.devRef .tc r)

theorem hfin (d : Dev nD) (s' : Phys nD τ sig (Elt F)) : iprop(FIN m d ∗ SI s') ⊢ (⌜fq m d s'⌝ : sProp 𝕄) := by
  unfold fq
  refine Entails.trans (forall_intro fun r => ?_) pure_forall.2
  have hr : FIN m d ⊢ ((((d, Proc.devRef .tc r) : Loc nD τ sig) ↦{fullShare} fin (V0 m d) (Proc.devRef .tc r)) : sProp 𝕄) := by
    unfold FIN held
    exact bigSep_elim (by unfold tcRefs; exact Finset.mem_map.mpr ⟨r, Finset.mem_univ _, rfl⟩)
  iintro ⟨HF, HSI⟩
  ihave Hr := hr $$ HF
  ihave H := (SI_pointsTo_agree (st := s') (ℓ := (d, Proc.devRef .tc r)) (I := Finset.univ) (q := fullShare) (f := fin (V0 m d) (Proc.devRef .tc r))) $$ [HSI Hr]
  · isplitl [HSI]; · iexact HSI
    iexact Hr
  icases H with %h
  ipureintro; exact funext fun i => h i (Finset.mem_univ i)

def QC : PUnit × MemSt nD τ sig (Elt F) → Prop := fun r =>
  (∀ d : Dev nD, ∀ b : Ref sig .tc, r.2.mem (d, Proc.devRef .tc b) = fin (V0 m d) (Proc.devRef .tc b)) ∧ r.2.sem = fun _ => 0

/-- The run from any memory whose row lists are in range. -/
theorem run_main [∀ e, Nonempty (Elt F e)] (hX : ∀ d, InRange (X m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (X m)) (A := ∅) facts v₀
    (fun q hq => match q with | 0 => nomatch hq)
    (fun q _ => match q with | 0 => tileObl m (X m) hX)
    (fun q _ => match q with | 0 => SparseCore.Cfg.VecSplit.of_plain (vecSplit m (X m)))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Ranges.lean ====
/- The row lists are in range when the arguments are. -/
module

public import proofs.«01_k».proof.Proof.Lists
public import proofs.«01_k».proof.Proof.Launch

@[expose] public section

noncomputable section

namespace Cert.Proof.Launch

open Cert.KernelIdeal Cert.KernelIdeal.Gen Cert.Proof.Tile Cert.Proof.Host
open Idealize.ShloMosaic Idealize.ShloMosaic.StableHlo Idealize.SL.Sem

variable {F : FTy → Type} [FloatOps F]

theorem inRange_of_args {V : Valuation τ sig (Elt F)} (h : ArgsOK V) : InRange (opsOf V) where
  wtidx j := by
    refine lt_of_eq_of_lt (wt_toNat (h.week (Shape.reshapeEquiv shapeCasts_S1024_S32x32 j)) (h.time (Shape.reshapeEquiv shapeCasts_S1024_S32x32 j))) ?_
    have := h.week (Shape.reshapeEquiv shapeCasts_S1024_S32x32 j)
    have := h.time (Shape.reshapeEquiv shapeCasts_S1024_S32x32 j)
    omega
  didx j := h.drv _
  seg j := segList_all (F := F) (fun v => v.toNat < 1376567) (by decide) _ h.seg j
  tiny j := segList_all (F := F) (fun v => v.toNat < 3024) (by decide) _ (fun i => by
    rw [tinyRow_at, tiny_toNat (h.level i) (h.state i) (h.lane i) (h.road i)]
    have := h.level i
    have := h.state i
    have := h.lane i
    have := h.road i
    omega) j
  cross j := crossList_all (F := F) (fun v => v.toNat < 101009) (by decide) _ h.cross j

/-- A word between zero and a bound, as the comparisons of signed words read it. -/
theorem word_lt {n : ℕ} (hn : n < 2147483648) {v : BitVec 32}
    (h : IntOp.andi (IntOp.cmpi .sge v 0#32) (IntOp.cmpi .slt v (BitVec.ofNat 32 n)) = 1#1) : v.toNat < n := by
  have h1 : (0#32).sle v = true ∧ v.slt (BitVec.ofNat 32 n) = true := by
    simp only [IntOp.cmpi, IntOp.andi] at h
    revert h
    cases (0#32).sle v <;> cases v.slt (BitVec.ofNat 32 n) <;> decide
  have hs := h1.1
  have ht := h1.2
  simp only [BitVec.sle_eq_decide, BitVec.slt_eq_decide, decide_eq_true_eq, BitVec.toInt_eq_toNat_cond, BitVec.toNat_ofNat] at hs ht
  omega

/-- What the precondition computes of a memory's arguments. -/
abbrev preOf [Cert.Pre_ids_in_range.Facts] (V : Valuation τ sig (Elt F)) :=
  Cert.Pre_ids_in_range.fn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))

/-- The precondition puts every number in range. -/
theorem args_of_pre [Cert.Pre_ids_in_range.Facts] (V : Valuation τ sig (Elt F))
    (h : (preOf V).1 = (fun _ => 1#1) ∧ (preOf V).2.1 = (fun _ => 1#1) ∧ (preOf V).2.2.1 = (fun _ => 1#1) ∧ (preOf V).2.2.2.1 = (fun _ => 1#1)
      ∧ (preOf V).2.2.2.2.1 = (fun _ => 1#1) ∧ (preOf V).2.2.2.2.2.1 = (fun _ => 1#1) ∧ (preOf V).2.2.2.2.2.2.1 = (fun _ => 1#1)
      ∧ (preOf V).2.2.2.2.2.2.2.1 = (fun _ => 1#1) ∧ (preOf V).2.2.2.2.2.2.2.2 = (fun _ => 1#1)) : ArgsOK V := by
  obtain ⟨h0, h1, h2, h3, h4, h5, h6, h7, h8⟩ := h
  exact {
    week := fun i => word_lt (n := 8) (by decide) (congrFun h0 i)
    time := fun i => word_lt (n := 289) (by decide) (congrFun h1 i)
    drv := fun i => word_lt (n := 200141) (by decide) (congrFun h2 i)
    seg := fun i => word_lt (n := 1376567) (by decide) (congrFun h3 i)
    level := fun i => word_lt (n := 9) (by decide) (congrFun h4 i)
    state := fun i => word_lt (n := 6) (by decide) (congrFun h5 i)
    lane := fun i => word_lt (n := 7) (by decide) (congrFun h6 i)
    road := fun i => word_lt (n := 8) (by decide) (congrFun h7 i)
    cross := fun i => word_lt (n := 101009) (by decide) (congrFun h8 i) }

end Cert.Proof.Launch

end
-- ==== Proof.Frames.lean ====
/- The frames: each program runs to its end, leaves its arguments as they were, and every semaphore at zero. -/
module

public import proofs.«01_k».proof.Defs
public import proofs.«01_k».proof.Proof.Ranges
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Cert.KernelIdeal Cert.KernelIdeal.Gen Cert.Proof.Tile Cert.Proof.Host Cert.Proof.Launch
open Idealize.ShloMosaic Idealize.ShloMosaic.StableHlo Idealize.SL.Sem

/-- The shapes the precondition broadcasts between are broadcasts of each other. -/
theorem pre_facts : Cert.Pre_ids_in_range.Facts where
  bcast_S_S1024 := by decide
  bcast_S_S1024x50 := by decide
  bcast_S_S1024x49 := by decide

variable {F : FTy → Type} [FloatOps F]

/-- The arrays the program takes. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No argument array is written. -/
theorem args_unwritten : ∀ b ∈ argRefs, b ∉ writesTab ++ writesCont ++ [main_v57_0, main_v57_1, main_v57_2, main_v58, main_v59] := by
  decide

/-- At the end of a run every argument array holds what it held at the start. -/
theorem end_arg {m : (ℓ : Loc nD τ sig) → Buf (Elt F) ℓ} {r : PUnit × MemSt nD τ sig (Elt F)} (h : QC m r) (c : Dev nD) (b : Ref sig .tc)
    (hb : b ∈ argRefs) : r.2.mem ((c.tc : Thread nD τ).loc b) = m ((c.tc : Thread nD τ).loc b) :=
  (h.1 c b).trans (fin_keep (V0 m c) (args_unwritten b hb))

/-- The same, array by array. -/
theorem end_args {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) := by
  have k := end_arg h c
  exact ⟨k main_arg0 (by simp), k main_arg1 (by simp), k main_arg2 (by simp), k main_arg3 (by simp), k main_arg4 (by simp), k main_arg5 (by simp), k main_arg6 (by simp), k main_arg7 (by simp), k main_arg8 (by simp), k main_arg9 (by simp), k main_arg10 (by simp), k main_arg11 (by simp), k main_arg12 (by simp), k main_arg13 (by simp), k main_arg14 (by simp), k main_arg15 (by simp), k main_arg16 (by simp), k main_arg17 (by simp), k main_arg18 (by simp), k main_arg19 (by simp), k main_arg20 (by simp), k main_arg21 (by simp), k main_arg22 (by simp)⟩

/-- The arguments are in range on every device when the precondition holds of the memory. -/
theorem ok_ideal [Cert.Pre_ids_in_range.Facts] {m : (ℓ : Loc nD τ sig) → Buf (Elt Ideal) ℓ} (h : Cert.Pre_KernelIdeal m) (d : Dev nD) :
    ArgsOK (V0 m d) := args_of_pre (V0 m d) (h d)

/-- The same over bits. -/
theorem ok_bits [Cert.Pre_ids_in_range.Facts] {m : (ℓ : Loc nD τ sig) → Buf (Elt Bits) ℓ} (h : Cert.Pre_Kernel m) (d : Dev nD) :
    ArgsOK (V0 m d) := args_of_pre (V0 m d) (h d)

/-- The run over bits, with the values dropped. -/
theorem run_bits [Cert.Pre_ids_in_range.Facts] (m : (ℓ : Loc nD τ sig) → Buf (Elt Bits) ℓ) (ρ : Dev nD → PrngReg) (h : Cert.Pre_Kernel m) :
    θ_run (Cert.KernelIdeal.defs (F := Bits)) (Cert.KernelIdeal.threads (F := Bits)) ⟨m, fun _ => 0, ρ⟩ (QC m) :=
  run_main (F := Bits) m ρ (fun d => inRange_of_args (ok_bits h d))

set_option maxHeartbeats 4000000 in
/-- The frame of the kernel's program over bits. -/
theorem frame_kernel [Cert.Pre_ids_in_range.Facts] : Cert.quiescent_Kernel := fun m ρ hpre =>
  (θ_run Cert.KernelIdeal.defs _ _).mono (fun _ h => ⟨fun c => end_args h c, h.2⟩) (run_bits m ρ hpre)

/-- The frame of the kernel's program over the reals. -/
theorem frame_ideal [Cert.Pre_ids_in_range.Facts] : Cert.quiescent_KernelIdeal := fun m ρ hpre =>
  (θ_run Cert.KernelIdeal.defs _ _).mono (fun _ h => ⟨fun c => end_args h c, h.2⟩)
    (run_main (F := Ideal) m ρ (fun d => inRange_of_args (ok_ideal hpre d)))

/-- The frame of the reference. -/
theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

/-- The same from the precondition's memories. -/
theorem frame_reference_pre [Cert.Pre_ids_in_range.Facts] : Cert.quiescent_ReferenceIdeal_pre_ids_in_range :=
  fun m g _ => frame_reference m g trivial

end Cert.Proof

end
-- ==== Proof.Spec.lean ====
/- What the three results are: each row is the rows its numbers name, side by side. -/
module

public import proofs.«01_k».proof.Proof.Lists

@[expose] public section

noncomputable section

namespace Cert.Proof.Val

open Cert.KernelIdeal Cert.Proof.Tile Cert.Proof.Host
open Idealize.ShloMosaic

variable {α : Type}

/-- The first result: a week's row, a time's row and a driver's row. -/
def extOf (week time drv : S1024.Idx → BitVec 32) (wk : S8x3.Idx → α) (tm : S289x5.Idx → α) (dv : S200141x16.Idx → α) (j : S1024x24.Idx) : α :=
  if (j 1).val < 3 then wk (at2 (week (at1 (j 0).val)).toNat (j 1).val)
  else if (j 1).val < 8 then tm (at2 (time (at1 (j 0).val)).toNat ((j 1).val - 3))
  else dv (at2 (drv (at1 (j 0).val)).toNat ((j 1).val - 8))

/-- The eight columns of the small features: a level's, a state's, a lane number's and a road level's two each. -/
def tinyOf (lv rs ln rl : ℕ) (lvT : S9x2.Idx → α) (rsT : S6x2.Idx → α) (lnT : S7x2.Idx → α) (rlT : S8x2.Idx → α) (c : ℕ) : α :=
  if c < 2 then lvT (at2 lv c) else if c < 4 then rsT (at2 rs (c - 2)) else if c < 6 then lnT (at2 ln (c - 4)) else rlT (at2 rl (c - 6))

/-- The second result: a segment's row, the small features' columns, and the four continuous entries. -/
def segOf (seg lv rs ln rl : S1024x50.Idx → BitVec 32) (ws : S1376567x16.Idx → α) (lvT : S9x2.Idx → α) (rsT : S6x2.Idx → α) (lnT : S7x2.Idx → α) (rlT : S8x2.Idx → α)
    (a b c e : S1024x50.Idx → α) (j : S1024x50x28.Idx) : α :=
  if (j 2).val < 16 then ws (at2 (seg (at2 (j 0).val (j 1).val)).toNat (j 2).val)
  else if (j 2).val < 24 then
    tinyOf (lv (at2 (j 0).val (j 1).val)).toNat (rs (at2 (j 0).val (j 1).val)).toNat (ln (at2 (j 0).val (j 1).val)).toNat (rl (at2 (j 0).val (j 1).val)).toNat lvT rsT lnT rlT ((j 2).val - 16)
  else if (j 2).val = 24 then a (at2 (j 0).val (j 1).val)
  else if (j 2).val = 25 then b (at2 (j 0).val (j 1).val)
  else if (j 2).val = 26 then c (at2 (j 0).val (j 1).val)
  else e (at2 (j 0).val (j 1).val)

/-- The third result: a crossing's row and the delay. -/
def linkOf (cross : S1024x49.Idx → BitVec 32) (w : S101009x15.Idx → α) (delay : S1024x49.Idx → α) (j : S1024x49x16.Idx) : α :=
  if (j 2).val < 15 then w (at2 (cross (at2 (j 0).val (j 1).val)).toNat (j 2).val) else delay (at2 (j 0).val (j 1).val)

/-- An index in range is the one its numbers wrap to. -/
theorem ix2_at {n k : ℕ} (r : Fin (n + 1)) (c : Fin (k + 1)) {r' c' : ℕ} (hr : r.val = r') (hc : c.val = c') : ix2 r c = at2 r' c' := by
  subst hr hc
  exact (congrArg₂ ix2 (Fin.ofNat_val_eq_self r) (Fin.ofNat_val_eq_self c)).symm
theorem ix1_at {n : ℕ} (r : Fin (n + 1)) {r' : ℕ} (hr : r.val = r') : ix1 r = at1 r' := by
  subst hr
  exact (congrArg ix1 (Fin.ofNat_val_eq_self r)).symm

end Cert.Proof.Val

end
-- ==== Proof.Take.lean ====
/- Rows taken out of a table by a list of row numbers, as the reference takes them, when every number names a row. -/
module

public import Idealize.ShloMosaic.PureOps
public import Idealize.ShloMosaic.Lib.Pointwise.Index
public import Idealize.ShloMosaic.Lib.Pipeline.Value
public import Idealize.ShloMosaic.PureOps.Reduce

@[expose] public section

noncomputable section

namespace Cert.Proof.Val

open Idealize.ShloMosaic

variable {α : Type}

/-- The numbers of a gather of whole rows: a table of N rows of C entries, an A by B array of row numbers. -/
abbrev rowDims (N A B C : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of whole rows at (a, b, c) is entry c of the row that number (a, b) names, clamped to the table. -/
theorem gather_row {N A B C : ℕ} (hN : 0 < N) (wf) (x : (⟨2, ![N, C]⟩ : Shape).Idx → α) (idx : IVec ⟨3, ![A, B, 1]⟩ 32)
    (a : Fin A) (b : Fin B) (c : Fin C) :
    Host.gather (rowDims N A B C wf) x idx (ix3 a b c)
      = x (ix2 ⟨min (idx (ix3 a b 0)).toInt.toNat (N - 1), by omega⟩ c) := by
  unfold Host.gather
  refine congrArg x (funext fun d => Fin.ext ?_)
  show (rowDims N A B C wf).start (ix3 a b c) idx d + (rowDims N A B C wf).batchCoord (ix3 a b c) d
    + (rowDims N A B C wf).offCoord (ix3 a b c) d = _
  rw [GatherDims.batchCoord_eq_zero _ _ _ List.not_mem_nil, Nat.add_zero]
  have hd : d = 0 ∨ d = 1 := by
    match d with
    | ⟨0, _⟩ => exact Or.inl rfl
    | ⟨1, _⟩ => exact Or.inr rfl
  have h0 : (0 : Fin 2) ∈ (rowDims N A B C wf).startIndexMap := List.mem_singleton.mpr rfl
  have h1 : (1 : Fin 2) ∉ (rowDims N A B C wf).startIndexMap := fun h => absurd (List.mem_singleton.mp h) (show ¬(1 : Fin 2) = 0 by decide)
  rcases hd with rfl | rfl
  · rw [GatherDims.offCoord_eq_zero _ _ _ (fun h => ((GatherDims.mem_sKept _ _).mp h).1 (List.mem_singleton.mpr rfl)), Nat.add_zero]
    unfold GatherDims.start
    rw [dif_pos h0]
    have e : (rowDims N A B C wf).siIdx (ix3 a b c) ⟨List.idxOf (0 : Fin 2) (rowDims N A B C wf).startIndexMap,
        List.idxOf_lt_length_iff.2 h0⟩ = ix3 a b 0 :=
      funext fun q => Fin.ext (by match q with | ⟨0, _⟩ => rfl | ⟨1, _⟩ => rfl | ⟨2, _⟩ => rfl)
    exact congrArg (fun i => min (idx i).toInt.toNat (N - 1)) e
  · have e : (rowDims N A B C wf).start (ix3 a b c) idx 1 = 0 := by
      unfold GatherDims.start
      rw [dif_neg h1]
    refine (congrArg (· + _) e).trans ((Nat.zero_add _).trans ?_)
    unfold GatherDims.offCoord
    rw [dif_pos ((GatherDims.mem_sKept _ _).mpr ⟨h1, List.not_mem_nil⟩)]
    rfl

/-- Arrays side by side along the last axis, read at a column that falls in the k-th of them. -/
theorem piece3 {A B C W : ℕ} (xs : List ((s : Shape) × (s.Idx → α))) (h : Shape.Concatenates (xs.map (·.1)) ⟨3, ![A, B, C]⟩ 2) (k : ℕ) (hk : k < xs.length)
    (x : (⟨3, ![A, B, W]⟩ : Shape).Idx → α) (hx : xs[k] = ⟨⟨3, ![A, B, W]⟩, x⟩) (o : ℕ)
    (ho : (((xs.take k).map (·.1)).map fun s => if h : s.rank = 3 then s.size ((2 : Fin 3).cast h.symm) else 0).sum = o)
    (a : Fin A) (b : Fin B) (c : Fin C) (c' : Fin W) (hc : o + c'.val = c.val) :
    concatenate ⟨3, ![A, B, C]⟩ 2 xs h (ix3 a b c) = x (ix3 a b c') := by
  refine concatenate_apply_piece (t := ⟨3, ![A, B, C]⟩) 2 xs h (ix3 a b c) k hk ⟨3, ![A, B, W]⟩ x hx rfl o ho (ix3 a b c') (fun q hq => ?_) ?_
  case refine_2 => exact hc
  match q with
  | ⟨0, _⟩ => rfl
  | ⟨1, _⟩ => rfl
  | ⟨2, _⟩ => exact absurd rfl hq

/-- A conjunction over an axis of ones is one. -/
theorem reduce_ones {s t u : Shape} {axes : List (Fin s.rank)} (x : s.Idx → BitVec 1) (hx : ∀ i, x i = 1#1) (h : s.ReducesTo axes t) (hu : 0 < u.numel) (j : t.Idx) :
    Host.reduce IntOp.andi x (constantI u 1 1#1) h hu j = 1#1 := by
  rw [Host.reduce_eq_foldl]
  generalize (((List.finRange s.numel).map s.rowMajor.symm).filter fun i => h.drop i = j) = l
  show List.foldl _ 1#1 l = 1#1
  induction l with
  | nil => rfl
  | cons i l ih =>
    rw [List.foldl_cons, hx i]
    exact ih

/-- A number below N, N at most 2³¹, is not negative. -/
theorem not_neg {v : BitVec 32} {N : ℕ} (hN : N ≤ 2 ^ 31) (h : v.toNat < N) : v.toInt = v.toNat := by
  rw [BitVec.toInt_eq_toNat_cond]; split <;> omega

/-- A number in range is at least zero. -/
theorem sge_zero {v : BitVec 32} {N : ℕ} (hN : N ≤ 2 ^ 31) (h : v.toNat < N) : IntOp.cmpi .sge v 0#32 = 1#1 := by
  have e : (0#32).sle v = true := by
    rw [BitVec.sle_eq_decide, decide_eq_true_eq, not_neg hN h]
    exact Int.natCast_nonneg _
  exact congrArg BitVec.ofBool e
/-- It is not below zero. -/
theorem slt_zero {v : BitVec 32} {N : ℕ} (hN : N ≤ 2 ^ 31) (h : v.toNat < N) : IntOp.cmpi .slt v 0#32 = 0#1 := by
  have e : v.slt 0#32 = false := by
    rw [BitVec.slt_eq_decide, decide_eq_false_iff_not, not_neg hN h]
    exact not_lt.mpr (Int.natCast_nonneg _)
  exact congrArg BitVec.ofBool e
/-- It is at most the last row's number. -/
theorem sle_last {v k : BitVec 32} {N : ℕ} (hN : N ≤ 2 ^ 31) (h : v.toNat < N) (hk : k.toNat + 1 = N) : IntOp.cmpi .sle v k = 1#1 := by
  have e : v.sle k = true := by
    rw [BitVec.sle_eq_decide, decide_eq_true_eq, not_neg hN h, not_neg hN (v := k) (by omega)]
    omega
  exact congrArg BitVec.ofBool e

/-- The shape of a scalar. -/
abbrev T0 : Shape := ⟨0, ![]⟩

/-- Row numbers in range are left alone by the wrap of negative ones. -/
theorem wrap_eq {s : Shape} {N : ℕ} (hN : N ≤ 2 ^ 31) (ids : IVec s 32) (n : BitVec 32) (b : T0.BroadcastsInDim s ![]) (h : ∀ i, (ids i).toNat < N) :
    select (cmpi .slt ids (broadcastInDim s ![] b (constantI T0 32 0#32))) (addi ids (broadcastInDim s ![] b (constantI T0 32 n))) ids = ids := by
  funext i
  show Scalar.select (IntOp.cmpi .slt (ids i) 0#32) _ _ = _
  rw [slt_zero hN (h i)]
  rfl

/-- The taken rows: where the row numbers are all in range, entry (a, b, c) is entry c of the row that number (a, b) names. -/
theorem take_at {N A B C : ℕ} (hN : N ≤ 2 ^ 31) (n k : BitVec 32) (hk : k.toNat + 1 = N) (ids : IVec ⟨2, ![A, B]⟩ 32) (h : ∀ i, (ids i).toNat < N)
    (b0 : T0.BroadcastsInDim ⟨2, ![A, B]⟩ ![]) (b1 : (⟨2, ![A, B]⟩ : Shape).BroadcastsInDim ⟨3, ![A, B, 1]⟩ ![0, 1])
    (b2 : T0.BroadcastsInDim ⟨3, ![A, B, 1]⟩ ![]) (b3 : (⟨1, ![1]⟩ : Shape).BroadcastsInDim ⟨3, ![1, 1, 1]⟩ ![2])
    (b4 : (⟨3, ![1, 1, 1]⟩ : Shape).BroadcastsInDim ⟨3, ![A, B, 1]⟩ ![0, 1, 2]) (hr : (⟨3, ![A, B, 1]⟩ : Shape).ReducesTo [2] ⟨2, ![A, B]⟩) (hu : 0 < T0.numel)
    (b5 : (⟨2, ![A, B]⟩ : Shape).BroadcastsInDim ⟨3, ![A, B, C]⟩ ![0, 1]) (wf) (x : (⟨2, ![N, C]⟩ : Shape).Idx → α) (fill : (⟨3, ![A, B, C]⟩ : Shape).Idx → α)
    (idx : IVec ⟨3, ![A, B, 1]⟩ 32)
    (hidx : idx = broadcastInDim ⟨3, ![A, B, 1]⟩ ![0, 1] b1
      (select (cmpi .slt ids (broadcastInDim ⟨2, ![A, B]⟩ ![] b0 (constantI T0 32 0#32))) (addi ids (broadcastInDim ⟨2, ![A, B]⟩ ![] b0 (constantI T0 32 n))) ids))
    (a : Fin A) (b : Fin B) (c : Fin C) :
    select (broadcastInDim ⟨3, ![A, B, C]⟩ ![0, 1] b5 (Host.reduce IntOp.andi
        (andi (cmpi .sge idx (broadcastInDim ⟨3, ![A, B, 1]⟩ ![] b2 (constantI T0 32 0#32)))
          (cmpi .sle idx (broadcastInDim ⟨3, ![A, B, 1]⟩ ![0, 1, 2] b4 (broadcastInDim ⟨3, ![1, 1, 1]⟩ ![2] b3 (constantI ⟨1, ![1]⟩ 32 k)))))
        (constantI T0 1 1#1) hr hu)) (Host.gather (rowDims N A B C wf) x idx) fill (ix3 a b c)
      = x (ix2 ⟨(ids (ix2 a b)).toNat, h _⟩ c) := by
  have hi : ∀ p q r, idx (ix3 p q r) = ids (ix2 p q) := fun p q r => by
    rw [hidx, wrap_eq hN ids n b0 h]
    refine broadcastInDim_apply _ _ _ _ _ fun d => ?_
    have hd : d = 0 ∨ d = 1 := by
      match d with
      | ⟨0, _⟩ => exact Or.inl rfl
      | ⟨1, _⟩ => exact Or.inr rfl
    rcases hd with rfl | rfl
    · show p.val = if A = 1 then 0 else p.val
      have := p.isLt
      split <;> omega
    · show q.val = if B = 1 then 0 else q.val
      have := q.isLt
      split <;> omega
  have hb : ∀ i, (idx i).toNat < N := fun i =>
    lt_of_eq_of_lt (congrArg BitVec.toNat ((congrArg idx (eq_ix3 i)).trans (hi _ _ _))) (h _)
  have e : broadcastInDim ⟨3, ![A, B, C]⟩ ![0, 1] b5 (Host.reduce IntOp.andi
        (andi (cmpi .sge idx (broadcastInDim ⟨3, ![A, B, 1]⟩ ![] b2 (constantI T0 32 0#32)))
          (cmpi .sle idx (broadcastInDim ⟨3, ![A, B, 1]⟩ ![0, 1, 2] b4 (broadcastInDim ⟨3, ![1, 1, 1]⟩ ![2] b3 (constantI ⟨1, ![1]⟩ 32 k)))))
        (constantI T0 1 1#1) hr hu) (ix3 a b c) = 1#1 := by
    unfold broadcastInDim
    refine reduce_ones _ (fun i => ?_) hr hu _
    show IntOp.andi (IntOp.cmpi .sge (idx i) 0#32) (IntOp.cmpi .sle (idx i) k) = 1#1
    rw [sge_zero hN (hb i), sle_last hN (hb i) hk]
    rfl
  refine (congrArg (fun q => Scalar.select q (Host.gather (rowDims N A B C wf) x idx (ix3 a b c)) (fill (ix3 a b c))) e).trans ?_
  refine (gather_row (by omega) wf x idx a b c).trans ?_
  refine congrArg (fun q => x (ix2 q c)) (Fin.ext ?_)
  show min (idx (ix3 a b 0)).toInt.toNat (N - 1) = (ids (ix2 a b)).toNat
  rw [hi, not_neg hN (h _)]
  have := h (ix2 a b)
  omega

end Cert.Proof.Val

end
-- ==== Proof.Tables.lean ====
/- The entries of the tables the host program builds. -/
module

public import proofs.«01_k».proof.Proof.Spec
public import proofs.«01_k».proof.Proof.Take

@[expose] public section

noncomputable section

namespace Cert.Proof.Val

open Cert.KernelIdeal Cert.KernelIdeal.Gen Cert.Proof.Tile Cert.Proof.Host
open Idealize.ShloMosaic

variable {F : FTy → Type} [FloatOps F]

/-- A row of the week-time table is a week's row and a time's row. -/
theorem wtTab_at (wk : S8x3.Idx → Elt F .f32) (tm : S289x5.Idx → Elt F .f32) {a b c r : ℕ} (ha : a < 8) (hb : b < 289) (hc : c < 8) (hr : r = a * 289 + b) :
    wtTab wk tm (at2 r c) = if c < 3 then wk (at2 a c) else tm (at2 b (c - 3)) := by
  refine (pad_apply_of_inside _ _ _ _ _ _ _ _ (at2 r c : S2312x8.Idx) ?_).trans
    ((shapeCast_apply _ _ _ (at3 a b c : S8x289x8.Idx) ?_).trans ?_)
  · intro q
    match q with
    | 0 => show r % 2312 = 0 + r % 2312 * (0 + 1); omega
    | 1 => show c % 16 = 0 + c % 8 * (0 + 1); omega
  · rw [Shape.rowMajor_val_two, Shape.rowMajor_val_three]
    show (a % 8 * 289 + b % 289) * 8 + c % 8 = r % 2312 * 8 + c % 8
    omega
  · unfold wtCat
    split
    · refine (piece3 _ _ 0 (by show 0 < 2; decide) _ rfl 0 rfl (Fin.ofNat 8 a) (Fin.ofNat 289 b) (Fin.ofNat 8 c) (Fin.ofNat 3 c) (by show 0 + c % 3 = c % 8; omega)).trans
        ((broadcastInDim_apply _ _ _ _ (at3 a 0 c : S8x1x3.Idx) ?_).trans (broadcastInDim_apply _ _ _ _ (at2 a c : S8x3.Idx) ?_))
      · intro q
        match q with
        | 0 => rfl
        | 1 => rfl
        | 2 => rfl
      · intro q
        match q with
        | 0 => rfl
        | 1 => rfl
    · refine (piece3 _ _ 1 (by show 1 < 2; decide) _ rfl 3 rfl (Fin.ofNat 8 a) (Fin.ofNat 289 b) (Fin.ofNat 8 c) (Fin.ofNat 5 (c - 3)) (by show 3 + (c - 3) % 5 = c % 8; omega)).trans
        ((broadcastInDim_apply _ _ _ _ (at3 0 b (c - 3) : S1x289x5.Idx) ?_).trans (broadcastInDim_apply _ _ _ _ (at2 b (c - 3) : S289x5.Idx) ?_))
      · intro q
        match q with
        | 0 => rfl
        | 1 => rfl
        | 2 => rfl
      · intro q
        match q with
        | 0 => rfl
        | 1 => rfl

/-- An index of five coordinates. -/
def at5 (a b c e f : ℕ) : S9x6x7x8x8.Idx := fun d => match d with
  | ⟨0, _⟩ => Fin.ofNat 9 a | ⟨1, _⟩ => Fin.ofNat 6 b | ⟨2, _⟩ => Fin.ofNat 7 c | ⟨3, _⟩ => Fin.ofNat 8 e | ⟨4, _⟩ => Fin.ofNat 8 f
/-- The same in one of the four pairs of columns. -/
def at5' (a b c e f : ℕ) : S9x6x7x8x2.Idx := fun d => match d with
  | ⟨0, _⟩ => Fin.ofNat 9 a | ⟨1, _⟩ => Fin.ofNat 6 b | ⟨2, _⟩ => Fin.ofNat 7 c | ⟨3, _⟩ => Fin.ofNat 8 e | ⟨4, _⟩ => Fin.ofNat 2 f

/-- Four pairs of columns side by side: the k-th pair is columns 2k and 2k + 1. -/
theorem piece5 {α : Type} (xs : List ((s : Shape) × (s.Idx → α))) (h : Shape.Concatenates (xs.map (·.1)) S9x6x7x8x8 4) (k : ℕ) (hk : k < xs.length)
    (x : S9x6x7x8x2.Idx → α) (hx : xs[k] = ⟨S9x6x7x8x2, x⟩) (o : ℕ)
    (ho : (((xs.take k).map (·.1)).map fun s => if h : s.rank = 5 then s.size ((4 : Fin 5).cast h.symm) else 0).sum = o)
    (a b c e : ℕ) {f g : ℕ} (hf : f < 8) (hg : g < 2) (hc : o + g = f) :
    concatenate S9x6x7x8x8 4 xs h (at5 a b c e f) = x (at5' a b c e g) := by
  refine concatenate_apply_piece (t := S9x6x7x8x8) 4 xs h (at5 a b c e f) k hk S9x6x7x8x2 x hx rfl o ho (at5' a b c e g) (fun q hq => ?_) ?_
  case refine_2 => show o + g % 2 = f % 8; omega
  match q with
  | ⟨0, _⟩ => rfl
  | ⟨1, _⟩ => rfl
  | ⟨2, _⟩ => rfl
  | ⟨3, _⟩ => rfl
  | ⟨4, _⟩ => exact absurd rfl hq

/-- A row of the small features' table: two columns each of a level's, a state's, a lane number's and a road level's rows. -/
theorem ttTab_at (lv : S9x2.Idx → Elt F .f32) (rs : S6x2.Idx → Elt F .f32) (ln : S7x2.Idx → Elt F .f32) (rl : S8x2.Idx → Elt F .f32)
    {a b e f c r : ℕ} (ha : a < 9) (hb : b < 6) (he : e < 7) (hf : f < 8) (hc : c < 8) (hr : r = ((a * 6 + b) * 7 + e) * 8 + f) :
    ttTab lv rs ln rl (at2 r c) = tinyOf a b e f lv rs ln rl c := by
  refine (pad_apply_of_inside _ _ _ _ _ _ _ _ (at2 r c : S3024x8.Idx) ?_).trans
    ((shapeCast_apply _ _ _ (at5 a b e f c) ?_).trans ?_)
  · intro q
    match q with
    | 0 => show r % 3024 = 0 + r % 3024 * (0 + 1); omega
    | 1 => show c % 16 = 0 + c % 8 * (0 + 1); omega
  · rw [Shape.rowMajor_val_two, Shape.rowMajor_val_five]
    show (((a % 9 * 6 + b % 6) * 7 + e % 7) * 8 + f % 8) * 8 + c % 8 = r % 3024 * 8 + c % 8
    omega
  · unfold ttCat tinyOf
    split
    · refine (piece5 _ _ 0 (by show 0 < 4; decide) _ rfl 0 rfl a b e f (g := c) hc (by omega) (by omega)).trans
        ((broadcastInDim_apply _ _ _ _ (fun d => match d with | ⟨0, _⟩ => Fin.ofNat 9 a | ⟨1, _⟩ => Fin.ofNat 1 0 | ⟨2, _⟩ => Fin.ofNat 1 0 | ⟨3, _⟩ => Fin.ofNat 1 0 | ⟨4, _⟩ => Fin.ofNat 2 c : S9x1x1x1x2.Idx) ?_).trans
          (broadcastInDim_apply _ _ _ _ (at2 a c : S9x2.Idx) ?_))
      · intro q
        match q with
        | 0 => rfl
        | 1 => rfl
        | 2 => rfl
        | 3 => rfl
        | 4 => rfl
      · intro q
        match q with
        | 0 => rfl
        | 1 => rfl
    split
    · refine (piece5 _ _ 1 (by show 1 < 4; decide) _ rfl 2 rfl a b e f (g := c - 2) hc (by omega) (by omega)).trans
        ((broadcastInDim_apply _ _ _ _ (fun d => match d with | ⟨0, _⟩ => Fin.ofNat 1 0 | ⟨1, _⟩ => Fin.ofNat 6 b | ⟨2, _⟩ => Fin.ofNat 1 0 | ⟨3, _⟩ => Fin.ofNat 1 0 | ⟨4, _⟩ => Fin.ofNat 2 (c - 2) : S1x6x1x1x2.Idx) ?_).trans
          (broadcastInDim_apply _ _ _ _ (at2 b (c - 2) : S6x2.Idx) ?_))
      · intro q
        match q with
        | 0 => rfl
        | 1 => rfl
        | 2 => rfl
        | 3 => rfl
        | 4 => rfl
      · intro q
        match q with
        | 0 => rfl
        | 1 => rfl
    split
    · refine (piece5 _ _ 2 (by show 2 < 4; decide) _ rfl 4 rfl a b e f (g := c - 4) hc (by omega) (by omega)).trans
        ((broadcastInDim_apply _ _ _ _ (fun d => match d with | ⟨0, _⟩ => Fin.ofNat 1 0 | ⟨1, _⟩ => Fin.ofNat 1 0 | ⟨2, _⟩ => Fin.ofNat 7 e | ⟨3, _⟩ => Fin.ofNat 1 0 | ⟨4, _⟩ => Fin.ofNat 2 (c - 4) : S1x1x7x1x2.Idx) ?_).trans
          (broadcastInDim_apply _ _ _ _ (at2 e (c - 4) : S7x2.Idx) ?_))
      · intro q
        match q with
        | 0 => rfl
        | 1 => rfl
        | 2 => rfl
        | 3 => rfl
        | 4 => rfl
      · intro q
        match q with
        | 0 => rfl
        | 1 => rfl
    · refine (piece5 _ _ 3 (by show 3 < 4; decide) _ rfl 6 rfl a b e f (g := c - 6) hc (by omega) (by omega)).trans
        ((broadcastInDim_apply _ _ _ _ (fun d => match d with | ⟨0, _⟩ => Fin.ofNat 1 0 | ⟨1, _⟩ => Fin.ofNat 1 0 | ⟨2, _⟩ => Fin.ofNat 1 0 | ⟨3, _⟩ => Fin.ofNat 8 f | ⟨4, _⟩ => Fin.ofNat 2 (c - 6) : S1x1x1x8x2.Idx) ?_).trans
          (broadcastInDim_apply _ _ _ _ (at2 f (c - 6) : S8x2.Idx) ?_))
      · intro q
        match q with
        | 0 => rfl
        | 1 => rfl
        | 2 => rfl
        | 3 => rfl
        | 4 => rfl
      · intro q
        match q with
        | 0 => rfl
        | 1 => rfl

/-- A row of the crossing table, before its added column. -/
theorem wcrTab_at (w : S101009x15.Idx → Elt F .f32) (r : ℕ) {c : ℕ} (hc : c < 15) : wcrTab w (at2 r c) = w (at2 r c) := by
  refine pad_apply_of_inside _ _ _ _ _ _ _ _ (at2 r c : S101009x15.Idx) ?_
  intro q
  match q with
  | 0 => show r % 101009 = 0 + r % 101009 * (0 + 1); omega
  | 1 => show c % 16 = 0 + c % 15 * (0 + 1); omega

/-- An entry of the delays. -/
theorem delayTab_at (y : S1024x49.Idx → Elt F .f32) {w p : ℕ} (hw : w < 32) (hp : p < 1568) :
    delayTab y (at2 w p) = y (at2 ((1568 * w + p) / 49) ((1568 * w + p) % 49)) := by
  refine shapeCast_apply _ _ _ (at2 ((1568 * w + p) / 49) ((1568 * w + p) % 49) : S1024x49.Idx) ?_
  rw [Shape.rowMajor_val_two, Shape.rowMajor_val_two]
  show (1568 * w + p) / 49 % 1024 * 49 + (1568 * w + p) % 49 % 49 = w % 32 * 1568 + p % 1568
  omega

/-- A column read as an array of one column. -/
theorem col_at (x : S1024x50.Idx → Elt F .f32) (p q : ℕ) (z : Fin 1) :
    broadcastInDim S1024x50x1 ![0, 1] bcast_S1024x50_S1024x50x1_0_1 x (ix3 (Fin.ofNat 1024 p) (Fin.ofNat 50 q) z) = x (at2 p q) :=
  broadcastInDim_apply _ _ _ _ _ fun d => by
    match d with
    | 0 => rfl
    | 1 => rfl

/-- An entry of the four continuous columns. -/
theorem contTab_at (a b c e : S1024x50.Idx → Elt F .f32) {w p : ℕ} (k : ℕ) (hw : w < 32) (hp : p < 1600) (hk : k < 4) :
    contTab a b c e (at3 w p k)
      = (if k = 0 then a else if k = 1 then b else if k = 2 then c else e) (at2 ((1600 * w + p) / 50) ((1600 * w + p) % 50)) := by
  refine (shapeCast_apply _ _ _ (at3 ((1600 * w + p) / 50) ((1600 * w + p) % 50) k : S1024x50x4.Idx) ?_).trans ?_
  · rw [Shape.rowMajor_val_three, Shape.rowMajor_val_three]
    show ((1600 * w + p) / 50 % 1024 * 50 + (1600 * w + p) % 50 % 50) * 4 + k % 4 = (w % 32 * 1600 + p % 1600) * 4 + k % 4
    omega
  · split
    · exact (piece3 _ _ 0 (by show 0 < 4; decide) _ rfl 0 rfl _ _ _ 0 (by show 0 + 0 = k % 4; omega)).trans (col_at a _ _ 0)
    split
    · exact (piece3 _ _ 1 (by show 1 < 4; decide) _ rfl 1 rfl _ _ _ 0 (by show 1 + 0 = k % 4; omega)).trans (col_at b _ _ 0)
    split
    · exact (piece3 _ _ 2 (by show 2 < 4; decide) _ rfl 2 rfl _ _ _ 0 (by show 2 + 0 = k % 4; omega)).trans (col_at c _ _ 0)
    · exact (piece3 _ _ 3 (by show 3 < 4; decide) _ rfl 3 rfl _ _ _ 0 (by show 3 + 0 = k % 4; omega)).trans (col_at e _ _ 0)

end Cert.Proof.Val

end
-- ==== Proof.KerVal.lean ====
/- The kernel's three results over the reals, entry by entry, when the numbers among the arguments are in range. -/
module

public import proofs.«01_k».proof.Proof.Tables
public import proofs.«01_k».proof.Proof.Launch
public import Idealize.ShloMosaic.Lib.IdealHost

@[expose] public section

noncomputable section

namespace Cert.Proof.Val

open Cert.KernelIdeal Cert.KernelIdeal.Gen Cert.Proof.Tile Cert.Proof.Host Cert.Proof.Launch
open Idealize.ShloMosaic Idealize.ShloMosaic.StableHlo Idealize.SL.Sem

/-- Over the reals the segments' table times one is the table. -/
theorem wsegTab_eq (w : S1376567x16.Idx → Elt Ideal .f32) : wsegTab (F := Ideal) w = w :=
  funext fun i => (congrArg (fun o => (w i : EReal) * o) Ideal.ofBits_one_f32).trans (mul_one _)
/-- So is the drivers' table. -/
theorem drvTab_eq (w : S200141x16.Idx → Elt Ideal .f32) : drvTab (F := Ideal) w = w :=
  funext fun i => (congrArg (fun o => (w i : EReal) * o) Ideal.ofBits_one_f32).trans (mul_one _)

/-- An array of the program, as the memory names it. -/
abbrev arr (r : Ref sig .tc) : DevRef τ sig := Proc.devRef .tc r

variable {V : Valuation τ sig (Elt Ideal)}

/-- The first result. -/
theorem ext_eq (ok : ArgsOK V) :
    (opsOf V).ext = extOf (V (arr main_arg0)) (V (arr main_arg1)) (V (arr main_arg2)) (V (arr main_arg14)) (V (arr main_arg15)) (V (arr main_arg16)) := by
  funext j
  have h0 : (j 0).val < 1024 := (j 0).isLt
  have h1 : (j 1).val < 24 := (j 1).isLt
  have hj : 32 * ((j 0).val / 32) + (j 0).val % 32 = (j 0).val := by omega
  show (if (j 1).val < 8 then wtTab _ _ (at2 ((wtList (V (arr main_arg0)) (V (arr main_arg1)) (at2 ((j 0).val / 32) ((j 0).val % 32))) : BitVec 32).toNat (j 1).val)
    else drvTab _ (at2 ((drvList (V (arr main_arg2)) (at2 ((j 0).val / 32) ((j 0).val % 32))) : BitVec 32).toNat ((j 1).val - 8))) = _
  rw [wtList_at _ _ (by omega) (by omega), drvList_at _ (by omega) (by omega), hj, drvTab_eq]
  unfold extOf
  by_cases h8 : (j 1).val < 8
  · rw [if_pos h8]
    refine (wtTab_at _ _ (ok.week _) (ok.time _) h8 (wt_toNat (ok.week _) (ok.time _))).trans ?_
    by_cases h3 : (j 1).val < 3
    · rw [if_pos h3, if_pos h3]
    · rw [if_neg h3, if_neg h3, if_pos h8]
  · rw [if_neg h8, if_neg (by omega), if_neg h8]

/-- The second result. -/
theorem sgo_eq (ok : ArgsOK V) :
    shapeCast S1024x50x28 (opsOf V).sgo shapeCasts_S51200x28_S1024x50x28
      = segOf (V (arr main_arg3)) (V (arr main_arg4)) (V (arr main_arg5)) (V (arr main_arg6)) (V (arr main_arg7)) (V (arr main_arg17))
        (V (arr main_arg18)) (V (arr main_arg19)) (V (arr main_arg20)) (V (arr main_arg21))
        (V (arr main_arg8)) (V (arr main_arg9)) (V (arr main_arg10)) (V (arr main_arg11)) := by
  funext j
  have h0 : (j 0).val < 1024 := (j 0).isLt
  have h1 : (j 1).val < 50 := (j 1).isLt
  have h2 : (j 2).val < 28 := (j 2).isLt
  obtain ⟨r, hr⟩ : ∃ r, r = (j 0).val * 50 + (j 1).val := ⟨_, rfl⟩
  refine (shapeCast_apply _ _ _ (at2 r (j 2).val : S51200x28.Idx) ?_).trans ?_
  · rw [Shape.rowMajor_val_two, Shape.rowMajor_val_three]
    show r % 51200 * 28 + (j 2).val % 28 = ((j 0).val * 50 + (j 1).val) * 28 + (j 2).val
    omega
  have e0 : ((at2 r (j 2).val : S51200x28.Idx) 0).val = r := by show r % 51200 = r; omega
  have e1 : ((at2 r (j 2).val : S51200x28.Idx) 1).val = (j 2).val := by show (j 2).val % 28 = (j 2).val; omega
  have hd : (1600 * (r / 1600) + r % 1600) / 50 = (j 0).val := by omega
  have hm : (1600 * (r / 1600) + r % 1600) % 50 = (j 1).val := by omega
  unfold Ops.sgo
  rw [e0, e1]
  have hseg : (opsOf V).segId (r / 1600) (r % 1600) = (V (arr main_arg3) (at2 (j 0).val (j 1).val) : BitVec 32).toNat := by
    refine congrArg BitVec.toNat ((segList_at _ (by omega) (by omega)).trans ?_)
    rw [hd, hm]
  have htiny : (opsOf V).tinyId (r / 1600) (r % 1600)
      = (((V (arr main_arg4) (at2 (j 0).val (j 1).val) : BitVec 32).toNat * 6 + (V (arr main_arg5) (at2 (j 0).val (j 1).val) : BitVec 32).toNat) * 7
        + (V (arr main_arg6) (at2 (j 0).val (j 1).val) : BitVec 32).toNat) * 8 + (V (arr main_arg7) (at2 (j 0).val (j 1).val) : BitVec 32).toNat := by
    refine (congrArg BitVec.toNat ((segList_at _ (by omega) (by omega)).trans ?_)).trans (tiny_toNat (ok.level _) (ok.state _) (ok.lane _) (ok.road _))
    rw [hd, hm]
    rfl
  rw [hseg]
  unfold segOf
  by_cases h16 : (j 2).val < 16
  · rw [if_pos h16, if_pos h16]
    exact congrFun (wsegTab_eq _) _
  rw [if_neg h16, if_neg h16]
  by_cases h24 : (j 2).val < 24
  · rw [if_pos h24, if_pos h24]
    exact ttTab_at _ _ _ _ (ok.level _) (ok.state _) (ok.lane _) (ok.road _) (by omega) htiny
  rw [if_neg h24, if_neg h24]
  refine (contTab_at _ _ _ _ ((j 2).val - 24) (by omega) (by omega) (by omega)).trans ?_
  rw [hd, hm]
  by_cases k0 : (j 2).val = 24
  · rw [if_pos (by omega), if_pos k0]
  rw [if_neg (by omega), if_neg k0]
  by_cases k1 : (j 2).val = 25
  · rw [if_pos (by omega), if_pos k1]
  rw [if_neg (by omega), if_neg k1]
  by_cases k2 : (j 2).val = 26
  · rw [if_pos (by omega), if_pos k2]
  rw [if_neg (by omega), if_neg k2]

/-- The third result. -/
theorem lnk_eq :
    shapeCast S1024x49x16 (opsOf V).lnk shapeCasts_S50176x16_S1024x49x16 = linkOf (V (arr main_arg12)) (V (arr main_arg22)) (V (arr main_arg13)) := by
  funext j
  have h0 : (j 0).val < 1024 := (j 0).isLt
  have h1 : (j 1).val < 49 := (j 1).isLt
  have h2 : (j 2).val < 16 := (j 2).isLt
  obtain ⟨r, hr⟩ : ∃ r, r = (j 0).val * 49 + (j 1).val := ⟨_, rfl⟩
  refine (shapeCast_apply _ _ _ (at2 r (j 2).val : S50176x16.Idx) ?_).trans ?_
  · rw [Shape.rowMajor_val_two, Shape.rowMajor_val_three]
    show r % 50176 * 16 + (j 2).val % 16 = ((j 0).val * 49 + (j 1).val) * 16 + (j 2).val
    omega
  have e0 : ((at2 r (j 2).val : S50176x16.Idx) 0).val = r := by show r % 50176 = r; omega
  have e1 : ((at2 r (j 2).val : S50176x16.Idx) 1).val = (j 2).val := by show (j 2).val % 16 = (j 2).val; omega
  have hd : (1568 * (r / 1568) + r % 1568) / 49 = (j 0).val := by omega
  have hm : (1568 * (r / 1568) + r % 1568) % 49 = (j 1).val := by omega
  unfold Ops.lnk
  rw [e0, e1]
  have hcr : (opsOf V).crossId (r / 1568) (r % 1568) = (V (arr main_arg12) (at2 (j 0).val (j 1).val) : BitVec 32).toNat := by
    refine congrArg BitVec.toNat ((crossList_at _ (by omega) (by omega)).trans ?_)
    rw [hd, hm]
  rw [hcr]
  unfold linkOf
  by_cases h15 : (j 2).val < 15
  · rw [if_pos h15, if_pos h15]
    exact wcrTab_at _ _ h15
  rw [if_neg h15, if_neg h15]
  refine (delayTab_at _ (by omega) (by omega)).trans ?_
  rw [hd, hm]

end Cert.Proof.Val

end
-- ==== Proof.RefVal.lean ====
/- The reference's three results, entry by entry, when the numbers among its arguments are in range. -/
module

public import proofs.«01_k».proof.Proof.Spec
public import proofs.«01_k».proof.Proof.Take
public import proofs.«01_k».proof.Proof.Gen.ReferenceIdeal
public import proofs.«01_k».proof.Proof.Gen.ReferenceIdeal.Run

@[expose] public section

noncomputable section

namespace Cert.Proof.Val

open Cert.ReferenceIdeal Cert.ReferenceIdeal.Gen Cert.ReferenceIdeal.Value
open Cert.Proof.Tile (at2 at3)
open Cert.Proof.Host (at1)
open Idealize.ShloMosaic Idealize.ShloMosaic.StableHlo Idealize.SL.Sem

variable {F : FTy → Type} [FloatOps F]

/-- An array of the reference, as the memory names it. -/
abbrev rarr (r : Ref sig .tc) : DevRef τ sig := Proc.devRef .tc r

/-- Every number among the reference's arguments names a row of its table. -/
structure RefOK (V : Valuation τ sig (Elt F)) : Prop where
  week : ∀ i, (V (rarr main_arg0) i : BitVec 32).toNat < 8
  time : ∀ i, (V (rarr main_arg1) i : BitVec 32).toNat < 289
  drv : ∀ i, (V (rarr main_arg2) i : BitVec 32).toNat < 200141
  seg : ∀ i, (V (rarr main_arg3) i : BitVec 32).toNat < 1376567
  level : ∀ i, (V (rarr main_arg4) i : BitVec 32).toNat < 9
  state : ∀ i, (V (rarr main_arg5) i : BitVec 32).toNat < 6
  lane : ∀ i, (V (rarr main_arg6) i : BitVec 32).toNat < 7
  road : ∀ i, (V (rarr main_arg7) i : BitVec 32).toNat < 8
  cross : ∀ i, (V (rarr main_arg12) i : BitVec 32).toNat < 101009

variable {V : Valuation τ sig (Elt F)}

/-- A list read as a column. -/
theorem col1 (x : S1024.Idx → BitVec 32) (h : S1024.ShapeCasts S1024x1) (a : Fin 1024) (b : Fin 1) :
    shapeCast S1024x1 x h (ix2 a b) = x (at1 a.val) := by
  refine shapeCast_apply _ _ _ (at1 a.val : S1024.Idx) ?_
  rw [Shape.rowMajor_val_one, Shape.rowMajor_val_two]
  show a.val % 1024 = a.val * 1 + b.val
  have := a.isLt
  have := b.isLt
  omega
/-- Its entries are the list's. -/
theorem col1_lt {N : ℕ} (x : S1024.Idx → BitVec 32) (h : S1024.ShapeCasts S1024x1) (hx : ∀ i, (x i).toNat < N) (i : S1024x1.Idx) :
    (shapeCast S1024x1 x h i).toNat < N := hx _

/-- The third result. -/
theorem ref_lnk (ok : RefOK V) : val1 V (rarr main_v20) = linkOf (V (rarr main_arg12)) (V (rarr main_arg22)) (V (rarr main_arg13)) := by
  refine (val1_main_v20 V).trans (funext fun j => ?_)
  obtain ⟨a, b, c, rfl⟩ : ∃ (a : Fin 1024) (b : Fin 49) (c : Fin 16), j = ix3 a b c := ⟨j 0, j 1, j 2, eq_ix3 j⟩
  show _ = if c.val < 15 then V (rarr main_arg22) (at2 (V (rarr main_arg12) (at2 a.val b.val) : BitVec 32).toNat c.val) else V (rarr main_arg13) (at2 a.val b.val)
  have e : (ix2 a b : S1024x49.Idx) = at2 a.val b.val := ix2_at a b rfl rfl
  have := c.isLt
  by_cases h : c.val < 15
  · rw [if_pos h]
    refine (piece3 _ _ 0 (by show 0 < 2; decide) _ rfl 0 rfl a b c ⟨c.val, h⟩ (Nat.zero_add _)).trans ?_
    refine (take_at (by decide) 101009#32 101008#32 (by decide) _ ok.cross _ _ _ _ _ _ _ _ _ _ _ _ rfl a b ⟨c.val, h⟩).trans ?_
    exact congrArg (V (rarr main_arg22)) (ix2_at _ _ (congrArg (fun i => (V (rarr main_arg12) i : BitVec 32).toNat) e) rfl)
  · rw [if_neg h]
    refine (piece3 _ _ 1 (by show 1 < 2; decide) _ rfl 15 rfl a b c 0 (by show 15 + 0 = c.val; omega)).trans ?_
    refine (broadcastInDim_apply _ _ _ _ (ix2 a b : S1024x49.Idx) ?_).trans (congrArg (V (rarr main_arg13)) e)
    intro q
    match q with
    | 0 => rfl
    | 1 => rfl

/-- The first result. -/
theorem ref_ext (ok : RefOK V) :
    val1 V (rarr main_v7) = extOf (V (rarr main_arg0)) (V (rarr main_arg1)) (V (rarr main_arg2)) (V (rarr main_arg14)) (V (rarr main_arg15)) (V (rarr main_arg16)) := by
  refine (val1_main_v7 V).trans (funext fun j => ?_)
  obtain ⟨a, c, rfl⟩ : ∃ (a : Fin 1024) (c : Fin 24), j = ix2 a c := ⟨j 0, j 1, eq_ix2 j⟩
  refine (shapeCast_apply _ _ _ (ix3 a 0 c : S1024x1x24.Idx) ?_).trans ?_
  · rw [Shape.rowMajor_val_two, Shape.rowMajor_val_three]
    show (a.val * 1 + 0) * 24 + c.val = a.val * 24 + c.val
    omega
  show _ = if c.val < 3 then V (rarr main_arg14) (at2 (V (rarr main_arg0) (at1 a.val) : BitVec 32).toNat c.val)
    else if c.val < 8 then V (rarr main_arg15) (at2 (V (rarr main_arg1) (at1 a.val) : BitVec 32).toNat (c.val - 3))
    else V (rarr main_arg16) (at2 (V (rarr main_arg2) (at1 a.val) : BitVec 32).toNat (c.val - 8))
  have := c.isLt
  by_cases h : c.val < 3
  · rw [if_pos h]
    refine (piece3 _ _ 0 (by show 0 < 3; decide) _ rfl 0 rfl a 0 c ⟨c.val, h⟩ (Nat.zero_add _)).trans ?_
    refine (take_at (by decide) 8#32 7#32 (by decide) _ (col1_lt _ _ ok.week) _ _ _ _ _ _ _ _ _ _ _ _ rfl a 0 ⟨c.val, h⟩).trans ?_
    exact congrArg (V (rarr main_arg14)) (ix2_at _ _ (congrArg BitVec.toNat (col1 _ _ a 0)) rfl)
  rw [if_neg h]
  by_cases h8 : c.val < 8
  · rw [if_pos h8]
    refine (piece3 _ _ 1 (by show 1 < 3; decide) _ rfl 3 rfl a 0 c ⟨c.val - 3, by omega⟩ (by show 3 + (c.val - 3) = c.val; omega)).trans ?_
    refine (take_at (by decide) 289#32 288#32 (by decide) _ (col1_lt _ _ ok.time) _ _ _ _ _ _ _ _ _ _ _ _ rfl a 0 ⟨c.val - 3, by omega⟩).trans ?_
    exact congrArg (V (rarr main_arg15)) (ix2_at _ _ (congrArg BitVec.toNat (col1 _ _ a 0)) rfl)
  · rw [if_neg h8]
    refine (piece3 _ _ 2 (by show 2 < 3; decide) _ rfl 8 rfl a 0 c ⟨c.val - 8, by omega⟩ (by show 8 + (c.val - 8) = c.val; omega)).trans ?_
    refine (take_at (by decide) 200141#32 200140#32 (by decide) _ (col1_lt _ _ ok.drv) _ _ _ _ _ _ _ _ _ _ _ _ rfl a 0 ⟨c.val - 8, by omega⟩).trans ?_
    exact congrArg (V (rarr main_arg16)) (ix2_at _ _ (congrArg BitVec.toNat (col1 _ _ a 0)) rfl)

/-- A column read as an array of one column. -/
theorem column {α : Type} (x : S1024x50.Idx → α) (a : Fin 1024) (b : Fin 50) (z : Fin 1) :
    broadcastInDim S1024x50x1 ![0, 1] bcast_S1024x50_S1024x50x1_0_1 x (ix3 a b z) = x (at2 a.val b.val) := by
  refine (broadcastInDim_apply _ _ _ _ (ix2 a b : S1024x50.Idx) ?_).trans (congrArg x (ix2_at a b rfl rfl))
  intro q
  match q with
  | 0 => rfl
  | 1 => rfl

/-- The second result. -/
theorem ref_sgo (ok : RefOK V) :
    val1 V (rarr main_v17)
      = segOf (V (rarr main_arg3)) (V (rarr main_arg4)) (V (rarr main_arg5)) (V (rarr main_arg6)) (V (rarr main_arg7)) (V (rarr main_arg17))
        (V (rarr main_arg18)) (V (rarr main_arg19)) (V (rarr main_arg20)) (V (rarr main_arg21))
        (V (rarr main_arg8)) (V (rarr main_arg9)) (V (rarr main_arg10)) (V (rarr main_arg11)) := by
  refine (val1_main_v17 V).trans (funext fun j => ?_)
  obtain ⟨a, b, c, rfl⟩ : ∃ (a : Fin 1024) (b : Fin 50) (c : Fin 28), j = ix3 a b c := ⟨j 0, j 1, j 2, eq_ix3 j⟩
  show _ = if c.val < 16 then V (rarr main_arg17) (at2 (V (rarr main_arg3) (at2 a.val b.val) : BitVec 32).toNat c.val)
    else if c.val < 24 then tinyOf (V (rarr main_arg4) (at2 a.val b.val) : BitVec 32).toNat (V (rarr main_arg5) (at2 a.val b.val) : BitVec 32).toNat
      (V (rarr main_arg6) (at2 a.val b.val) : BitVec 32).toNat (V (rarr main_arg7) (at2 a.val b.val) : BitVec 32).toNat
      (V (rarr main_arg18)) (V (rarr main_arg19)) (V (rarr main_arg20)) (V (rarr main_arg21)) (c.val - 16)
    else if c.val = 24 then V (rarr main_arg8) (at2 a.val b.val) else if c.val = 25 then V (rarr main_arg9) (at2 a.val b.val)
    else if c.val = 26 then V (rarr main_arg10) (at2 a.val b.val) else V (rarr main_arg11) (at2 a.val b.val)
  have e : (ix2 a b : S1024x50.Idx) = at2 a.val b.val := ix2_at a b rfl rfl
  have := c.isLt
  unfold res_main_v17
  by_cases h : c.val < 16
  · rw [if_pos h]
    refine (piece3 (W := 16) _ _ 0 (by show 0 < 9; decide) _ rfl 0 rfl a b c ⟨c.val, by omega⟩ (Nat.zero_add _)).trans ?_
    refine (take_at (by decide) 1376567#32 1376566#32 (by decide) _ ok.seg _ _ _ _ _ _ _ _ _ _ _ _ rfl a b ⟨c.val, by omega⟩).trans ?_
    exact congrArg (V (rarr main_arg17)) (ix2_at _ _ (congrArg (fun i => (V (rarr main_arg3) i : BitVec 32).toNat) e) rfl)
  rw [if_neg h]
  by_cases h : c.val < 24
  · rw [if_pos h]
    unfold tinyOf
    by_cases h : c.val - 16 < 2
    · rw [if_pos h]
      refine (piece3 (W := 2) _ _ 1 (by show 1 < 9; decide) _ rfl 16 rfl a b c ⟨c.val - 16, by omega⟩ (by show 16 + (c.val - 16) = c.val; omega)).trans ?_
      refine (take_at (by decide) 9#32 8#32 (by decide) _ ok.level _ _ _ _ _ _ _ _ _ _ _ _ rfl a b ⟨c.val - 16, by omega⟩).trans ?_
      exact congrArg (V (rarr main_arg18)) (ix2_at _ _ (congrArg (fun i => (V (rarr main_arg4) i : BitVec 32).toNat) e) rfl)
    rw [if_neg h]
    by_cases h : c.val - 16 < 4
    · rw [if_pos h]
      refine (piece3 (W := 2) _ _ 2 (by show 2 < 9; decide) _ rfl 18 rfl a b c ⟨c.val - 18, by omega⟩ (by show 18 + (c.val - 18) = c.val; omega)).trans ?_
      refine (take_at (by decide) 6#32 5#32 (by decide) _ ok.state _ _ _ _ _ _ _ _ _ _ _ _ rfl a b ⟨c.val - 18, by omega⟩).trans ?_
      exact congrArg (V (rarr main_arg19)) (ix2_at _ _ (congrArg (fun i => (V (rarr main_arg5) i : BitVec 32).toNat) e) (by show c.val - 18 = c.val - 16 - 2; omega))
    rw [if_neg h]
    by_cases h : c.val - 16 < 6
    · rw [if_pos h]
      refine (piece3 (W := 2) _ _ 3 (by show 3 < 9; decide) _ rfl 20 rfl a b c ⟨c.val - 20, by omega⟩ (by show 20 + (c.val - 20) = c.val; omega)).trans ?_
      refine (take_at (by decide) 7#32 6#32 (by decide) _ ok.lane _ _ _ _ _ _ _ _ _ _ _ _ rfl a b ⟨c.val - 20, by omega⟩).trans ?_
      exact congrArg (V (rarr main_arg20)) (ix2_at _ _ (congrArg (fun i => (V (rarr main_arg6) i : BitVec 32).toNat) e) (by show c.val - 20 = c.val - 16 - 4; omega))
    rw [if_neg h]
    refine (piece3 (W := 2) _ _ 4 (by show 4 < 9; decide) _ rfl 22 rfl a b c ⟨c.val - 22, by omega⟩ (by show 22 + (c.val - 22) = c.val; omega)).trans ?_
    refine (take_at (by decide) 8#32 7#32 (by decide) _ ok.road _ _ _ _ _ _ _ _ _ _ _ _ rfl a b ⟨c.val - 22, by omega⟩).trans ?_
    exact congrArg (V (rarr main_arg21)) (ix2_at _ _ (congrArg (fun i => (V (rarr main_arg7) i : BitVec 32).toNat) e) (by show c.val - 22 = c.val - 16 - 6; omega))
  rw [if_neg h]
  by_cases h : c.val = 24
  · rw [if_pos h]
    exact (piece3 (W := 1) _ _ 5 (by show 5 < 9; decide) _ rfl 24 rfl a b c 0 (by show 24 + 0 = c.val; omega)).trans (column _ a b 0)
  rw [if_neg h]
  by_cases h : c.val = 25
  · rw [if_pos h]
    exact (piece3 (W := 1) _ _ 6 (by show 6 < 9; decide) _ rfl 25 rfl a b c 0 (by show 25 + 0 = c.val; omega)).trans (column _ a b 0)
  rw [if_neg h]
  by_cases h : c.val = 26
  · rw [if_pos h]
    exact (piece3 (W := 1) _ _ 7 (by show 7 < 9; decide) _ rfl 26 rfl a b c 0 (by show 26 + 0 = c.val; omega)).trans (column _ a b 0)
  rw [if_neg h]
  exact (piece3 (W := 1) _ _ 8 (by show 8 < 9; decide) _ rfl 27 rfl a b c 0 (by show 27 + 0 = c.val; omega)).trans (column _ a b 0)

end Cert.Proof.Val

end
-- ==== Proof.Algebraic.lean ====
/- The kernel and the reference, over the reals, from memories agreeing on the arguments, end with the same results. -/
module

public import proofs.«01_k».proof.Defs
public import proofs.«01_k».proof.Proof.KerVal
public import proofs.«01_k».proof.Proof.RefVal
public import proofs.«01_k».proof.Proof.Frames

@[expose] public section

noncomputable section

namespace Cert.Proof

open Cert.Proof.Tile Cert.Proof.Host Cert.Proof.Launch Cert.Proof.Val
open Idealize.ShloMosaic Idealize.ShloMosaic.StableHlo Idealize.SL.Sem

/-- The arrays of the kernel's program. -/
abbrev KV : Type := Valuation Cert.KernelIdeal.τ Cert.KernelIdeal.sig (Elt Ideal)
/-- The arrays of the reference. -/
abbrev RV : Type := Valuation Cert.ReferenceIdeal.τ Cert.ReferenceIdeal.sig (Elt Ideal)

/-- The first result of arguments `V`. -/
def extV (V : KV) : Cert.KernelIdeal.S1024x24.Idx → EReal :=
  extOf (α := EReal) (V (arr Cert.KernelIdeal.main_arg0)) (V (arr Cert.KernelIdeal.main_arg1)) (V (arr Cert.KernelIdeal.main_arg2)) (V (arr Cert.KernelIdeal.main_arg14)) (V (arr Cert.KernelIdeal.main_arg15)) (V (arr Cert.KernelIdeal.main_arg16))
/-- The second. -/
def segV (V : KV) : Cert.KernelIdeal.S1024x50x28.Idx → EReal :=
  segOf (α := EReal) (V (arr Cert.KernelIdeal.main_arg3)) (V (arr Cert.KernelIdeal.main_arg4)) (V (arr Cert.KernelIdeal.main_arg5)) (V (arr Cert.KernelIdeal.main_arg6)) (V (arr Cert.KernelIdeal.main_arg7)) (V (arr Cert.KernelIdeal.main_arg17)) (V (arr Cert.KernelIdeal.main_arg18)) (V (arr Cert.KernelIdeal.main_arg19)) (V (arr Cert.KernelIdeal.main_arg20)) (V (arr Cert.KernelIdeal.main_arg21)) (V (arr Cert.KernelIdeal.main_arg8)) (V (arr Cert.KernelIdeal.main_arg9)) (V (arr Cert.KernelIdeal.main_arg10)) (V (arr Cert.KernelIdeal.main_arg11))
/-- The third. -/
def linkV (V : KV) : Cert.KernelIdeal.S1024x49x16.Idx → EReal :=
  linkOf (α := EReal) (V (arr Cert.KernelIdeal.main_arg12)) (V (arr Cert.KernelIdeal.main_arg22)) (V (arr Cert.KernelIdeal.main_arg13))

/-- The two programs' arguments agree. -/
def Agree (V : KV) (V' : RV) : Prop :=
  V' (rarr Cert.ReferenceIdeal.main_arg0) = V (arr Cert.KernelIdeal.main_arg0)
    ∧ V' (rarr Cert.ReferenceIdeal.main_arg1) = V (arr Cert.KernelIdeal.main_arg1)
    ∧ V' (rarr Cert.ReferenceIdeal.main_arg2) = V (arr Cert.KernelIdeal.main_arg2)
    ∧ V' (rarr Cert.ReferenceIdeal.main_arg3) = V (arr Cert.KernelIdeal.main_arg3)
    ∧ V' (rarr Cert.ReferenceIdeal.main_arg4) = V (arr Cert.KernelIdeal.main_arg4)
    ∧ V' (rarr Cert.ReferenceIdeal.main_arg5) = V (arr Cert.KernelIdeal.main_arg5)
    ∧ V' (rarr Cert.ReferenceIdeal.main_arg6) = V (arr Cert.KernelIdeal.main_arg6)
    ∧ V' (rarr Cert.ReferenceIdeal.main_arg7) = V (arr Cert.KernelIdeal.main_arg7)
    ∧ V' (rarr Cert.ReferenceIdeal.main_arg8) = V (arr Cert.KernelIdeal.main_arg8)
    ∧ V' (rarr Cert.ReferenceIdeal.main_arg9) = V (arr Cert.KernelIdeal.main_arg9)
    ∧ V' (rarr Cert.ReferenceIdeal.main_arg10) = V (arr Cert.KernelIdeal.main_arg10)
    ∧ V' (rarr Cert.ReferenceIdeal.main_arg11) = V (arr Cert.KernelIdeal.main_arg11)
    ∧ V' (rarr Cert.ReferenceIdeal.main_arg12) = V (arr Cert.KernelIdeal.main_arg12)
    ∧ V' (rarr Cert.ReferenceIdeal.main_arg13) = V (arr Cert.KernelIdeal.main_arg13)
    ∧ V' (rarr Cert.ReferenceIdeal.main_arg14) = V (arr Cert.KernelIdeal.main_arg14)
    ∧ V' (rarr Cert.ReferenceIdeal.main_arg15) = V (arr Cert.KernelIdeal.main_arg15)
    ∧ V' (rarr Cert.ReferenceIdeal.main_arg16) = V (arr Cert.KernelIdeal.main_arg16)
    ∧ V' (rarr Cert.ReferenceIdeal.main_arg17) = V (arr Cert.KernelIdeal.main_arg17)
    ∧ V' (rarr Cert.ReferenceIdeal.main_arg18) = V (arr Cert.KernelIdeal.main_arg18)
    ∧ V' (rarr Cert.ReferenceIdeal.main_arg19) = V (arr Cert.KernelIdeal.main_arg19)
    ∧ V' (rarr Cert.ReferenceIdeal.main_arg20) = V (arr Cert.KernelIdeal.main_arg20)
    ∧ V' (rarr Cert.ReferenceIdeal.main_arg21) = V (arr Cert.KernelIdeal.main_arg21)
    ∧ V' (rarr Cert.ReferenceIdeal.main_arg22) = V (arr Cert.KernelIdeal.main_arg22)

variable {V : KV} {V' : RV}

/-- Then the reference's numbers are in range when the kernel's are. -/
theorem ref_ok (h : Agree V V') (ok : ArgsOK V) : RefOK V' := by
  obtain ⟨e0, e1, e2, e3, e4, e5, e6, e7, e8, e9, e10, e11, e12, e13, e14, e15, e16, e17, e18, e19, e20, e21, e22⟩ := h
  exact {
    week := fun i => lt_of_eq_of_lt (congrArg (fun x : Cert.KernelIdeal.S1024.Idx → BitVec 32 => (x i).toNat) e0) (ok.week i)
    time := fun i => lt_of_eq_of_lt (congrArg (fun x : Cert.KernelIdeal.S1024.Idx → BitVec 32 => (x i).toNat) e1) (ok.time i)
    drv := fun i => lt_of_eq_of_lt (congrArg (fun x : Cert.KernelIdeal.S1024.Idx → BitVec 32 => (x i).toNat) e2) (ok.drv i)
    seg := fun i => lt_of_eq_of_lt (congrArg (fun x : Cert.KernelIdeal.S1024x50.Idx → BitVec 32 => (x i).toNat) e3) (ok.seg i)
    level := fun i => lt_of_eq_of_lt (congrArg (fun x : Cert.KernelIdeal.S1024x50.Idx → BitVec 32 => (x i).toNat) e4) (ok.level i)
    state := fun i => lt_of_eq_of_lt (congrArg (fun x : Cert.KernelIdeal.S1024x50.Idx → BitVec 32 => (x i).toNat) e5) (ok.state i)
    lane := fun i => lt_of_eq_of_lt (congrArg (fun x : Cert.KernelIdeal.S1024x50.Idx → BitVec 32 => (x i).toNat) e6) (ok.lane i)
    road := fun i => lt_of_eq_of_lt (congrArg (fun x : Cert.KernelIdeal.S1024x50.Idx → BitVec 32 => (x i).toNat) e7) (ok.road i)
    cross := fun i => lt_of_eq_of_lt (congrArg (fun x : Cert.KernelIdeal.S1024x49.Idx → BitVec 32 => (x i).toNat) e12) (ok.cross i) }

/-- And the reference's results are those of the kernel's arguments. -/
theorem ref_vals (h : Agree V V') (ok : ArgsOK V) :
    Cert.ReferenceIdeal.Value.val1 V' (rarr Cert.ReferenceIdeal.main_v7) = extV V
      ∧ Cert.ReferenceIdeal.Value.val1 V' (rarr Cert.ReferenceIdeal.main_v17) = segV V
      ∧ Cert.ReferenceIdeal.Value.val1 V' (rarr Cert.ReferenceIdeal.main_v20) = linkV V := by
  have rok := ref_ok h ok
  obtain ⟨e0, e1, e2, e3, e4, e5, e6, e7, e8, e9, e10, e11, e12, e13, e14, e15, e16, e17, e18, e19, e20, e21, e22⟩ := h
  refine ⟨(ref_ext rok).trans ?_, (ref_sgo rok).trans ?_, (ref_lnk rok).trans ?_⟩
  · rw [e0, e1, e2, e14, e15, e16]; rfl
  · rw [e3, e4, e5, e6, e7, e17, e18, e19, e20, e21, e8, e9, e10, e11]; rfl
  · rw [e12, e22, e13]; rfl

/-- The kernel's results at the end of a run. -/
theorem ker_vals {m : (ℓ : Loc Cert.KernelIdeal.nD Cert.KernelIdeal.τ Cert.KernelIdeal.sig) → Buf (Elt Ideal) ℓ}
    {r : PUnit × MemSt Cert.KernelIdeal.nD Cert.KernelIdeal.τ Cert.KernelIdeal.sig (Elt Ideal)} (h : QC m r) (c : Dev Cert.KernelIdeal.nD) (ok : ArgsOK (V0 m c)) :
    r.2.mem ((c.tc : Thread Cert.KernelIdeal.nD Cert.KernelIdeal.τ).loc Cert.KernelIdeal.main_v57_0) = extV (V0 m c)
      ∧ r.2.mem ((c.tc : Thread Cert.KernelIdeal.nD Cert.KernelIdeal.τ).loc Cert.KernelIdeal.main_v58) = segV (V0 m c)
      ∧ r.2.mem ((c.tc : Thread Cert.KernelIdeal.nD Cert.KernelIdeal.τ).loc Cert.KernelIdeal.main_v59) = linkV (V0 m c) :=
  ⟨(h.1 c Cert.KernelIdeal.main_v57_0).trans ((fin_v57 _).trans (ext_eq ok)),
    (h.1 c Cert.KernelIdeal.main_v58).trans ((fin_v58 _).trans (sgo_eq ok)),
    (h.1 c Cert.KernelIdeal.main_v59).trans ((fin_v59 _).trans lnk_eq)⟩

set_option maxHeartbeats 4000000 in
/-- Over the reals, from memories agreeing on arguments in range, both programs run to their ends with equal results and
their arguments unchanged. -/
theorem algebraic [Cert.Pre_ids_in_range.Facts] : Cert.algebraic_KernelIdeal_ReferenceIdeal := by
  intro m g m' g' hpre hagree
  have ha : ∀ c, Agree (V0 m c) (launchContents m' c) := fun c => hagree c
  have ok : ∀ c, ArgsOK (V0 m c) := fun c => ok_ideal hpre c
  refine ⟨fun c => extV (V0 m c), fun c => segV (V0 m c), fun c => linkV (V0 m c), ?_, ?_⟩
  · refine (θ_run Cert.KernelIdeal.defs _ _).mono (fun r h c => ?_) (run_main (F := Ideal) m g (fun d => inRange_of_args (ok d)))
    have k := ker_vals h c (ok c)
    exact ⟨k.1, k.2.1, k.2.2, end_args h c⟩
  · refine (θ_run Cert.ReferenceIdeal.defs _ _).mono (fun r h c => ?_) (Cert.ReferenceIdeal.Value.run (F := Ideal) m' g')
    have k := ref_vals (ha c) (ok c)
    obtain ⟨h0, h1, h2, h3⟩ := h c
    exact ⟨h0.trans ((Cert.ReferenceIdeal.Value.val1_main_v7 _).symm.trans k.1), h1.trans ((Cert.ReferenceIdeal.Value.val1_main_v17 _).symm.trans k.2.1),
      h2.trans ((Cert.ReferenceIdeal.Value.val1_main_v20 _).symm.trans k.2.2), h3⟩

end Cert.Proof

end
-- ==== Proof.lean ====
/- The claims about the program, assembled. -/
module

public import proofs.«01_k».proof.Defs
public import proofs.«01_k».proof.Proof.Frames
public import proofs.«01_k».proof.Proof.Algebraic

@[expose] public section

noncomputable section

namespace Cert.Proof

/-- Every claim. -/
theorem claim : Cert.Claim :=
  ⟨Cert.Kernel.Gen.facts, Cert.KernelIdeal.Gen.facts, Cert.ReferenceIdeal.Gen.facts, pre_facts,
    @frame_kernel pre_facts, @frame_ideal pre_facts, frame_reference, @frame_reference_pre pre_facts, trivial,
    @algebraic pre_facts⟩

end Cert.Proof

end
